-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S7168x18944 : Shape := ⟨2, ![7168, 18944]⟩
abbrev S256x18944 : Shape := ⟨2, ![256, 18944]⟩
abbrev S7168x256 : Shape := ⟨2, ![7168, 256]⟩
abbrev S256x256 : Shape := ⟨2, ![256, 256]⟩
abbrev S_ : Shape := ⟨0, ![]⟩

class Facts : Prop where
  bitsLt_bf16_f32 : FTy.bits .bf16 < FTy.bits .f32
  bcast_S_S7168x18944 : S_.BroadcastsInDim S7168x18944 (![] : Fin 0 → Fin S7168x18944.rank)
  bcast_S_S256x256 : S_.BroadcastsInDim S256x256 (![] : Fin 0 → Fin S256x256.rank)

variable [Facts]

def fn {F : FTy → Type} [FloatOps F] (main_arg0 : FVec F S7168x18944 .bf16) (main_arg1 : IVec S7168x18944 8) (main_arg2 : FVec F S256x18944 .bf16) (main_arg3 : FVec F S256x18944 .bf16) (main_arg4 : FVec F S7168x256 .bf16) (main_arg5 : FVec F S256x256 .bf16) : IVec S7168x18944 1 × IVec S256x256 1 :=
  let main_v0 : FVec F S7168x18944 .f32 := (extf .f32 · bitsLt_bf16_f32) main_arg0
  let main_v1 : FVec F S7168x18944 .f32 := Host.absf main_v0
  let main_cst : FVec F S_ .f32 := constant S_ .f32 0x71800000#32
  let main_v2 : FVec F S7168x18944 .f32 := broadcastInDim S7168x18944 ![] bcast_S_S7168x18944 main_cst
  let main_v3 : IVec S7168x18944 1 := cmpf .ole main_v1 main_v2
  let main_v4 : FVec F S256x256 .f32 := (extf .f32 · bitsLt_bf16_f32) main_arg5
  let main_v5 : FVec F S256x256 .f32 := Host.absf main_v4
  let main_cst_0 : FVec F S_ .f32 := constant S_ .f32 0x3F800000#32
  let main_v6 : FVec F S256x256 .f32 := broadcastInDim S256x256 ![] bcast_S_S256x256 main_cst_0
  let main_v7 : IVec S256x256 1 := cmpf .ole main_v5 main_v6
  (main_v3, main_v7)
-- ==== Kernel.lean ====
abbrev S7168x18944 : Shape := ⟨2, ![7168, 18944]⟩
abbrev S256x18944 : Shape := ⟨2, ![256, 18944]⟩
abbrev S7168x256 : Shape := ⟨2, ![7168, 256]⟩
abbrev S256x256 : Shape := ⟨2, ![256, 256]⟩
abbrev S256x7168 : Shape := ⟨2, ![256, 7168]⟩
abbrev S7168x9472 : Shape := ⟨2, ![7168, 9472]⟩
abbrev S7168x592 : Shape := ⟨2, ![7168, 592]⟩
abbrev S512x512 : Shape := ⟨2, ![512, 512]⟩
abbrev S512x256 : Shape := ⟨2, ![512, 256]⟩
abbrev S256x512 : Shape := ⟨2, ![256, 512]⟩
abbrev S512x592 : Shape := ⟨2, ![512, 592]⟩
abbrev S8x72x128 : Shape := ⟨3, ![8, 72, 128]⟩
abbrev S8x24x128 : Shape := ⟨3, ![8, 24, 128]⟩
abbrev S37x16x512 : Shape := ⟨3, ![37, 16, 512]⟩
abbrev S64x256 : Shape := ⟨2, ![64, 256]⟩
abbrev S256x128 : Shape := ⟨2, ![256, 128]⟩
abbrev S64x128 : Shape := ⟨2, ![64, 128]⟩
abbrev S8x128 : Shape := ⟨2, ![8, 128]⟩
abbrev S1x72x128 : Shape := ⟨3, ![1, 72, 128]⟩
abbrev S72x128 : Shape := ⟨2, ![72, 128]⟩
abbrev S1x24x128 : Shape := ⟨3, ![1, 24, 128]⟩
abbrev S24x128 : Shape := ⟨2, ![24, 128]⟩
abbrev S1x128 : Shape := ⟨2, ![1, 128]⟩
abbrev S16x128 : Shape := ⟨2, ![16, 128]⟩
abbrev S32x128 : Shape := ⟨2, ![32, 128]⟩
abbrev S32x2x128 : Shape := ⟨3, ![32, 2, 128]⟩
abbrev S32x1x128 : Shape := ⟨3, ![32, 1, 128]⟩
abbrev S128x128 : Shape := ⟨2, ![128, 128]⟩
abbrev S1x8x128 : Shape := ⟨3, ![1, 8, 128]⟩
abbrev S128x256 : Shape := ⟨2, ![128, 256]⟩
abbrev S592x512 : Shape := ⟨2, ![592, 512]⟩

abbrev nBuf : Space → Nat
  | .hbm => 10
  | .vmem => 22
  | .smem => 0
  | _ => 0

abbrev bufTy : (tb : Table) → Fin (tcTables nBuf tb) → BufTy
  | .hbm, ⟨0, _⟩ => ⟨S7168x18944, .bf16⟩
  | .hbm, ⟨1, _⟩ => ⟨S7168x18944, .i8⟩
  | .hbm, ⟨2, _⟩ => ⟨S256x18944, .bf16⟩
  | .hbm, ⟨3, _⟩ => ⟨S256x18944, .bf16⟩
  | .hbm, ⟨4, _⟩ => ⟨S7168x256, .bf16⟩
  | .hbm, ⟨5, _⟩ => ⟨S256x256, .bf16⟩
  | .hbm, ⟨6, _⟩ => ⟨S256x7168, .bf16⟩
  | .hbm, ⟨7, _⟩ => ⟨S7168x18944, .f32⟩
  | .hbm, ⟨8, _⟩ => ⟨S7168x9472, .i8⟩
  | .hbm, ⟨9, _⟩ => ⟨S7168x592, .i8⟩
  | .local _ .vmem, ⟨0, _⟩ => ⟨S512x512, .bf16⟩
  | .local _ .vmem, ⟨1, _⟩ => ⟨S512x512, .bf16⟩
  | .local _ .vmem, ⟨2, _⟩ => ⟨S512x512, .i8⟩
  | .local _ .vmem, ⟨3, _⟩ => ⟨S512x512, .i8⟩
  | .local _ .vmem, ⟨4, _⟩ => ⟨S256x18944, .bf16⟩
  | .local _ .vmem, ⟨5, _⟩ => ⟨S256x18944, .bf16⟩
  | .local _ .vmem, ⟨6, _⟩ => ⟨S512x256, .bf16⟩
  | .local _ .vmem, ⟨7, _⟩ => ⟨S512x256, .bf16⟩
  | .local _ .vmem, ⟨8, _⟩ => ⟨S256x256, .bf16⟩
  | .local _ .vmem, ⟨9, _⟩ => ⟨S256x512, .bf16⟩
  | .local _ .vmem, ⟨10, _⟩ => ⟨S256x512, .bf16⟩
  | .local _ .vmem, ⟨11, _⟩ => ⟨S512x512, .f32⟩
  | .local _ .vmem, ⟨12, _⟩ => ⟨S512x512, .f32⟩
  | .local _ .vmem, ⟨13, _⟩ => ⟨S512x256, .i8⟩
  | .local _ .vmem, ⟨14, _⟩ => ⟨S512x256, .i8⟩
  | .local _ .vmem, ⟨15, _⟩ => ⟨S512x592, .i8⟩
  | .local _ .vmem, ⟨16, _⟩ => ⟨S512x592, .i8⟩
  | .local _ .vmem, ⟨17, _⟩ => ⟨S256x512, .f32⟩
  | .local _ .vmem, ⟨18, _⟩ => ⟨S512x512, .bf16⟩
  | .local _ .vmem, ⟨19, _⟩ => ⟨S8x72x128, .f32⟩
  | .local _ .vmem, ⟨20, _⟩ => ⟨S8x24x128, .i32⟩
  | .local _ .vmem, ⟨21, _⟩ => ⟨S37x16x512, .i32⟩
  | _, _ => ⟨S7168x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![14, 37], ![false, false]⟩

def k0_mult1 (i : grid0.Coords) : BitVec 32 :=
  let arg1 : BitVec 32 := BitVec.ofNat 32 (i 1).val
  let c512_i32 : BitVec 32 := 512#32
  let v1 : BitVec 32 := Scalar.muli arg1 c512_i32
  v1
def k0_off1 (i : grid0.Coords) : Fin 3 → Nat :=
  let arg1 : BitVec 32 := BitVec.ofNat 32 (i 1).val
  let v1528 : Index := Scalar.indexCast arg1
  let c0_527 : Index := 0#32
  let c0_528 : Index := 0#32
  ![v1528.toNat, 0, 0]
def k0_off2 (i : grid0.Coords) : Fin 3 → Nat :=
  let arg1 : BitVec 32 := BitVec.ofNat 32 (i 1).val
  let v3049 : Index := Scalar.indexCast arg1
  let c0_1102 : Index := 0#32
  let c128_1103 : Index := 128#32
  ![v3049.toNat, 0, 128]
def k0_off3 (i : grid0.Coords) (c0_i32_1108 : BitVec 32) : Fin 2 → Nat :=
  let c0_1109 : Index := 0#32
  let arg1 : BitVec 32 := BitVec.ofNat 32 (i 1).val
  let c512_i32 : BitVec 32 := 512#32
  let v1 : BitVec 32 := Scalar.muli arg1 c512_i32
  let v2 : BitVec 32 := v1
  let v3057 : BitVec 32 := Scalar.addi v2 c0_i32_1108
  let v3058 : Index := Scalar.indexCast v3057
  ![0, v3058.toNat]
def k0_off4 (i : grid0.Coords) : Fin 3 → Nat :=
  let arg1 : BitVec 32 := BitVec.ofNat 32 (i 1).val
  let v4586 : Index := Scalar.indexCast arg1
  let c0_1692 : Index := 0#32
  let c256_1693 : Index := 256#32
  ![v4586.toNat, 0, 256]
def k0_off5 (i : grid0.Coords) : Fin 3 → Nat :=
  let arg1 : BitVec 32 := BitVec.ofNat 32 (i 1).val
  let v6107 : Index := Scalar.indexCast arg1
  let c0_2266 : Index := 0#32
  let c384_2267 : Index := 384#32
  ![v6107.toNat, 0, 384]
def k0_off6 (i : grid0.Coords) : Fin 3 → Nat :=
  let arg1 : BitVec 32 := BitVec.ofNat 32 (i 1).val
  let v7644 : Index := Scalar.indexCast arg1
  let c8_2857 : Index := 8#32
  let c0_2858 : Index := 0#32
  ![v7644.toNat, 8, 0]
def k0_off7 (i : grid0.Coords) : Fin 3 → Nat :=
  let arg1 : BitVec 32 := BitVec.ofNat 32 (i 1).val
  let v9165 : Index := Scalar.indexCast arg1
  let c8_3432 : Index := 8#32
  let c128_3433 : Index := 128#32
  ![v9165.toNat, 8, 128]
def k0_off8 (i : grid0.Coords) : Fin 3 → Nat :=
  let arg1 : BitVec 32 := BitVec.ofNat 32 (i 1).val
  let v10702 : Index := Scalar.indexCast arg1
  let c8_4022 : Index := 8#32
  let c256_4023 : Index := 256#32
  ![v10702.toNat, 8, 256]
def k0_off9 (i : grid0.Coords) : Fin 3 → Nat :=
  let arg1 : BitVec 32 := BitVec.ofNat 32 (i 1).val
  let v12223 : Index := Scalar.indexCast arg1
  let c8_4598 : Index := 8#32
  let c384_4599 : Index := 384#32
  ![v12223.toNat, 8, 384]
def k0_off10 (i : grid0.Coords) : Fin 2 → Nat :=
  let c0_4612 : Index := 0#32
  let arg1 : BitVec 32 := BitVec.ofNat 32 (i 1).val
  let c512_i32 : BitVec 32 := 512#32
  let v1 : BitVec 32 := Scalar.muli arg1 c512_i32
  let v2 : BitVec 32 := v1
  let v12239 : Index := Scalar.indexCast v2
  ![0, v12239.toNat]
def k0_cond2 (i : grid0.Coords) : BitVec 1 :=
  let arg1 : BitVec 32 := BitVec.ofNat 32 (i 1).val
  let c36_i32 : BitVec 32 := 36#32
  let v12247 : BitVec 1 := Scalar.cmpi .eq arg1 c36_i32
  let v12248 : BitVec 32 := Scalar.extui v12247
  let c0_i32_4618 : BitVec 32 := 0#32
  let v12249 : BitVec 1 := Scalar.cmpi .ne v12248 c0_i32_4618
  v12249

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x18944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x18944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x592 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S7168x18944 : Shape := ⟨2, ![7168, 18944]⟩
abbrev S256x18944 : Shape := ⟨2, ![256, 18944]⟩
abbrev S7168x256 : Shape := ⟨2, ![7168, 256]⟩
abbrev S256x256 : Shape := ⟨2, ![256, 256]⟩
abbrev S254 : Shape := ⟨1, ![254]⟩
abbrev S7168x74x256 : Shape := ⟨3, ![7168, 74, 256]⟩
abbrev S7168x74x8x4x8 : Shape := ⟨5, ![7168, 74, 8, 4, 8]⟩
abbrev S7168x74x8x8x4 : Shape := ⟨5, ![7168, 74, 8, 8, 4]⟩
abbrev S7168x592x32 : Shape := ⟨3, ![7168, 592, 32]⟩
abbrev S_ : Shape := ⟨0, ![]⟩
abbrev S7168x592 : Shape := ⟨2, ![7168, 592]⟩
abbrev S7168x592x1 : Shape := ⟨3, ![7168, 592, 1]⟩
abbrev S1x1x254 : Shape := ⟨3, ![1, 1, 254]⟩
abbrev S7168x592x254 : Shape := ⟨3, ![7168, 592, 254]⟩
abbrev S256x7168 : Shape := ⟨2, ![256, 7168]⟩
abbrev S2x64x2x7168 : Shape := ⟨4, ![2, 64, 2, 7168]⟩
abbrev S2x64x2x18944 : Shape := ⟨4, ![2, 64, 2, 18944]⟩
abbrev S2x64x1x7168 : Shape := ⟨4, ![2, 64, 1, 7168]⟩
abbrev S2x64x7168 : Shape := ⟨3, ![2, 64, 7168]⟩
abbrev S2x64x1x18944 : Shape := ⟨4, ![2, 64, 1, 18944]⟩
abbrev S2x64x18944 : Shape := ⟨3, ![2, 64, 18944]⟩

abbrev nBuf : Space → Nat
  | .hbm => 101
  | .vmem => 0
  | .smem => 0
  | _ => 0

abbrev bufTy : (tb : Table) → Fin (tcTables nBuf tb) → BufTy
  | .hbm, ⟨0, _⟩ => ⟨S7168x18944, .bf16⟩
  | .hbm, ⟨1, _⟩ => ⟨S7168x18944, .i8⟩
  | .hbm, ⟨2, _⟩ => ⟨S256x18944, .bf16⟩
  | .hbm, ⟨3, _⟩ => ⟨S256x18944, .bf16⟩
  | .hbm, ⟨4, _⟩ => ⟨S7168x256, .bf16⟩
  | .hbm, ⟨5, _⟩ => ⟨S256x256, .bf16⟩
  | .hbm, ⟨6, _⟩ => ⟨S254, .f32⟩
  | .hbm, ⟨7, _⟩ => ⟨S7168x74x256, .bf16⟩
  | .hbm, ⟨8, _⟩ => ⟨S7168x74x256, .f32⟩
  | .hbm, ⟨9, _⟩ => ⟨S7168x74x8x4x8, .f32⟩
  | .hbm, ⟨10, _⟩ => ⟨S7168x74x8x8x4, .f32⟩
  | .hbm, ⟨11, _⟩ => ⟨S7168x592x32, .f32⟩
  | .hbm, ⟨12, _⟩ => ⟨S7168x592x32, .f32⟩
  | .hbm, ⟨13, _⟩ => ⟨S_, .f32⟩
  | .hbm, ⟨14, _⟩ => ⟨S7168x592, .f32⟩
  | .hbm, ⟨15, _⟩ => ⟨S7168x592x1, .f32⟩
  | .hbm, ⟨16, _⟩ => ⟨S_, .f32⟩
  | .hbm, ⟨17, _⟩ => ⟨S7168x592x1, .f32⟩
  | .hbm, ⟨18, _⟩ => ⟨S7168x592x1, .f32⟩
  | .hbm, ⟨19, _⟩ => ⟨S1x1x254, .f32⟩
  | .hbm, ⟨20, _⟩ => ⟨S7168x592x254, .f32⟩
  | .hbm, ⟨21, _⟩ => ⟨S7168x592x254, .f32⟩
  | .hbm, ⟨22, _⟩ => ⟨S7168x592x254, .i1⟩
  | .hbm, ⟨23, _⟩ => ⟨S_, .f32⟩
  | .hbm, ⟨24, _⟩ => ⟨S_, .f32⟩
  | .hbm, ⟨25, _⟩ => ⟨S7168x592x254, .f32⟩
  | .hbm, ⟨26, _⟩ => ⟨S7168x592x254, .f32⟩
  | .hbm, ⟨27, _⟩ => ⟨S7168x592x254, .f32⟩
  | .hbm, ⟨28, _⟩ => ⟨S_, .f32⟩
  | .hbm, ⟨29, _⟩ => ⟨S7168x592, .f32⟩
  | .hbm, ⟨30, _⟩ => ⟨S7168x592x1, .f32⟩
  | .hbm, ⟨31, _⟩ => ⟨S7168x592x32, .f32⟩
  | .hbm, ⟨32, _⟩ => ⟨S7168x592x32, .f32⟩
  | .hbm, ⟨33, _⟩ => ⟨S7168x592x32, .f32⟩
  | .hbm, ⟨34, _⟩ => ⟨S_, .f32⟩
  | .hbm, ⟨35, _⟩ => ⟨S7168x592x32, .f32⟩
  | .hbm, ⟨36, _⟩ => ⟨S7168x592x32, .i1⟩
  | .hbm, ⟨37, _⟩ => ⟨S_, .f32⟩
  | .hbm, ⟨38, _⟩ => ⟨S7168x592x32, .f32⟩
  | .hbm, ⟨39, _⟩ => ⟨S7168x592x32, .i1⟩
  | .hbm, ⟨40, _⟩ => ⟨S_, .f32⟩
  | .hbm, ⟨41, _⟩ => ⟨S_, .f32⟩
  | .hbm, ⟨42, _⟩ => ⟨S7168x592x32, .f32⟩
  | .hbm, ⟨43, _⟩ => ⟨S7168x592x32, .f32⟩
  | .hbm, ⟨44, _⟩ => ⟨S7168x592x32, .f32⟩
  | .hbm, ⟨45, _⟩ => ⟨S_, .f32⟩
  | .hbm, ⟨46, _⟩ => ⟨S7168x592x32, .f32⟩
  | .hbm, ⟨47, _⟩ => ⟨S7168x592x32, .f32⟩
  | .hbm, ⟨48, _⟩ => ⟨S7168x592x32, .f32⟩
  | .hbm, ⟨49, _⟩ => ⟨S7168x592x32, .f32⟩
  | .hbm, ⟨50, _⟩ => ⟨S7168x592x32, .f32⟩
  | .hbm, ⟨51, _⟩ => ⟨S7168x592x32, .f32⟩
  | .hbm, ⟨52, _⟩ => ⟨S7168x592x32, .f32⟩
  | .hbm, ⟨53, _⟩ => ⟨S7168x592x32, .f32⟩
  | .hbm, ⟨54, _⟩ => ⟨S7168x592x32, .f32⟩
  | .hbm, ⟨55, _⟩ => ⟨S7168x592x32, .f32⟩
  | .hbm, ⟨56, _⟩ => ⟨S7168x592x32, .i8⟩
  | .hbm, ⟨57, _⟩ => ⟨S7168x592x32, .i32⟩
  | .hbm, ⟨58, _⟩ => ⟨S7168x592x32, .f32⟩
  | .hbm, ⟨59, _⟩ => ⟨S_, .f32⟩
  | .hbm, ⟨60, _⟩ => ⟨S7168x592x32, .f32⟩
  | .hbm, ⟨61, _⟩ => ⟨S7168x592x32, .f32⟩
  | .hbm, ⟨62, _⟩ => ⟨S_, .f32⟩
  | .hbm, ⟨63, _⟩ => ⟨S7168x592x32, .f32⟩
  | .hbm, ⟨64, _⟩ => ⟨S7168x592x32, .f32⟩
  | .hbm, ⟨65, _⟩ => ⟨S7168x592x32, .i1⟩
  | .hbm, ⟨66, _⟩ => ⟨S7168x592x32, .f32⟩
  | .hbm, ⟨67, _⟩ => ⟨S7168x592x32, .f32⟩
  | .hbm, ⟨68, _⟩ => ⟨S7168x592x32, .f32⟩
  | .hbm, ⟨69, _⟩ => ⟨S_, .f32⟩
  | .hbm, ⟨70, _⟩ => ⟨S7168x592x32, .f32⟩
  | .hbm, ⟨71, _⟩ => ⟨S7168x592x32, .i1⟩
  | .hbm, ⟨72, _⟩ => ⟨S7168x592x32, .f32⟩
  | .hbm, ⟨73, _⟩ => ⟨S7168x592x32, .f32⟩
  | .hbm, ⟨74, _⟩ => ⟨S7168x592x32, .bf16⟩
  | .hbm, ⟨75, _⟩ => ⟨S7168x592x1, .bf16⟩
  | .hbm, ⟨76, _⟩ => ⟨S7168x592x32, .bf16⟩
  | .hbm, ⟨77, _⟩ => ⟨S7168x592x32, .bf16⟩
  | .hbm, ⟨78, _⟩ => ⟨S7168x18944, .bf16⟩
  | .hbm, ⟨79, _⟩ => ⟨S256x7168, .f32⟩
  | .hbm, ⟨80, _⟩ => ⟨S_, .f32⟩
  | .hbm, ⟨81, _⟩ => ⟨S256x7168, .f32⟩
  | .hbm, ⟨82, _⟩ => ⟨S256x7168, .f32⟩
  | .hbm, ⟨83, _⟩ => ⟨S256x7168, .bf16⟩
  | .hbm, ⟨84, _⟩ => ⟨S256x7168, .bf16⟩
  | .hbm, ⟨85, _⟩ => ⟨S2x64x2x7168, .bf16⟩
  | .hbm, ⟨86, _⟩ => ⟨S2x64x2x18944, .bf16⟩
  | .hbm, ⟨87, _⟩ => ⟨S2x64x1x7168, .bf16⟩
  | .hbm, ⟨88, _⟩ => ⟨S2x64x7168, .bf16⟩
  | .hbm, ⟨89, _⟩ => ⟨S2x64x1x7168, .bf16⟩
  | .hbm, ⟨90, _⟩ => ⟨S2x64x7168, .bf16⟩
  | .hbm, ⟨91, _⟩ => ⟨S2x64x1x18944, .bf16⟩
  | .hbm, ⟨92, _⟩ => ⟨S2x64x18944, .bf16⟩
  | .hbm, ⟨93, _⟩ => ⟨S2x64x1x18944, .bf16⟩
  | .hbm, ⟨94, _⟩ => ⟨S2x64x18944, .bf16⟩
  | .hbm, ⟨95, _⟩ => ⟨S7168x18944, .f32⟩
  | .hbm, ⟨96, _⟩ => ⟨S7168x18944, .f32⟩
  | .hbm, ⟨97, _⟩ => ⟨S7168x18944, .f32⟩
  | .hbm, ⟨98, _⟩ => ⟨S_, .f32⟩
  | .hbm, ⟨99, _⟩ => ⟨S7168x18944, .f32⟩
  | .hbm, ⟨100, _⟩ => ⟨S7168x18944, .f32⟩
  | _, _ => ⟨S7168x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_cst_7 : Ref sig .tc := ⟨.hbm, 41, rfl⟩
abbrev main_call1_v0 : Ref sig .tc := ⟨.hbm, 42, rfl⟩
abbrev main_call1_v1 : Ref sig .tc := ⟨.hbm, 43, rfl⟩
abbrev main_v24 : Ref sig .tc := ⟨.hbm, 44, rfl⟩
abbrev main_cst_8 : Ref sig .tc := ⟨.hbm, 45, rfl⟩
abbrev main_call2_v0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]
-- ==== Proof.Points.lean ====
/- The points of the grid, for the program read over the reals: at which points each of the body's two
   conditionals is taken, the staging buffers and the scratch buffers the body is called with. -/
module

public import proofs.«01_k».proof.Proof.Gen.KernelIdeal.Skeleton
public import proofs.«01_k».proof.Proof.Gen.KernelIdeal.Frame

@[expose] public section

-- the long axes of the staged arrays: an index into them is looked through coordinate by coordinate
set_option maxRecDepth 16384

noncomputable section

namespace Cert.KernelIdeal.Dw

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 37) — by arithmetic of the point. -/
theorem hcond0_0 : ∀ t : Fin cfg0.N, cond0_0 (grid0.coords t) ↔ t.val % 37 = 0 :=
  (fun t => by
    have ht : t.val < 518 := Nat.lt_of_lt_of_eq t.isLt N_0
    have e0 : (grid0.coords t 0).val = t.val / 37 % 14 := Pipeline.Grid.coords_val t 0 (by decide) rfl
    have e1 : (grid0.coords t 1).val = t.val / 1 % 37 := Pipeline.Grid.coords_val t 1 (by decide) rfl
    simp only [cond0_0, e0, e1]
    word_cmp
   : ∀ t : Fin grid0.N, cond0_0 (grid0.coords t) ↔ t.val % 37 = 0)

/-- The condition of the body's `scf.if` 1 (`k0_h2`), from the grid coordinates (the skeleton's scalar
    chain substituted). -/
abbrev cond0_1 (i : grid0.Coords) : Prop := k0_cond2 i = 1#1
/-- It holds at the points ≡ 36 (mod 37) — by arithmetic of the point. -/
theorem hcond0_1 : ∀ t : Fin cfg0.N, cond0_1 (grid0.coords t) ↔ t.val % 37 = 36 :=
  (fun t => by
    have ht : t.val < 518 := Nat.lt_of_lt_of_eq t.isLt N_0
    have e0 : (grid0.coords t 0).val = t.val / 37 % 14 := Pipeline.Grid.coords_val t 0 (by decide) rfl
    have e1 : (grid0.coords t 1).val = t.val / 1 % 37 := Pipeline.Grid.coords_val t 1 (by decide) rfl
    simp only [cond0_1, k0_cond2, e0, e1]
    word_cmp
   : ∀ t : Fin grid0.N, cond0_1 (grid0.coords t) ↔ t.val % 37 = 36)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x18944 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x18944 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x256 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x592 .i8 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S256x512 .f32 := Memref.whole cc0_scratch0
abbrev scM0_1 : Memref sig .tc .vmem S512x512 .bf16 := Memref.whole cc0_scratch1
abbrev scM0_2 : Memref sig .tc .vmem S8x72x128 .f32 := Memref.whole cc0_scratch2
abbrev scM0_3 : Memref sig .tc .vmem S8x24x128 .i32 := Memref.whole cc0_scratch3
abbrev scM0_4 : Memref sig .tc .vmem S37x16x512 .i32 := Memref.whole cc0_scratch4
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Dw

end
-- ==== Proof.Pieces.lean ====
/- The four tiles the body leaves in `dw`'s block, as pieces of stored values, and that they cover it. -/
module

public import proofs.«01_k».proof.Proof.Points
public import Idealize.ShloMosaic.Lib.Pipeline.ValueKit

@[expose] public section

-- the long axes of the staged arrays: an index into them is looked through coordinate by coordinate
set_option maxRecDepth 16384

noncomputable section

namespace Cert.KernelIdeal.Dw

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four pieces of 256 × 256 that the body leaves in `dw`'s 512 × 512 block, the last stored first: tile `(r, c)`
    is the product of rows `256 r ..` of the block of x's codes `x4` with columns `512 step + 256 c ..` of dy's codes
    `x3`, divided by 32. -/
def dwPieces (i : grid0.Coords) (x3 : Vec F S256x18944 .bf16) (x4 : Vec F S512x256 .bf16) : List (View.Piece (Elt F) S512x512 .f32) :=
  [⟨Rect.unit (s := S512x512) ![256, 256] S256x256.size inb_S512x512_S256x256_256_256,
      k0_pay2460 (View.ld x4 (Rect.unit (s := S512x256) ![256, 0] S256x256.size inb_S512x256_S256x256_256_0)) (View.ld x3 (Rect.unit (s := S256x18944) (k0_off3 i 256#32) S256x256.size (k0_off3_inb i 1)))⟩,
    ⟨Rect.unit (s := S512x512) ![0, 256] S256x256.size inb_S512x512_S256x256_0_256,
      k0_pay1845 (View.ld x4 (Rect.unit (s := S512x256) ![0, 0] S256x256.size inb_S512x256_S256x256_0_0)) (View.ld x3 (Rect.unit (s := S256x18944) (k0_off3 i 256#32) S256x256.size (k0_off3_inb i 1)))⟩,
    ⟨Rect.unit (s := S512x512) ![256, 0] S256x256.size inb_S512x512_S256x256_256_0,
      k0_pay1219 (View.ld x4 (Rect.unit (s := S512x256) ![256, 0] S256x256.size inb_S512x256_S256x256_256_0)) (View.ld x3 (Rect.unit (s := S256x18944) (k0_off3 i 0#32) S256x256.size (k0_off3_inb i 0)))⟩,
    ⟨Rect.unit (s := S512x512) ![0, 0] S256x256.size inb_S512x512_S256x256_0_0,
      k0_pay602 (k0_pay601 (View.ld x4 (Rect.unit (s := S512x256) ![0, 0] S256x256.size inb_S512x256_S256x256_0_0)) (View.ld x3 (Rect.unit (s := S256x18944) (k0_off3 i 0#32) S256x256.size (k0_off3_inb i 0))))⟩]

/-- The four pieces cover the block. -/
theorem dwPieces_cover (i : grid0.Coords) (x3 : Vec F S256x18944 .bf16) (x4 : Vec F S512x256 .bf16) (y : S512x512.Idx) :
    ∃ pc ∈ dwPieces i x3 x4, y ∈ pc.1.set :=
  View.cover_of_tiledL (dwPieces i x3 x4) S256x256.size (by sl_kernel_rfl) y

end Cert.KernelIdeal.Dw

end
-- ==== Proof.Value.lean ====
/- What `dw`'s array holds after the whole call, over the extended reals: the product of x's codes with dy's codes over
   the 256 tokens, divided by 32. -/
module

public import proofs.«01_k».proof.Proof.Pieces
public import Idealize.ShloMosaic.Lib.Pointwise

@[expose] public section

-- the long axes of the staged arrays: an index into them is looked through coordinate by coordinate
set_option maxRecDepth 16384

noncomputable section

namespace Cert.KernelIdeal.Dw

open Cert.KernelIdeal.Gen
open Idealize.ShloMosaic Idealize.ShloMosaic.TcCoe Idealize.ShloMosaic.Tactic

/-- 1/32 as the kernel and the reference write it: the number of the f32 word `0x3D000000`. -/
abbrev inv32 : EReal := (Scalar.ofBits .f32 0x3D000000#32 : Ideal .f32)

/-- The product `dw[d, f] = (∑ over the tokens k of xq[d, k] · tq[k, f]) / 32`. -/
def dwOf (xq : Vec Ideal S7168x256 .bf16) (tq : Vec Ideal S256x18944 .bf16) : Vec Ideal S7168x18944 .f32 :=
  fun j => (∑ k : Fin 256, xq (ix2 (j 0) k) * tq (ix2 k (j 1))) * inv32

/-- One tile's stored value at an index: the 256-token inner product, divided by 32. -/
theorem tile_apply (a b : FVec Ideal S256x256 .bf16) (x : S256x256.Idx) :
    mulf (matmul dot_S256x256_S256x256_S256x256_1_0_0_1_n_n none a b (constant S256x256 .f32 0x00000000#32 : FVec Ideal S256x256 .f32))
      (broadcast S256x256 (Scalar.ofBits .f32 0x3D000000#32 : Ideal .f32)) x
    = (∑ k : Fin 256, a (ix2 (x 0) k) * b (ix2 k (x 1))) * inv32 := by
  pointwise []
  done

/-- `dw`'s block at an index `y`: row `y 0` of the block of x's codes against column `512 step + y 1` of dy's codes. -/
theorem canon_apply (i : grid0.Coords) (x3 : Vec Ideal S256x18944 .bf16) (x4 : Vec Ideal S512x256 .bf16) (y : S512x512.Idx)
    (col : Fin 18944) (hcol : (col : ℕ) = 512 * (i 1).val + (y 1).val) :
    View.canon (dwPieces i x3 x4) y = (∑ k : Fin 256, x4 (ix2 (y 0) k) * x3 (ix2 k col)) * inv32 := by
  have hoff0 : k0_off3 i 0#32 = ![0, 512 * (i 1).val + 0] := k0_off3_eq i 0
  have hoff1 : k0_off3 i 256#32 = ![0, 512 * (i 1).val + 256] := k0_off3_eq i 1
  have e00 : k0_off3 i 0#32 0 = 0 := congrFun hoff0 0
  have e01 : k0_off3 i 0#32 1 = 512 * (i 1).val + 0 := congrFun hoff0 1
  have e10 : k0_off3 i 256#32 0 = 0 := congrFun hoff1 0
  have e11 : k0_off3 i 256#32 1 = 512 * (i 1).val + 256 := congrFun hoff1 1
  unfold dwPieces
  canon_tiles x h using dwPieces_cover i x3 x4 y
  all_goals
    first | unfold k0_pay2460 | unfold k0_pay602 | unfold k0_pay1219 | unfold k0_pay1845
    refine (tile_apply _ _ _).trans ?_
    congr 1
    refine Finset.sum_congr rfl fun k _ => ?_
    congr 1
    · refine View.ld_unit_apply_of _ _ _ _ _ _ fun a => ?_
      fin_cases a
      · first
          | exact (by omega : (y 0).val = 0 + (x 0).val)
          | exact (by omega : (y 0).val = 256 + (x 0).val)
      · exact (by omega : k.val = 0 + k.val)
    · refine View.ld_unit_apply_of _ _ _ _ _ _ fun a => ?_
      fin_cases a
      · first
          | exact (by omega : k.val = k0_off3 i 0#32 0 + k.val)
          | exact (by omega : k.val = k0_off3 i 256#32 0 + k.val)
      · first
          | exact (by omega : col.val = k0_off3 i 0#32 1 + (x 1).val)
          | exact (by omega : col.val = k0_off3 i 256#32 1 + (x 1).val)

end Cert.KernelIdeal.Dw

end
-- ==== Proof.RunFirst.lean ====
/- One run of the body, at the first step of a row of blocks (the first conditional taken, the second not). -/
module

public import proofs.«01_k».proof.Proof.Points

@[expose] public section

-- the long axes of the staged arrays: an index into them is looked through coordinate by coordinate
set_option maxRecDepth 16384

noncomputable section

namespace Cert.KernelIdeal.Dw

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 7880000 in set_option sl_exec.squeezeSlice true in set_option sl_exec.stridedRows true in
/-- The body run at the first step of a row of blocks (the first conditional taken, the second not), on whole staging buffers
    holding `x0` … `x5` for the inputs and `x6` in the buffer of `dx`, anything in the other outputs and the scratch: it finishes, the inputs' buffers are
    as they were, and the buffer of `dw` (`arg9`) has the pieces of `LO7` written into it. `LO7` is what the run finds;
    `pieces_First` (Tiles.lean) says what it is. Of the other outputs and of the scratch nothing is stated. -/
noncomputable def runFirst (c : Dev nD) (i : grid0.Coords) (arg2 : Memref sig .tc .vmem S512x512 .bf16) (harg2 : arg2.IsWhole) (arg3 : Memref sig .tc .vmem S512x512 .i8) (harg3 : arg3.IsWhole) (arg4 : Memref sig .tc .vmem S256x18944 .bf16) (harg4 : arg4.IsWhole) (arg5 : Memref sig .tc .vmem S256x18944 .bf16) (harg5 : arg5.IsWhole) (arg6 : Memref sig .tc .vmem S512x256 .bf16) (harg6 : arg6.IsWhole) (arg7 : Memref sig .tc .vmem S256x256 .bf16) (harg7 : arg7.IsWhole) (arg8 : Memref sig .tc .vmem S256x512 .bf16) (harg8 : arg8.IsWhole) (arg9 : Memref sig .tc .vmem S512x512 .f32) (harg9 : arg9.IsWhole) (arg10 : Memref sig .tc .vmem S512x256 .i8) (harg10 : arg10.IsWhole) (arg11 : Memref sig .tc .vmem S512x592 .i8) (harg11 : arg11.IsWhole) (arg12 : Memref sig .tc .vmem S256x512 .f32) (harg12 : arg12.IsWhole) (arg13 : Memref sig .tc .vmem S512x512 .bf16) (harg13 : arg13.IsWhole) (arg14 : Memref sig .tc .vmem S8x72x128 .f32) (harg14 : arg14.IsWhole) (arg15 : Memref sig .tc .vmem S8x24x128 .i32) (harg15 : arg15.IsWhole) (arg16 : Memref sig .tc .vmem S37x16x512 .i32) (harg16 : arg16.IsWhole) (hc0 : cond0_0 i) (hc1 : ¬cond0_1 i)
    (x0 : Vec F S512x512 .bf16) (x1 : Vec F S512x512 .i8) (x2 : Vec F S256x18944 .bf16) (x3 : Vec F S256x18944 .bf16) (x4 : Vec F S512x256 .bf16) (x5 : Vec F S256x256 .bf16) (x6 : Vec F S256x512 .bf16) :
    Σ' (LO7 : List (View.Piece (Elt F) S512x512 .f32)), { LS0 : List (View.Piece (Elt F) S256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LO7) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS0) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0_main_eq_skeleton]; unfold cc0_main_skel
    simp only [k0_part284_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part285_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part286_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part287_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part288_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    isplitl [H7]; · iexists _; iexact H7
    isplitl [H8]
    · iexists _, _; isplitr; swap; · iexact H8
      ipureintro; rfl
    isplitl [H9]
    · iexists _, _; isplitr; swap; · iexact H9
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Dw

end
-- ==== Proof.RunMiddle.lean ====
/- One run of the body, at a step in the middle of a row of blocks (neither conditional taken). -/
module

public import proofs.«01_k».proof.Proof.Points

@[expose] public section

-- the long axes of the staged arrays: an index into them is looked through coordinate by coordinate
set_option maxRecDepth 16384

noncomputable section

namespace Cert.KernelIdeal.Dw

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 7868000 in set_option sl_exec.squeezeSlice true in set_option sl_exec.stridedRows true in
/-- The body run at a step in the middle of a row of blocks (neither conditional taken), on whole staging buffers
    holding `x0` … `x5` for the inputs and `x6` in the buffer of `dx`, anything in the other outputs and the scratch: it finishes, the inputs' buffers are
    as they were, and the buffer of `dw` (`arg9`) has the pieces of `LO7` written into it. `LO7` is what the run finds;
    `pieces_Middle` (Tiles.lean) says what it is. Of the other outputs and of the scratch nothing is stated. -/
noncomputable def runMiddle (c : Dev nD) (i : grid0.Coords) (arg2 : Memref sig .tc .vmem S512x512 .bf16) (harg2 : arg2.IsWhole) (arg3 : Memref sig .tc .vmem S512x512 .i8) (harg3 : arg3.IsWhole) (arg4 : Memref sig .tc .vmem S256x18944 .bf16) (harg4 : arg4.IsWhole) (arg5 : Memref sig .tc .vmem S256x18944 .bf16) (harg5 : arg5.IsWhole) (arg6 : Memref sig .tc .vmem S512x256 .bf16) (harg6 : arg6.IsWhole) (arg7 : Memref sig .tc .vmem S256x256 .bf16) (harg7 : arg7.IsWhole) (arg8 : Memref sig .tc .vmem S256x512 .bf16) (harg8 : arg8.IsWhole) (arg9 : Memref sig .tc .vmem S512x512 .f32) (harg9 : arg9.IsWhole) (arg10 : Memref sig .tc .vmem S512x256 .i8) (harg10 : arg10.IsWhole) (arg11 : Memref sig .tc .vmem S512x592 .i8) (harg11 : arg11.IsWhole) (arg12 : Memref sig .tc .vmem S256x512 .f32) (harg12 : arg12.IsWhole) (arg13 : Memref sig .tc .vmem S512x512 .bf16) (harg13 : arg13.IsWhole) (arg14 : Memref sig .tc .vmem S8x72x128 .f32) (harg14 : arg14.IsWhole) (arg15 : Memref sig .tc .vmem S8x24x128 .i32) (harg15 : arg15.IsWhole) (arg16 : Memref sig .tc .vmem S37x16x512 .i32) (harg16 : arg16.IsWhole) (hc0 : ¬cond0_0 i) (hc1 : ¬cond0_1 i)
    (x0 : Vec F S512x512 .bf16) (x1 : Vec F S512x512 .i8) (x2 : Vec F S256x18944 .bf16) (x3 : Vec F S256x18944 .bf16) (x4 : Vec F S512x256 .bf16) (x5 : Vec F S256x256 .bf16) (xs0 : Vec F S256x512 .f32) (x6 : Vec F S256x512 .bf16) :
    Σ' (LO7 : List (View.Piece (Elt F) S512x512 .f32)), { LS0 : List (View.Piece (Elt F) S256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LO7) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS0) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0_main_eq_skeleton]; unfold cc0_main_skel
    simp only [k0_part284_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part285_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part286_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part287_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part288_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    isplitl [H7]; · iexists _; iexact H7
    isplitl [H8]
    · iexists _, _; isplitr; swap; · iexact H8
      ipureintro; rfl
    isplitl [H9]
    · iexists _, _; isplitr; swap; · iexact H9
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Dw

end
-- ==== Proof.RunLast.lean ====
/- One run of the body, at the last step of a row of blocks (the second conditional taken, the first not). -/
module

public import proofs.«01_k».proof.Proof.Points

@[expose] public section

-- the long axes of the staged arrays: an index into them is looked through coordinate by coordinate
set_option maxRecDepth 16384

noncomputable section

namespace Cert.KernelIdeal.Dw

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 7892000 in set_option sl_exec.squeezeSlice true in set_option sl_exec.stridedRows true in
/-- The body run at the last step of a row of blocks (the second conditional taken, the first not), on whole staging buffers
    holding `x0` … `x5` for the inputs and anything in the outputs and the scratch: it finishes, the inputs' buffers are
    as they were, and the buffer of `dw` (`arg9`) has the pieces of `LO7` written into it. `LO7` is what the run finds;
    `pieces_Last` (Tiles.lean) says what it is. Of the other outputs and of the scratch nothing is stated. -/
noncomputable def runLast (c : Dev nD) (i : grid0.Coords) (arg2 : Memref sig .tc .vmem S512x512 .bf16) (harg2 : arg2.IsWhole) (arg3 : Memref sig .tc .vmem S512x512 .i8) (harg3 : arg3.IsWhole) (arg4 : Memref sig .tc .vmem S256x18944 .bf16) (harg4 : arg4.IsWhole) (arg5 : Memref sig .tc .vmem S256x18944 .bf16) (harg5 : arg5.IsWhole) (arg6 : Memref sig .tc .vmem S512x256 .bf16) (harg6 : arg6.IsWhole) (arg7 : Memref sig .tc .vmem S256x256 .bf16) (harg7 : arg7.IsWhole) (arg8 : Memref sig .tc .vmem S256x512 .bf16) (harg8 : arg8.IsWhole) (arg9 : Memref sig .tc .vmem S512x512 .f32) (harg9 : arg9.IsWhole) (arg10 : Memref sig .tc .vmem S512x256 .i8) (harg10 : arg10.IsWhole) (arg11 : Memref sig .tc .vmem S512x592 .i8) (harg11 : arg11.IsWhole) (arg12 : Memref sig .tc .vmem S256x512 .f32) (harg12 : arg12.IsWhole) (arg13 : Memref sig .tc .vmem S512x512 .bf16) (harg13 : arg13.IsWhole) (arg14 : Memref sig .tc .vmem S8x72x128 .f32) (harg14 : arg14.IsWhole) (arg15 : Memref sig .tc .vmem S8x24x128 .i32) (harg15 : arg15.IsWhole) (arg16 : Memref sig .tc .vmem S37x16x512 .i32) (harg16 : arg16.IsWhole) (hc0 : ¬cond0_0 i) (hc1 : cond0_1 i)
    (x0 : Vec F S512x512 .bf16) (x1 : Vec F S512x512 .i8) (x2 : Vec F S256x18944 .bf16) (x3 : Vec F S256x18944 .bf16) (x4 : Vec F S512x256 .bf16) (x5 : Vec F S256x256 .bf16) (xs0 : Vec F S256x512 .f32) :
    Σ' (LO7 : List (View.Piece (Elt F) S512x512 .f32)) (LO6 : List (View.Piece (Elt F) S256x512 .bf16)), { LS0 : List (View.Piece (Elt F) S256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO6) ∗ (∃ f, arg9.view.loc (c : Thread nD τ) ↦[arg9.view.set]{fullShare} arg9.view.writes (Elt F) f LO7) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS0) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_main_eq_skeleton]; unfold cc0_main_skel
    simp only [k0_part284_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part285_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part286_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part287_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part288_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]
    · iexists _, _; isplitr; swap; · iexact H8
      ipureintro; rfl
    isplitl [H9]
    · iexists _, _; isplitr; swap; · iexact H9
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Dw

end
-- ==== Proof.Quant.lean ====
/- The quantiser of the kernel's body as one function of a rotated tile, its random words and what it reads back from its
   two scratch arrays, in the operations the body runs. -/
module

public import proofs.«01_k».proof.Proof.Points

@[expose] public section

noncomputable section

namespace Cert.KernelIdeal.Dw

open Cert.KernelIdeal.Gen
open Idealize.ShloMosaic Idealize.ShloMosaic.TcCoe Idealize.ShloMosaic.Tactic

variable {F : FTy → Type} [FloatOps F]

/-- One step of the bisection for a float's exponent field: the candidate `e + b` is kept if its power of two is at most `x`. -/
def stp {s : Shape} (x : FVec F s .f32) (e : IVec s 32) (b : BitVec 32) : IVec s 32 :=
  select (cmpf .oge x (bitcastToFloat .f32 (shli (addi e (broadcast s b)) (broadcast s 23#32)))) (addi e (broadcast s b)) e

/-- The exponent field of `x`, by bisection. -/
def expo {s : Shape} (x : FVec F s .f32) : IVec s 32 :=
  stp x (stp x (stp x (stp x (stp x (stp x (stp x (stp x (broadcast s 0#32) 128#32) 64#32) 32#32) 16#32) 8#32) 4#32) 2#32) 1#32

/-- Half of the exponent that scales the mantissa of a float with exponent field `e`. -/
def hlf {s : Shape} (e : IVec s 32) : IVec s 32 :=
  shrsi (subi (broadcast s 150#32) (maxsi e (broadcast s 1#32))) (broadcast s 1#32)

/-- The mantissa of `x`, whose exponent field is `e`, as a number below 2 ^ 23. -/
def mant {s : Shape} (x : FVec F s .f32) (e : IVec s 32) : FVec F s .f32 :=
  select (cmpi .eq e (broadcast s 255#32)) (broadcast s (Scalar.ofBits .f32 0x00000000#32))
    (mulf (mulf (subf x (bitcastToFloat .f32 (shli e (broadcast s 23#32))))
        (bitcastToFloat .f32 (shli (addi (broadcast s 127#32) (hlf e)) (broadcast s 23#32))))
      (bitcastToFloat .f32 (shli (subi (subi (broadcast s 277#32) (maxsi e (broadcast s 1#32))) (hlf e)) (broadcast s 23#32))))

/-- The word of a float that is not negative, its mantissa rounded up. -/
def wordUp {s : Shape} (x : FVec F s .f32) : IVec s 32 :=
  addi (shli (expo x) (broadcast s 23#32)) (fptosi 32 (ceil (mant x (expo x))))

/-- The word of a float that is not negative, its mantissa rounded down. -/
def wordDn {s : Shape} (x : FVec F s .f32) : IVec s 32 :=
  addi (shli (expo x) (broadcast s 23#32)) (fptosi 32 (mant x (expo x)))

/-- Rows `o` to `o + 7` of a tile. -/
def vrow (v : FVec F S256x128 .f32) (o : Nat) (h : S256x128.Slices ![o, 0] S8x128) : FVec F S8x128 .f32 :=
  extractStridedSlice S8x128 ![o, 0] v h
/-- Rows `o` to `o + 7` of a tile of words. -/
def irow (v : IVec S256x128 32) (o : Nat) (h : S256x128.Slices ![o, 0] S8x128) : IVec S8x128 32 :=
  extractStridedSlice S8x128 ![o, 0] v h
/-- Rows `o` to `o + 7` of a tile's random words. -/
def wrow (v : IVec S64x128 32) (o : Nat) (h : S64x128.Slices ![o, 0] S8x128) : IVec S8x128 32 :=
  extractStridedSlice S8x128 ![o, 0] v h

/-- The magnitudes of rows `o` to `o + 7`. -/
def arow (v : FVec F S256x128 .f32) (o : Nat) (h : S256x128.Slices ![o, 0] S8x128) : FVec F S8x128 .f32 := absf (vrow v o h)

/-- The maximum magnitude of four rows of eight channels of a group. -/
def gmax (v : FVec F S256x128 .f32) (o0 o1 o2 o3 : Nat) (h0 : S256x128.Slices ![o0, 0] S8x128) (h1 : S256x128.Slices ![o1, 0] S8x128)
    (h2 : S256x128.Slices ![o2, 0] S8x128) (h3 : S256x128.Slices ![o3, 0] S8x128) : FVec F S8x128 .f32 :=
  maximumf (maximumf (arow v o0 h0) (arow v o1 h1)) (maximumf (arow v o2 h2) (arow v o3 h3))

/-- The maximum of the eight rows read back. -/
def amax (rd : Fin 8 → FVec F S8x128 .f32) : FVec F S8x128 .f32 :=
  maximumf (maximumf (maximumf (maximumf (maximumf (maximumf (maximumf (rd 0) (rd 1)) (rd 2)) (rd 3)) (rd 4)) (rd 5)) (rd 6)) (rd 7)

/-- The scale's exponent field of each group, from the groups' maxima. -/
def e8 (a : FVec F S8x128 .f32) : IVec S8x128 32 :=
  select (cmpf .oeq a (broadcast S8x128 (Scalar.ofBits .f32 0x00000000#32))) (broadcast S8x128 127#32)
    (addi (shrsi (wordDn (mulf a (broadcast S8x128 (Scalar.ofBits .f32 0x3E2AAAAB#32)))) (broadcast S8x128 23#32)) (broadcast S8x128 1#32))

/-- The three blocks of constants stored: the float added to a magnitude, -/
def cstA (e : IVec S8x128 32) : IVec S8x128 32 := addi (shli e (broadcast S8x128 23#32)) (broadcast S8x128 8191#32)
/-- what turns a shifted word into a code, -/
def cstB (e : IVec S8x128 32) : IVec S8x128 32 :=
  andi (subi (broadcast S8x128 255#32) (shli e (broadcast S8x128 9#32))) (broadcast S8x128 65535#32)
/-- and the scale. -/
def cstC (e : IVec S8x128 32) : IVec S8x128 32 := shli e (broadcast S8x128 7#32)
/-- A half word in both halves. -/
def twice (k : IVec S8x128 32) : IVec S8x128 32 := ori k (shli k (broadcast S8x128 16#32))

/-- A row of constants, for every row of eight. -/
def crow (c : Vec F S1x128 .i32) : IVec S8x128 32 :=
  broadcastTo S8x128 (shapeCast S1x128 c shapeCasts_S1x128_S1x128) broadcasts_S1x128_S8x128

/-- The larger of the magnitude plus the scale's float and the magnitude's own word one binade up. -/
def zrow (v : FVec F S256x128 .f32) (rw : IVec S256x128 32) (c : Vec F S1x128 .i32) (o : Nat) (h : S256x128.Slices ![o, 0] S8x128) : FVec F S8x128 .f32 :=
  maximumf (addf (arow v o h) (bitcastToFloat .f32 (crow (F := F) c)))
    (bitcastToFloat .f32 (addi (irow rw o h) (broadcast S8x128 8396799#32)))

/-- Thirty-two blocks of eight rows, one above the other. -/
def cat32 (f : (o : Nat) → S256x128.Slices ![o, 0] S8x128 → FVec F S8x128 .f32) : FVec F S256x128 .f32 :=
  concatenate S256x128 0 [⟨S8x128, f 0 slices_S256x128_o0_0_S8x128⟩, ⟨S8x128, f 8 slices_S256x128_o8_0_S8x128⟩, ⟨S8x128, f 16 slices_S256x128_o16_0_S8x128⟩, ⟨S8x128, f 24 slices_S256x128_o24_0_S8x128⟩, ⟨S8x128, f 32 slices_S256x128_o32_0_S8x128⟩, ⟨S8x128, f 40 slices_S256x128_o40_0_S8x128⟩, ⟨S8x128, f 48 slices_S256x128_o48_0_S8x128⟩, ⟨S8x128, f 56 slices_S256x128_o56_0_S8x128⟩, ⟨S8x128, f 64 slices_S256x128_o64_0_S8x128⟩, ⟨S8x128, f 72 slices_S256x128_o72_0_S8x128⟩, ⟨S8x128, f 80 slices_S256x128_o80_0_S8x128⟩, ⟨S8x128, f 88 slices_S256x128_o88_0_S8x128⟩, ⟨S8x128, f 96 slices_S256x128_o96_0_S8x128⟩, ⟨S8x128, f 104 slices_S256x128_o104_0_S8x128⟩, ⟨S8x128, f 112 slices_S256x128_o112_0_S8x128⟩, ⟨S8x128, f 120 slices_S256x128_o120_0_S8x128⟩, ⟨S8x128, f 128 slices_S256x128_o128_0_S8x128⟩, ⟨S8x128, f 136 slices_S256x128_o136_0_S8x128⟩, ⟨S8x128, f 144 slices_S256x128_o144_0_S8x128⟩, ⟨S8x128, f 152 slices_S256x128_o152_0_S8x128⟩, ⟨S8x128, f 160 slices_S256x128_o160_0_S8x128⟩, ⟨S8x128, f 168 slices_S256x128_o168_0_S8x128⟩, ⟨S8x128, f 176 slices_S256x128_o176_0_S8x128⟩, ⟨S8x128, f 184 slices_S256x128_o184_0_S8x128⟩, ⟨S8x128, f 192 slices_S256x128_o192_0_S8x128⟩, ⟨S8x128, f 200 slices_S256x128_o200_0_S8x128⟩, ⟨S8x128, f 208 slices_S256x128_o208_0_S8x128⟩, ⟨S8x128, f 216 slices_S256x128_o216_0_S8x128⟩, ⟨S8x128, f 224 slices_S256x128_o224_0_S8x128⟩, ⟨S8x128, f 232 slices_S256x128_o232_0_S8x128⟩, ⟨S8x128, f 240 slices_S256x128_o240_0_S8x128⟩, ⟨S8x128, f 248 slices_S256x128_o248_0_S8x128⟩] concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S256x128_d0

/-- The words of the magnitudes. -/
def rwords (v : FVec F S256x128 .f32) : IVec S256x128 32 := wordUp (cat32 (arow v))

/-- Two rows' sign bits, at bits 15 and 31. -/
def sgn2 (lo hi : FVec F S8x128 .f32) : IVec S8x128 32 :=
  ori (select (cmpf .olt lo (broadcast S8x128 (Scalar.ofBits .f32 0x00000000#32))) (broadcast S8x128 32768#32) (broadcast S8x128 0#32))
    (select (cmpf .olt hi (broadcast S8x128 (Scalar.ofBits .f32 0x00000000#32))) (broadcast S8x128 2147483648#32) (broadcast S8x128 0#32))

/-- Codes of two rows of a group's words, a row in each half word, with the signs. -/
def yrow (zl zh t k : IVec S8x128 32) (vl vh : FVec F S8x128 .f32) : IVec S8x128 32 :=
  ori (bitcast S8x128 32 (subi (addi
      (bitcast S16x128 16 (packElementwiseI16 (shrui zl (broadcast S8x128 14#32)) (shrui zh (broadcast S8x128 14#32))) bitcasts_S8x128_w32_S16x128_w16)
      (bitcast S16x128 16 k bitcasts_S8x128_w32_S16x128_w16))
      (bitcast S16x128 16 t bitcasts_S8x128_w32_S16x128_w16)) bitcasts_S16x128_w16_S8x128_w32) (sgn2 vl vh)

/-- A group's four codes a word, each in its own byte. -/
def brow (y0 y1 : IVec S8x128 32) : IVec S8x128 32 :=
  ori (andi (shrui y0 (broadcast S8x128 8#32)) (broadcast S8x128 16711935#32)) (andi y1 (broadcast S8x128 4278255360#32))

/-- A group's codes, a channel a row. -/
def code (zw : IVec S256x128 32) (v : FVec F S256x128 .f32) (w : IVec S8x128 32) (c : Vec F S1x128 .i32) (o0 o1 o2 o3 : Nat)
    (h0 : S256x128.Slices ![o0, 0] S8x128) (h1 : S256x128.Slices ![o1, 0] S8x128)
    (h2 : S256x128.Slices ![o2, 0] S8x128) (h3 : S256x128.Slices ![o3, 0] S8x128) : IVec S32x128 8 :=
  let y0 := yrow (irow zw o0 h0) (irow zw o2 h2) (andi w (broadcast S8x128 16711935#32)) (crow (F := F) c) (vrow v o0 h0) (vrow v o2 h2)
  let y1 := yrow (irow zw o1 h1) (irow zw o3 h3) (andi (shrui w (broadcast S8x128 8#32)) (broadcast S8x128 16711935#32)) (crow (F := F) c) (vrow v o1 h1) (vrow v o3 h3)
  bitcast S32x128 8 (ori (brow y0 y1) (shrui (brow y0 y1) (broadcast S8x128 4#32))) bitcasts_S8x128_w32_S32x128_w8

/-- Two groups' codes, a nibble each. -/
def nib (c0 c1 : IVec S32x128 8) : IVec S64x128 32 :=
  andi (extsi 32 (concatenate S64x128 0 [⟨S32x128, c0⟩, ⟨S32x128, c1⟩] concatenates_S32x128_S32x128_S64x128_d0) natLt_8_32) (broadcast S64x128 15#32)

/-- The value of a nibble's magnitude. -/
def mag (g : IVec S64x128 32) : FVec F S64x128 .f32 :=
  select (cmpi .slt g (broadcast S64x128 4#32)) (mulf (broadcast S64x128 (Scalar.ofBits .f32 0x3F000000#32)) (sitofp .f32 g))
    (select (cmpi .slt g (broadcast S64x128 6#32)) (subf (sitofp .f32 g) (broadcast S64x128 (Scalar.ofBits .f32 0x40000000#32)))
      (subf (mulf (broadcast S64x128 (Scalar.ofBits .f32 0x40000000#32)) (sitofp .f32 g)) (broadcast S64x128 (Scalar.ofBits .f32 0x41000000#32))))

/-- The value of a nibble. -/
def dec (n : IVec S64x128 32) : FVec F S64x128 .bf16 :=
  truncf .bf16 (select (cmpi .sge n (broadcast S64x128 8#32))
    (subf (broadcast S64x128 (Scalar.ofBits .f32 0x00000000#32)) (mag (andi n (broadcast S64x128 7#32))))
    (mag (andi n (broadcast S64x128 7#32)))) bitsLt_bf16_f32

/-- A group's scale, for its 32 rows. -/
def srow (c : Vec F S1x128 .i32) : FVec F S32x128 .bf16 :=
  concatenate S32x128 0 [⟨S16x128, bitcastToFloat .bf16 (bitcast S16x128 16 (crow (F := F) c) bitcasts_S8x128_w32_S16x128_w16)⟩,
    ⟨S16x128, bitcastToFloat .bf16 (bitcast S16x128 16 (crow (F := F) c) bitcasts_S8x128_w32_S16x128_w16)⟩] concatenates_S16x128_S16x128_S32x128_d0

/-- The words after the rounding step, from the rows of constants `ct`. -/
def zwords (v : FVec F S256x128 .f32) (ct : Fin 24 → Vec F S1x128 .i32) : IVec S256x128 32 :=
  wordUp (concatenate S256x128 0 [⟨S8x128, zrow v (rwords v) (ct 0) 0 slices_S256x128_o0_0_S8x128⟩, ⟨S8x128, zrow v (rwords v) (ct 0) 8 slices_S256x128_o8_0_S8x128⟩, ⟨S8x128, zrow v (rwords v) (ct 0) 16 slices_S256x128_o16_0_S8x128⟩, ⟨S8x128, zrow v (rwords v) (ct 0) 24 slices_S256x128_o24_0_S8x128⟩, ⟨S8x128, zrow v (rwords v) (ct 1) 32 slices_S256x128_o32_0_S8x128⟩, ⟨S8x128, zrow v (rwords v) (ct 1) 40 slices_S256x128_o40_0_S8x128⟩, ⟨S8x128, zrow v (rwords v) (ct 1) 48 slices_S256x128_o48_0_S8x128⟩, ⟨S8x128, zrow v (rwords v) (ct 1) 56 slices_S256x128_o56_0_S8x128⟩, ⟨S8x128, zrow v (rwords v) (ct 2) 64 slices_S256x128_o64_0_S8x128⟩, ⟨S8x128, zrow v (rwords v) (ct 2) 72 slices_S256x128_o72_0_S8x128⟩, ⟨S8x128, zrow v (rwords v) (ct 2) 80 slices_S256x128_o80_0_S8x128⟩, ⟨S8x128, zrow v (rwords v) (ct 2) 88 slices_S256x128_o88_0_S8x128⟩, ⟨S8x128, zrow v (rwords v) (ct 3) 96 slices_S256x128_o96_0_S8x128⟩, ⟨S8x128, zrow v (rwords v) (ct 3) 104 slices_S256x128_o104_0_S8x128⟩, ⟨S8x128, zrow v (rwords v) (ct 3) 112 slices_S256x128_o112_0_S8x128⟩, ⟨S8x128, zrow v (rwords v) (ct 3) 120 slices_S256x128_o120_0_S8x128⟩, ⟨S8x128, zrow v (rwords v) (ct 4) 128 slices_S256x128_o128_0_S8x128⟩, ⟨S8x128, zrow v (rwords v) (ct 4) 136 slices_S256x128_o136_0_S8x128⟩, ⟨S8x128, zrow v (rwords v) (ct 4) 144 slices_S256x128_o144_0_S8x128⟩, ⟨S8x128, zrow v (rwords v) (ct 4) 152 slices_S256x128_o152_0_S8x128⟩, ⟨S8x128, zrow v (rwords v) (ct 5) 160 slices_S256x128_o160_0_S8x128⟩, ⟨S8x128, zrow v (rwords v) (ct 5) 168 slices_S256x128_o168_0_S8x128⟩, ⟨S8x128, zrow v (rwords v) (ct 5) 176 slices_S256x128_o176_0_S8x128⟩, ⟨S8x128, zrow v (rwords v) (ct 5) 184 slices_S256x128_o184_0_S8x128⟩, ⟨S8x128, zrow v (rwords v) (ct 6) 192 slices_S256x128_o192_0_S8x128⟩, ⟨S8x128, zrow v (rwords v) (ct 6) 200 slices_S256x128_o200_0_S8x128⟩, ⟨S8x128, zrow v (rwords v) (ct 6) 208 slices_S256x128_o208_0_S8x128⟩, ⟨S8x128, zrow v (rwords v) (ct 6) 216 slices_S256x128_o216_0_S8x128⟩, ⟨S8x128, zrow v (rwords v) (ct 7) 224 slices_S256x128_o224_0_S8x128⟩, ⟨S8x128, zrow v (rwords v) (ct 7) 232 slices_S256x128_o232_0_S8x128⟩, ⟨S8x128, zrow v (rwords v) (ct 7) 240 slices_S256x128_o240_0_S8x128⟩, ⟨S8x128, zrow v (rwords v) (ct 7) 248 slices_S256x128_o248_0_S8x128⟩] concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S256x128_d0)

/-- Group 0's codes. -/
def code0 (zw : IVec S256x128 32) (v : FVec F S256x128 .f32) (w : IVec S64x128 32) (ct : Fin 24 → Vec F S1x128 .i32) : IVec S32x128 8 :=
  code zw v (wrow w 0 slices_S64x128_o0_0_S8x128) (ct 8) 0 8 16 24 slices_S256x128_o0_0_S8x128 slices_S256x128_o8_0_S8x128 slices_S256x128_o16_0_S8x128 slices_S256x128_o24_0_S8x128

/-- Group 1's codes. -/
def code1 (zw : IVec S256x128 32) (v : FVec F S256x128 .f32) (w : IVec S64x128 32) (ct : Fin 24 → Vec F S1x128 .i32) : IVec S32x128 8 :=
  code zw v (wrow w 8 slices_S64x128_o8_0_S8x128) (ct 9) 32 40 48 56 slices_S256x128_o32_0_S8x128 slices_S256x128_o40_0_S8x128 slices_S256x128_o48_0_S8x128 slices_S256x128_o56_0_S8x128

/-- Group 2's codes. -/
def code2 (zw : IVec S256x128 32) (v : FVec F S256x128 .f32) (w : IVec S64x128 32) (ct : Fin 24 → Vec F S1x128 .i32) : IVec S32x128 8 :=
  code zw v (wrow w 16 slices_S64x128_o16_0_S8x128) (ct 10) 64 72 80 88 slices_S256x128_o64_0_S8x128 slices_S256x128_o72_0_S8x128 slices_S256x128_o80_0_S8x128 slices_S256x128_o88_0_S8x128

/-- Group 3's codes. -/
def code3 (zw : IVec S256x128 32) (v : FVec F S256x128 .f32) (w : IVec S64x128 32) (ct : Fin 24 → Vec F S1x128 .i32) : IVec S32x128 8 :=
  code zw v (wrow w 24 slices_S64x128_o24_0_S8x128) (ct 11) 96 104 112 120 slices_S256x128_o96_0_S8x128 slices_S256x128_o104_0_S8x128 slices_S256x128_o112_0_S8x128 slices_S256x128_o120_0_S8x128

/-- Group 4's codes. -/
def code4 (zw : IVec S256x128 32) (v : FVec F S256x128 .f32) (w : IVec S64x128 32) (ct : Fin 24 → Vec F S1x128 .i32) : IVec S32x128 8 :=
  code zw v (wrow w 32 slices_S64x128_o32_0_S8x128) (ct 12) 128 136 144 152 slices_S256x128_o128_0_S8x128 slices_S256x128_o136_0_S8x128 slices_S256x128_o144_0_S8x128 slices_S256x128_o152_0_S8x128

/-- Group 5's codes. -/
def code5 (zw : IVec S256x128 32) (v : FVec F S256x128 .f32) (w : IVec S64x128 32) (ct : Fin 24 → Vec F S1x128 .i32) : IVec S32x128 8 :=
  code zw v (wrow w 40 slices_S64x128_o40_0_S8x128) (ct 13) 160 168 176 184 slices_S256x128_o160_0_S8x128 slices_S256x128_o168_0_S8x128 slices_S256x128_o176_0_S8x128 slices_S256x128_o184_0_S8x128

/-- Group 6's codes. -/
def code6 (zw : IVec S256x128 32) (v : FVec F S256x128 .f32) (w : IVec S64x128 32) (ct : Fin 24 → Vec F S1x128 .i32) : IVec S32x128 8 :=
  code zw v (wrow w 48 slices_S64x128_o48_0_S8x128) (ct 14) 192 200 208 216 slices_S256x128_o192_0_S8x128 slices_S256x128_o200_0_S8x128 slices_S256x128_o208_0_S8x128 slices_S256x128_o216_0_S8x128

/-- Group 7's codes. -/
def code7 (zw : IVec S256x128 32) (v : FVec F S256x128 .f32) (w : IVec S64x128 32) (ct : Fin 24 → Vec F S1x128 .i32) : IVec S32x128 8 :=
  code zw v (wrow w 56 slices_S64x128_o56_0_S8x128) (ct 15) 224 232 240 248 slices_S256x128_o224_0_S8x128 slices_S256x128_o232_0_S8x128 slices_S256x128_o240_0_S8x128 slices_S256x128_o248_0_S8x128

/-- The values a tile leaves: its codes' values, times its groups' scales. -/
def vals (v : FVec F S256x128 .f32) (w : IVec S64x128 32) (ct : Fin 24 → Vec F S1x128 .i32) : FVec F S256x128 .bf16 :=
  let zw := zwords v ct
  concatenate S256x128 0 [⟨S32x128, mulf (extractStridedSlice S32x128 ![0, 0] (dec (F := F) (nib (code0 zw v w ct) (code1 zw v w ct))) slices_S64x128_o0_0_S32x128) (srow (ct 16))⟩, ⟨S32x128, mulf (extractStridedSlice S32x128 ![32, 0] (dec (F := F) (nib (code0 zw v w ct) (code1 zw v w ct))) slices_S64x128_o32_0_S32x128) (srow (ct 17))⟩, ⟨S32x128, mulf (extractStridedSlice S32x128 ![0, 0] (dec (F := F) (nib (code2 zw v w ct) (code3 zw v w ct))) slices_S64x128_o0_0_S32x128) (srow (ct 18))⟩, ⟨S32x128, mulf (extractStridedSlice S32x128 ![32, 0] (dec (F := F) (nib (code2 zw v w ct) (code3 zw v w ct))) slices_S64x128_o32_0_S32x128) (srow (ct 19))⟩, ⟨S32x128, mulf (extractStridedSlice S32x128 ![0, 0] (dec (F := F) (nib (code4 zw v w ct) (code5 zw v w ct))) slices_S64x128_o0_0_S32x128) (srow (ct 20))⟩, ⟨S32x128, mulf (extractStridedSlice S32x128 ![32, 0] (dec (F := F) (nib (code4 zw v w ct) (code5 zw v w ct))) slices_S64x128_o32_0_S32x128) (srow (ct 21))⟩, ⟨S32x128, mulf (extractStridedSlice S32x128 ![0, 0] (dec (F := F) (nib (code6 zw v w ct) (code7 zw v w ct))) slices_S64x128_o0_0_S32x128) (srow (ct 22))⟩, ⟨S32x128, mulf (extractStridedSlice S32x128 ![32, 0] (dec (F := F) (nib (code6 zw v w ct) (code7 zw v w ct))) slices_S64x128_o32_0_S32x128) (srow (ct 23))⟩] concatenates_S32x128_S32x128_S32x128_S32x128_S32x128_S32x128_S32x128_S32x128_S256x128_d0

/-- The rows read back, in a plane. -/
def tileR (s : Fin 8) : Rect S72x128 :=
  (Rect.unit (s := S72x128) ![9 * s.val, 0] S8x128.size (fun a => by
      match a with
      | ⟨0, _⟩ => show 9 * s.val + 8 ≤ 72; omega
      | ⟨1, _⟩ => show 0 + 128 ≤ 128; omega))

/-- The reading back of eight rows, from row `9 s` of plane `k` of the first scratch array. -/
def boxR (k s : Fin 8) : LoadRect S8x72x128 :=
  (Rect.unit (s := S8x72x128) ![k.val, 0, 0] S1x72x128.size (fun a => by
      match a with
      | ⟨0, _⟩ => show k.val + 1 ≤ 8; omega
      | ⟨1, _⟩ => show 0 + 72 ≤ 72; omega
      | ⟨2, _⟩ => show 0 + 128 ≤ 128; omega)).withinL
    ((tileR s).toLoadRect.consLift ![1, 72, 128] rfl (fun i => by fin_cases i <;> rfl)) (fun _ => rfl)

/-- The rows read back, in a plane. -/
def tileC (n : Fin 24) : Rect S24x128 :=
  (Rect.unit (s := S24x128) ![n.val, 0] S1x128.size (fun a => by
      match a with
      | ⟨0, _⟩ => show n.val + 1 ≤ 24; omega
      | ⟨1, _⟩ => show 0 + 128 ≤ 128; omega))

/-- The reading back of row `n` of plane `k` of the second scratch array. -/
def boxC (k : Fin 8) (n : Fin 24) : LoadRect S8x24x128 :=
  (Rect.unit (s := S8x24x128) ![k.val, 0, 0] S1x24x128.size (fun a => by
      match a with
      | ⟨0, _⟩ => show k.val + 1 ≤ 8; omega
      | ⟨1, _⟩ => show 0 + 24 ≤ 24; omega
      | ⟨2, _⟩ => show 0 + 128 ≤ 128; omega)).withinL
    ((tileC n).toLoadRect.consLift ![1, 24, 128] rfl (fun i => by fin_cases i <;> rfl)) (fun _ => rfl)

theorem boxR_numel (k s : Fin 8) : S8x128.numel = (boxR k s).shape.numel :=
  LoadRect.numel_consLift (tileR s).toLoadRect ![1, 72, 128] rfl (fun i => by fin_cases i <;> rfl)
theorem boxC_numel (k : Fin 8) (n : Fin 24) : S1x128.numel = (boxC k n).shape.numel :=
  LoadRect.numel_consLift (tileC n).toLoadRect ![1, 24, 128] rfl (fun i => by fin_cases i <;> rfl)

/-- What the body reads back of the maxima stored. -/
def rdR (g : View sig .tc .vmem S8x72x128 .f32) (L : List (View.Piece (Elt F) S8x72x128 .f32)) (k s : Fin 8) : FVec F S8x128 .f32 :=
  fun x => g.readCov L (boxR k s) (Shape.reshapeEquiv (boxR_numel k s) x)

/-- What the body reads back of the constants stored. -/
def rdC (g : View sig .tc .vmem S8x24x128 .i32) (L : List (View.Piece (Elt F) S8x24x128 .i32)) (k : Fin 8) (n : Fin 24) : Vec F S1x128 .i32 :=
  fun x => g.readCov L (boxC k n) (Shape.reshapeEquiv (boxC_numel k n) x)

/-- Row `m` of every tile of nine rows, as a rectangle of a plane. -/
def rowR (m : Nat) (hm : m < 8) : Rect S72x128 where
  off := ![m, 0]
  size := S8x128.size
  stride := ![9, 1]
  inb := fun a => by
    match a with
    | ⟨0, _⟩ => exact Or.inr (show m + 9 * (8 - 1) < 72 by omega)
    | ⟨1, _⟩ => exact Or.inr (show 0 + 1 * (128 - 1) < 128 by omega)
  stride_pos := fun a => by
    match a with
    | ⟨0, _⟩ => show 0 < 9; omega
    | ⟨1, _⟩ => show 0 < 1; omega

/-- A plane of the first scratch array. -/
def planeR (k : Fin 8) : Rect S8x72x128 :=
  Rect.unit (s := S8x72x128) ![k.val, 0, 0] S1x72x128.size (fun a => by
      match a with
      | ⟨0, _⟩ => show k.val + 1 ≤ 8; omega
      | ⟨1, _⟩ => show 0 + 72 ≤ 72; omega
      | ⟨2, _⟩ => show 0 + 128 ≤ 128; omega)

/-- A plane of the second scratch array. -/
def planeC (k : Fin 8) : Rect S8x24x128 :=
  Rect.unit (s := S8x24x128) ![k.val, 0, 0] S1x24x128.size (fun a => by
      match a with
      | ⟨0, _⟩ => show k.val + 1 ≤ 8; omega
      | ⟨1, _⟩ => show 0 + 24 ≤ 24; omega
      | ⟨2, _⟩ => show 0 + 128 ≤ 128; omega)

/-- The store of a group's maxima. -/
def redPiece (k : Fin 8) (m : Nat) (hm : m < 8) (w : FVec F S8x128 .f32) : View.Piece (Elt F) S8x72x128 .f32 :=
  ⟨(planeR k).within ((rowR m hm).consLift ![1, 72, 128] rfl (fun i => by fin_cases i <;> rfl)) (fun _ => rfl),
    Rect.payAlong (r := rowR m hm) (Rect.numel_consLift (rowR m hm) ![1, 72, 128] rfl (fun i => by fin_cases i <;> rfl))
      (shapeCast S8x128 w shapeCasts_S8x128_S8x128)⟩

/-- The eight stores of a tile's maxima, the last first. -/
def redP (k : Fin 8) (v : FVec F S256x128 .f32) : List (View.Piece (Elt F) S8x72x128 .f32) :=
  [redPiece k 7 (by decide) (gmax v 224 232 240 248 slices_S256x128_o224_0_S8x128 slices_S256x128_o232_0_S8x128 slices_S256x128_o240_0_S8x128 slices_S256x128_o248_0_S8x128),
    redPiece k 6 (by decide) (gmax v 192 200 208 216 slices_S256x128_o192_0_S8x128 slices_S256x128_o200_0_S8x128 slices_S256x128_o208_0_S8x128 slices_S256x128_o216_0_S8x128),
    redPiece k 5 (by decide) (gmax v 160 168 176 184 slices_S256x128_o160_0_S8x128 slices_S256x128_o168_0_S8x128 slices_S256x128_o176_0_S8x128 slices_S256x128_o184_0_S8x128),
    redPiece k 4 (by decide) (gmax v 128 136 144 152 slices_S256x128_o128_0_S8x128 slices_S256x128_o136_0_S8x128 slices_S256x128_o144_0_S8x128 slices_S256x128_o152_0_S8x128),
    redPiece k 3 (by decide) (gmax v 96 104 112 120 slices_S256x128_o96_0_S8x128 slices_S256x128_o104_0_S8x128 slices_S256x128_o112_0_S8x128 slices_S256x128_o120_0_S8x128),
    redPiece k 2 (by decide) (gmax v 64 72 80 88 slices_S256x128_o64_0_S8x128 slices_S256x128_o72_0_S8x128 slices_S256x128_o80_0_S8x128 slices_S256x128_o88_0_S8x128),
    redPiece k 1 (by decide) (gmax v 32 40 48 56 slices_S256x128_o32_0_S8x128 slices_S256x128_o40_0_S8x128 slices_S256x128_o48_0_S8x128 slices_S256x128_o56_0_S8x128),
    redPiece k 0 (by decide) (gmax v 0 8 16 24 slices_S256x128_o0_0_S8x128 slices_S256x128_o8_0_S8x128 slices_S256x128_o16_0_S8x128 slices_S256x128_o24_0_S8x128)]

/-- Eight rows of a plane, from row `o`. -/
def rowC (o : Nat) (ho : o + 8 ≤ 24) : Rect S24x128 :=
  Rect.unit (s := S24x128) ![o, 0] S8x128.size (fun a => by
      match a with
      | ⟨0, _⟩ => show o + 8 ≤ 24; omega
      | ⟨1, _⟩ => show 0 + 128 ≤ 128; omega)

/-- The store of a block of constants. -/
def cstPiece (k : Fin 8) (o : Nat) (ho : o + 8 ≤ 24) (w : IVec S8x128 32) : View.Piece (Elt F) S8x24x128 .i32 :=
  ⟨(planeC k).within ((rowC o ho).consLift ![1, 24, 128] rfl (fun i => by fin_cases i <;> rfl)) (fun _ => rfl),
    Rect.payAlong (r := rowC o ho) (Rect.numel_consLift (rowC o ho) ![1, 24, 128] rfl (fun i => by fin_cases i <;> rfl))
      (shapeCast S8x128 w shapeCasts_S8x128_S8x128)⟩

/-- The three stores of a tile's constants, the last first. -/
def cstP (k : Fin 8) (e : IVec S8x128 32) : List (View.Piece (Elt F) S8x24x128 .i32) :=
  [cstPiece k 16 (by decide) (twice (cstC e)), cstPiece k 8 (by decide) (twice (cstB e)), cstPiece k 0 (by decide) (cstA e)]

/-- The stores of the first `n` tiles' maxima. -/
def redL (vs : Fin 8 → FVec F S256x128 .f32) : (n : Nat) → n ≤ 8 → List (View.Piece (Elt F) S8x72x128 .f32)
  | 0, _ => []
  | n + 1, h => redP ⟨n, h⟩ (vs ⟨n, h⟩) ++ redL vs n (Nat.le_of_succ_le h)

/-- The exponents of tile `k`'s scales, from the maxima read back. -/
def eOf (g : View sig .tc .vmem S8x72x128 .f32) (vs : Fin 8 → FVec F S256x128 .f32) (k : Fin 8) : IVec S8x128 32 :=
  e8 (amax (rdR g (redL vs (k.val + 1) k.isLt) k))

/-- The stores of the first `n` tiles' constants. -/
def cstL (g : View sig .tc .vmem S8x72x128 .f32) (vs : Fin 8 → FVec F S256x128 .f32) : (n : Nat) → n ≤ 8 → List (View.Piece (Elt F) S8x24x128 .i32)
  | 0, _ => []
  | n + 1, h => cstP ⟨n, h⟩ (eOf g vs ⟨n, h⟩) ++ cstL g vs n (Nat.le_of_succ_le h)

/-- The values of tile `k`. -/
def tileVals (g : View sig .tc .vmem S8x72x128 .f32) (g' : View sig .tc .vmem S8x24x128 .i32)
    (vs : Fin 8 → FVec F S256x128 .f32) (ws : Fin 8 → IVec S64x128 32) (k : Fin 8) : FVec F S256x128 .bf16 :=
  shapeCast S256x128 (vals (vs k) (ws k) (rdC g' (cstL g vs (k.val + 1) k.isLt) k)) shapeCasts_S256x128_S256x128

/-- The eight stores of the tiles' values, the last first. -/
def wqL (g : View sig .tc .vmem S8x72x128 .f32) (g' : View sig .tc .vmem S8x24x128 .i32)
    (vs : Fin 8 → FVec F S256x128 .f32) (ws : Fin 8 → IVec S64x128 32) : List (View.Piece (Elt F) S512x512 .bf16) :=
  [⟨Rect.unit (s := S512x512) ![256, 384] S256x128.size inb_S512x512_S256x128_256_384, tileVals g g' vs ws 7⟩,
    ⟨Rect.unit (s := S512x512) ![256, 256] S256x128.size inb_S512x512_S256x128_256_256, tileVals g g' vs ws 6⟩,
    ⟨Rect.unit (s := S512x512) ![256, 128] S256x128.size inb_S512x512_S256x128_256_128, tileVals g g' vs ws 5⟩,
    ⟨Rect.unit (s := S512x512) ![256, 0] S256x128.size inb_S512x512_S256x128_256_0, tileVals g g' vs ws 4⟩,
    ⟨Rect.unit (s := S512x512) ![0, 384] S256x128.size inb_S512x512_S256x128_0_384, tileVals g g' vs ws 3⟩,
    ⟨Rect.unit (s := S512x512) ![0, 256] S256x128.size inb_S512x512_S256x128_0_256, tileVals g g' vs ws 2⟩,
    ⟨Rect.unit (s := S512x512) ![0, 128] S256x128.size inb_S512x512_S256x128_0_128, tileVals g g' vs ws 1⟩,
    ⟨Rect.unit (s := S512x512) ![0, 0] S256x128.size inb_S512x512_S256x128_0_0, tileVals g g' vs ws 0⟩]

/-- The rotated block of `w`. -/
def vT (h w : Vec F S256x256 .bf16) : FVec F S256x256 .f32 :=
  matmul dot_S256x256_S256x256_S256x256_1_1_0_0_n_n none h w (constant S256x256 .f32 0x00000000#32)

/-- The random bits of a block, four to a word. -/
def bT (r : Vec F S256x256 .i8) : IVec S64x256 32 :=
  bitcast S64x256 32 (transpose S256x256 [1, 0] r transposes_S256x256_p1_0_S256x256) bitcasts_S256x256_w8_S64x256_w32

/-- The eight tiles of the rotated block of 512 × 512, -/
def vsOf (h : Vec F S256x256 .bf16) (w00 w10 w01 w11 : Vec F S256x256 .bf16) : Fin 8 → FVec F S256x128 .f32 :=
  ![extractStridedSlice S256x128 ![0, 0] (vT h w00) slices_S256x256_o0_0_S256x128,
    extractStridedSlice S256x128 ![0, 128] (vT h w00) slices_S256x256_o0_128_S256x128,
    extractStridedSlice S256x128 ![0, 0] (vT h w10) slices_S256x256_o0_0_S256x128,
    extractStridedSlice S256x128 ![0, 128] (vT h w10) slices_S256x256_o0_128_S256x128,
    extractStridedSlice S256x128 ![0, 0] (vT h w01) slices_S256x256_o0_0_S256x128,
    extractStridedSlice S256x128 ![0, 128] (vT h w01) slices_S256x256_o0_128_S256x128,
    extractStridedSlice S256x128 ![0, 0] (vT h w11) slices_S256x256_o0_0_S256x128,
    extractStridedSlice S256x128 ![0, 128] (vT h w11) slices_S256x256_o0_128_S256x128]
/-- and of its random words. -/
def wsOf (w00 w10 w01 w11 : Vec F S256x256 .i8) : Fin 8 → IVec S64x128 32 :=
  ![extractStridedSlice S64x128 ![0, 0] (bT (F := F) w00) slices_S64x256_o0_0_S64x128,
    extractStridedSlice S64x128 ![0, 128] (bT (F := F) w00) slices_S64x256_o0_128_S64x128,
    extractStridedSlice S64x128 ![0, 0] (bT (F := F) w10) slices_S64x256_o0_0_S64x128,
    extractStridedSlice S64x128 ![0, 128] (bT (F := F) w10) slices_S64x256_o0_128_S64x128,
    extractStridedSlice S64x128 ![0, 0] (bT (F := F) w01) slices_S64x256_o0_0_S64x128,
    extractStridedSlice S64x128 ![0, 128] (bT (F := F) w01) slices_S64x256_o0_128_S64x128,
    extractStridedSlice S64x128 ![0, 0] (bT (F := F) w11) slices_S64x256_o0_0_S64x128,
    extractStridedSlice S64x128 ![0, 128] (bT (F := F) w11) slices_S64x256_o0_128_S64x128]

/-- One step of the accumulation. -/
def accStep (a : Vec F S256x512 .f32) (q : Vec F S256x512 .bf16) (wq : Vec F S512x512 .bf16) : FVec F S256x512 .f32 :=
  shapeCast S256x512 (addf a (matmul dot_S256x512_S512x512_S256x512_1_0_0_1_n_n none q wq (constant S256x512 .f32 0x00000000#32))) shapeCasts_S256x512_S256x512

end Cert.KernelIdeal.Dw

end
-- ==== Proof.Step.lean ====
/- The step the body adds to its accumulator, as the structured function of Quant.lean: the run's own words are these
   operations. -/
module

public import proofs.«01_k».proof.Proof.RunFirst
public import proofs.«01_k».proof.Proof.RunMiddle
public import proofs.«01_k».proof.Proof.RunLast
public import proofs.«01_k».proof.Proof.Quant

@[expose] public section

-- the long axes of the staged arrays: an index into them is looked through coordinate by coordinate
set_option maxRecDepth 65536

noncomputable section

namespace Cert.KernelIdeal.Dw

open Cert.KernelIdeal.Gen
open Idealize.ShloMosaic Idealize.ShloMosaic.TcCoe Idealize.ShloMosaic.Tactic

variable {F : FTy → Type} [FloatOps F]

/-- What `runFirst` leaves in the accumulator. -/
theorem acc_First (c : Dev nD) (i : grid0.Coords) (arg2 : Memref sig .tc .vmem S512x512 .bf16) (harg2 : arg2.IsWhole) (arg3 : Memref sig .tc .vmem S512x512 .i8) (harg3 : arg3.IsWhole) (arg4 : Memref sig .tc .vmem S256x18944 .bf16) (harg4 : arg4.IsWhole) (arg5 : Memref sig .tc .vmem S256x18944 .bf16) (harg5 : arg5.IsWhole) (arg6 : Memref sig .tc .vmem S512x256 .bf16) (harg6 : arg6.IsWhole) (arg7 : Memref sig .tc .vmem S256x256 .bf16) (harg7 : arg7.IsWhole) (arg8 : Memref sig .tc .vmem S256x512 .bf16) (harg8 : arg8.IsWhole) (arg9 : Memref sig .tc .vmem S512x512 .f32) (harg9 : arg9.IsWhole) (arg10 : Memref sig .tc .vmem S512x256 .i8) (harg10 : arg10.IsWhole) (arg11 : Memref sig .tc .vmem S512x592 .i8) (harg11 : arg11.IsWhole) (arg12 : Memref sig .tc .vmem S256x512 .f32) (harg12 : arg12.IsWhole) (arg13 : Memref sig .tc .vmem S512x512 .bf16) (harg13 : arg13.IsWhole) (arg14 : Memref sig .tc .vmem S8x72x128 .f32) (harg14 : arg14.IsWhole) (arg15 : Memref sig .tc .vmem S8x24x128 .i32) (harg15 : arg15.IsWhole) (arg16 : Memref sig .tc .vmem S37x16x512 .i32) (harg16 : arg16.IsWhole) (hc0 : cond0_0 i) (hc1 : ¬cond0_1 i)
    (x0 : Vec F S512x512 .bf16) (x1 : Vec F S512x512 .i8) (x2 : Vec F S256x18944 .bf16) (x3 : Vec F S256x18944 .bf16) (x4 : Vec F S512x256 .bf16) (x5 : Vec F S256x256 .bf16) (x6 : Vec F S256x512 .bf16) :
    (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6).2.1
      = [⟨Rect.unit (s := S256x512) ![0, 0] S256x512.size inb_S256x512_S256x512_0_0,
          accStep (arg12.view.readCov [(⟨Rect.unit (s := S256x512) ![0, 0] S256x512.size inb_S256x512_S256x512_0_0, k0_pay4⟩ : View.Piece (Elt F) S256x512 .f32)] (Rect.unit (s := S256x512) ![0, 0] S256x512.size inb_S256x512_S256x512_0_0).toLoadRect)
            (View.readAt (Elt F) arg4.view (Rect.unit (s := S256x18944) (k0_off10 i) S256x512.size (k0_off10_inb i)).toLoadRect (harg4.unread x2))
            (arg13.view.readCov (wqL arg14.view arg15.view
              (vsOf (View.readAt (Elt F) arg7.view (Rect.unit (s := S256x256) ![0, 0] S256x256.size inb_S256x256_S256x256_0_0).toLoadRect (harg7.unread x5)) (View.readAt (Elt F) arg2.view (Rect.unit (s := S512x512) ![0, 0] S256x256.size inb_S512x512_S256x256_0_0).toLoadRect (harg2.unread x0)) (View.readAt (Elt F) arg2.view (Rect.unit (s := S512x512) ![256, 0] S256x256.size inb_S512x512_S256x256_256_0).toLoadRect (harg2.unread x0)) (View.readAt (Elt F) arg2.view (Rect.unit (s := S512x512) ![0, 256] S256x256.size inb_S512x512_S256x256_0_256).toLoadRect (harg2.unread x0)) (View.readAt (Elt F) arg2.view (Rect.unit (s := S512x512) ![256, 256] S256x256.size inb_S512x512_S256x256_256_256).toLoadRect (harg2.unread x0)))
              (wsOf (F := F) (View.readAt (Elt F) arg3.view (Rect.unit (s := S512x512) ![0, 0] S256x256.size inb_S512x512_S256x256_0_0).toLoadRect (harg3.unread x1)) (View.readAt (Elt F) arg3.view (Rect.unit (s := S512x512) ![256, 0] S256x256.size inb_S512x512_S256x256_256_0).toLoadRect (harg3.unread x1)) (View.readAt (Elt F) arg3.view (Rect.unit (s := S512x512) ![0, 256] S256x256.size inb_S512x512_S256x256_0_256).toLoadRect (harg3.unread x1)) (View.readAt (Elt F) arg3.view (Rect.unit (s := S512x512) ![256, 256] S256x256.size inb_S512x512_S256x256_256_256).toLoadRect (harg3.unread x1))))
              (Rect.unit (s := S512x512) ![0, 0] S512x512.size inb_S512x512_S512x512_0_0).toLoadRect)⟩,
        ⟨Rect.unit (s := S256x512) ![0, 0] S256x512.size inb_S256x512_S256x512_0_0, k0_pay4⟩] := by sl_kernel_rfl

/-- What `runMiddle` leaves in the accumulator. -/
theorem acc_Middle (c : Dev nD) (i : grid0.Coords) (arg2 : Memref sig .tc .vmem S512x512 .bf16) (harg2 : arg2.IsWhole) (arg3 : Memref sig .tc .vmem S512x512 .i8) (harg3 : arg3.IsWhole) (arg4 : Memref sig .tc .vmem S256x18944 .bf16) (harg4 : arg4.IsWhole) (arg5 : Memref sig .tc .vmem S256x18944 .bf16) (harg5 : arg5.IsWhole) (arg6 : Memref sig .tc .vmem S512x256 .bf16) (harg6 : arg6.IsWhole) (arg7 : Memref sig .tc .vmem S256x256 .bf16) (harg7 : arg7.IsWhole) (arg8 : Memref sig .tc .vmem S256x512 .bf16) (harg8 : arg8.IsWhole) (arg9 : Memref sig .tc .vmem S512x512 .f32) (harg9 : arg9.IsWhole) (arg10 : Memref sig .tc .vmem S512x256 .i8) (harg10 : arg10.IsWhole) (arg11 : Memref sig .tc .vmem S512x592 .i8) (harg11 : arg11.IsWhole) (arg12 : Memref sig .tc .vmem S256x512 .f32) (harg12 : arg12.IsWhole) (arg13 : Memref sig .tc .vmem S512x512 .bf16) (harg13 : arg13.IsWhole) (arg14 : Memref sig .tc .vmem S8x72x128 .f32) (harg14 : arg14.IsWhole) (arg15 : Memref sig .tc .vmem S8x24x128 .i32) (harg15 : arg15.IsWhole) (arg16 : Memref sig .tc .vmem S37x16x512 .i32) (harg16 : arg16.IsWhole) (hc0 : ¬cond0_0 i) (hc1 : ¬cond0_1 i)
    (x0 : Vec F S512x512 .bf16) (x1 : Vec F S512x512 .i8) (x2 : Vec F S256x18944 .bf16) (x3 : Vec F S256x18944 .bf16) (x4 : Vec F S512x256 .bf16) (x5 : Vec F S256x256 .bf16) (xs0 : Vec F S256x512 .f32) (x6 : Vec F S256x512 .bf16) :
    (runMiddle c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 x6).2.1
      = [⟨Rect.unit (s := S256x512) ![0, 0] S256x512.size inb_S256x512_S256x512_0_0,
          accStep (View.readAt (Elt F) arg12.view (Rect.unit (s := S256x512) ![0, 0] S256x512.size inb_S256x512_S256x512_0_0).toLoadRect (harg12.unread xs0))
            (View.readAt (Elt F) arg4.view (Rect.unit (s := S256x18944) (k0_off10 i) S256x512.size (k0_off10_inb i)).toLoadRect (harg4.unread x2))
            (arg13.view.readCov (wqL arg14.view arg15.view
              (vsOf (View.readAt (Elt F) arg7.view (Rect.unit (s := S256x256) ![0, 0] S256x256.size inb_S256x256_S256x256_0_0).toLoadRect (harg7.unread x5)) (View.readAt (Elt F) arg2.view (Rect.unit (s := S512x512) ![0, 0] S256x256.size inb_S512x512_S256x256_0_0).toLoadRect (harg2.unread x0)) (View.readAt (Elt F) arg2.view (Rect.unit (s := S512x512) ![256, 0] S256x256.size inb_S512x512_S256x256_256_0).toLoadRect (harg2.unread x0)) (View.readAt (Elt F) arg2.view (Rect.unit (s := S512x512) ![0, 256] S256x256.size inb_S512x512_S256x256_0_256).toLoadRect (harg2.unread x0)) (View.readAt (Elt F) arg2.view (Rect.unit (s := S512x512) ![256, 256] S256x256.size inb_S512x512_S256x256_256_256).toLoadRect (harg2.unread x0)))
              (wsOf (F := F) (View.readAt (Elt F) arg3.view (Rect.unit (s := S512x512) ![0, 0] S256x256.size inb_S512x512_S256x256_0_0).toLoadRect (harg3.unread x1)) (View.readAt (Elt F) arg3.view (Rect.unit (s := S512x512) ![256, 0] S256x256.size inb_S512x512_S256x256_256_0).toLoadRect (harg3.unread x1)) (View.readAt (Elt F) arg3.view (Rect.unit (s := S512x512) ![0, 256] S256x256.size inb_S512x512_S256x256_0_256).toLoadRect (harg3.unread x1)) (View.readAt (Elt F) arg3.view (Rect.unit (s := S512x512) ![256, 256] S256x256.size inb_S512x512_S256x256_256_256).toLoadRect (harg3.unread x1))))
              (Rect.unit (s := S512x512) ![0, 0] S512x512.size inb_S512x512_S512x512_0_0).toLoadRect)⟩] := by sl_kernel_rfl

/-- What `runLast` leaves in the accumulator. -/
theorem acc_Last (c : Dev nD) (i : grid0.Coords) (arg2 : Memref sig .tc .vmem S512x512 .bf16) (harg2 : arg2.IsWhole) (arg3 : Memref sig .tc .vmem S512x512 .i8) (harg3 : arg3.IsWhole) (arg4 : Memref sig .tc .vmem S256x18944 .bf16) (harg4 : arg4.IsWhole) (arg5 : Memref sig .tc .vmem S256x18944 .bf16) (harg5 : arg5.IsWhole) (arg6 : Memref sig .tc .vmem S512x256 .bf16) (harg6 : arg6.IsWhole) (arg7 : Memref sig .tc .vmem S256x256 .bf16) (harg7 : arg7.IsWhole) (arg8 : Memref sig .tc .vmem S256x512 .bf16) (harg8 : arg8.IsWhole) (arg9 : Memref sig .tc .vmem S512x512 .f32) (harg9 : arg9.IsWhole) (arg10 : Memref sig .tc .vmem S512x256 .i8) (harg10 : arg10.IsWhole) (arg11 : Memref sig .tc .vmem S512x592 .i8) (harg11 : arg11.IsWhole) (arg12 : Memref sig .tc .vmem S256x512 .f32) (harg12 : arg12.IsWhole) (arg13 : Memref sig .tc .vmem S512x512 .bf16) (harg13 : arg13.IsWhole) (arg14 : Memref sig .tc .vmem S8x72x128 .f32) (harg14 : arg14.IsWhole) (arg15 : Memref sig .tc .vmem S8x24x128 .i32) (harg15 : arg15.IsWhole) (arg16 : Memref sig .tc .vmem S37x16x512 .i32) (harg16 : arg16.IsWhole) (hc0 : ¬cond0_0 i) (hc1 : cond0_1 i)
    (x0 : Vec F S512x512 .bf16) (x1 : Vec F S512x512 .i8) (x2 : Vec F S256x18944 .bf16) (x3 : Vec F S256x18944 .bf16) (x4 : Vec F S512x256 .bf16) (x5 : Vec F S256x256 .bf16) (xs0 : Vec F S256x512 .f32) :
    (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0).2.2.1
      = [⟨Rect.unit (s := S256x512) ![0, 0] S256x512.size inb_S256x512_S256x512_0_0,
          accStep (View.readAt (Elt F) arg12.view (Rect.unit (s := S256x512) ![0, 0] S256x512.size inb_S256x512_S256x512_0_0).toLoadRect (harg12.unread xs0))
            (View.readAt (Elt F) arg4.view (Rect.unit (s := S256x18944) (k0_off10 i) S256x512.size (k0_off10_inb i)).toLoadRect (harg4.unread x2))
            (arg13.view.readCov (wqL arg14.view arg15.view
              (vsOf (View.readAt (Elt F) arg7.view (Rect.unit (s := S256x256) ![0, 0] S256x256.size inb_S256x256_S256x256_0_0).toLoadRect (harg7.unread x5)) (View.readAt (Elt F) arg2.view (Rect.unit (s := S512x512) ![0, 0] S256x256.size inb_S512x512_S256x256_0_0).toLoadRect (harg2.unread x0)) (View.readAt (Elt F) arg2.view (Rect.unit (s := S512x512) ![256, 0] S256x256.size inb_S512x512_S256x256_256_0).toLoadRect (harg2.unread x0)) (View.readAt (Elt F) arg2.view (Rect.unit (s := S512x512) ![0, 256] S256x256.size inb_S512x512_S256x256_0_256).toLoadRect (harg2.unread x0)) (View.readAt (Elt F) arg2.view (Rect.unit (s := S512x512) ![256, 256] S256x256.size inb_S512x512_S256x256_256_256).toLoadRect (harg2.unread x0)))
              (wsOf (F := F) (View.readAt (Elt F) arg3.view (Rect.unit (s := S512x512) ![0, 0] S256x256.size inb_S512x512_S256x256_0_0).toLoadRect (harg3.unread x1)) (View.readAt (Elt F) arg3.view (Rect.unit (s := S512x512) ![256, 0] S256x256.size inb_S512x512_S256x256_256_0).toLoadRect (harg3.unread x1)) (View.readAt (Elt F) arg3.view (Rect.unit (s := S512x512) ![0, 256] S256x256.size inb_S512x512_S256x256_0_256).toLoadRect (harg3.unread x1)) (View.readAt (Elt F) arg3.view (Rect.unit (s := S512x512) ![256, 256] S256x256.size inb_S512x512_S256x256_256_256).toLoadRect (harg3.unread x1))))
              (Rect.unit (s := S512x512) ![0, 0] S512x512.size inb_S512x512_S512x512_0_0).toLoadRect)⟩] := by sl_kernel_rfl

end Cert.KernelIdeal.Dw

end
-- ==== Proof.Tiles.lean ====
/- What one run of the body leaves in `dw`'s block, whichever way its conditionals go: four tiles. -/
module

public import proofs.«01_k».proof.Proof.Pieces
public import proofs.«01_k».proof.Proof.Step
public import proofs.«01_k».proof.Proof.RunFirst
public import proofs.«01_k».proof.Proof.RunMiddle
public import proofs.«01_k».proof.Proof.RunLast
public import Idealize.ShloMosaic.Lib.Pipeline.ValueKit

@[expose] public section

-- the long axes of the staged arrays: an index into them is looked through coordinate by coordinate
set_option maxRecDepth 16384

noncomputable section

namespace Cert.KernelIdeal.Dw

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The values of the four bit floats of one step's block of `w`, from the rotated block's tiles and their random words. -/
def wqOf (g13 : View sig .tc .vmem S512x512 .bf16) (g14 : View sig .tc .vmem S8x72x128 .f32) (g15 : View sig .tc .vmem S8x24x128 .i32)
    (x0 : Vec F S512x512 .bf16) (x1 : Vec F S512x512 .i8) (x5 : Vec F S256x256 .bf16) : Vec F S512x512 .bf16 :=
  g13.readCov (wqL g14 g15
    (vsOf x5 (View.ld x0 (Rect.unit (s := S512x512) ![0, 0] S256x256.size inb_S512x512_S256x256_0_0))
      (View.ld x0 (Rect.unit (s := S512x512) ![256, 0] S256x256.size inb_S512x512_S256x256_256_0))
      (View.ld x0 (Rect.unit (s := S512x512) ![0, 256] S256x256.size inb_S512x512_S256x256_0_256))
      (View.ld x0 (Rect.unit (s := S512x512) ![256, 256] S256x256.size inb_S512x512_S256x256_256_256)))
    (wsOf (F := F) (View.ld (Val := Elt F) x1 (Rect.unit (s := S512x512) ![0, 0] S256x256.size inb_S512x512_S256x256_0_0))
      (View.ld (Val := Elt F) x1 (Rect.unit (s := S512x512) ![256, 0] S256x256.size inb_S512x512_S256x256_256_0))
      (View.ld (Val := Elt F) x1 (Rect.unit (s := S512x512) ![0, 256] S256x256.size inb_S512x512_S256x256_0_256))
      (View.ld (Val := Elt F) x1 (Rect.unit (s := S512x512) ![256, 256] S256x256.size inb_S512x512_S256x256_256_256))))
    (Rect.unit (s := S512x512) ![0, 0] S512x512.size inb_S512x512_S512x512_0_0).toLoadRect

/-- One step of the accumulation of `dx`, on the step's blocks. -/
def accNext (g13 : View sig .tc .vmem S512x512 .bf16) (g14 : View sig .tc .vmem S8x72x128 .f32) (g15 : View sig .tc .vmem S8x24x128 .i32)
    (i : grid0.Coords) (x0 : Vec F S512x512 .bf16) (x1 : Vec F S512x512 .i8) (x2 : Vec F S256x18944 .bf16) (x5 : Vec F S256x256 .bf16)
    (a : Vec F S256x512 .f32) : Vec F S256x512 .f32 :=
  accStep a (View.ld x2 (Rect.unit (s := S256x18944) (k0_off10 i) S256x512.size (k0_off10_inb i))) (wqOf g13 g14 g15 x0 x1 x5)

theorem z2 : ∀ a : Fin 2, (![0, 0] : Fin 2 → ℕ) a = 0 := by decide

/-- A write of the whole accumulator covers it. -/
theorem whole_cover (w : Vec F S256x512 .f32) (L : List (View.Piece (Elt F) S256x512 .f32)) :
    ∀ y : S256x512.Idx, ∃ p ∈ ((⟨Rect.unit (s := S256x512) ![0, 0] S256x512.size inb_S256x512_S256x512_0_0, w⟩ : View.Piece (Elt F) S256x512 .f32) :: L), y ∈ p.1.set :=
  View.cover_of_wholeMem _ (View.Piece.wholeMem_here rfl)

theorem whole_cover_bf (w : Vec F S256x512 .bf16) (L : List (View.Piece (Elt F) S256x512 .bf16)) :
    ∀ y : S256x512.Idx, ∃ p ∈ ((⟨Rect.unit (s := S256x512) ![0, 0] S256x512.size inb_S256x512_S256x512_0_0, w⟩ : View.Piece (Elt F) S256x512 .bf16) :: L), y ∈ p.1.set :=
  View.cover_of_wholeMem _ (View.Piece.wholeMem_here rfl)

/-- The pieces the run `runFirst` finds in `dw`'s buffer are `dwPieces`. -/
theorem pieces_First (c : Dev nD) (i : grid0.Coords) (arg2 : Memref sig .tc .vmem S512x512 .bf16) (harg2 : arg2.IsWhole) (arg3 : Memref sig .tc .vmem S512x512 .i8) (harg3 : arg3.IsWhole) (arg4 : Memref sig .tc .vmem S256x18944 .bf16) (harg4 : arg4.IsWhole) (arg5 : Memref sig .tc .vmem S256x18944 .bf16) (harg5 : arg5.IsWhole) (arg6 : Memref sig .tc .vmem S512x256 .bf16) (harg6 : arg6.IsWhole) (arg7 : Memref sig .tc .vmem S256x256 .bf16) (harg7 : arg7.IsWhole) (arg8 : Memref sig .tc .vmem S256x512 .bf16) (harg8 : arg8.IsWhole) (arg9 : Memref sig .tc .vmem S512x512 .f32) (harg9 : arg9.IsWhole) (arg10 : Memref sig .tc .vmem S512x256 .i8) (harg10 : arg10.IsWhole) (arg11 : Memref sig .tc .vmem S512x592 .i8) (harg11 : arg11.IsWhole) (arg12 : Memref sig .tc .vmem S256x512 .f32) (harg12 : arg12.IsWhole) (arg13 : Memref sig .tc .vmem S512x512 .bf16) (harg13 : arg13.IsWhole) (arg14 : Memref sig .tc .vmem S8x72x128 .f32) (harg14 : arg14.IsWhole) (arg15 : Memref sig .tc .vmem S8x24x128 .i32) (harg15 : arg15.IsWhole) (arg16 : Memref sig .tc .vmem S37x16x512 .i32) (harg16 : arg16.IsWhole) (hc0 : cond0_0 i) (hc1 : ¬cond0_1 i)
    (x0 : Vec F S512x512 .bf16) (x1 : Vec F S512x512 .i8) (x2 : Vec F S256x18944 .bf16) (x3 : Vec F S256x18944 .bf16) (x4 : Vec F S512x256 .bf16) (x5 : Vec F S256x256 .bf16) (x6 : Vec F S256x512 .bf16) :
    (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6).1 = dwPieces i x3 x4 := by
  unfold runFirst dwPieces
  sl_unfold_words
  simp only [View.readAt_eq_ld, Memref.IsWhole.read_unread]

/-- What the run `runFirst` leaves in the accumulator is `accNext`. -/
theorem canon_First (c : Dev nD) (i : grid0.Coords) (arg2 : Memref sig .tc .vmem S512x512 .bf16) (harg2 : arg2.IsWhole) (arg3 : Memref sig .tc .vmem S512x512 .i8) (harg3 : arg3.IsWhole) (arg4 : Memref sig .tc .vmem S256x18944 .bf16) (harg4 : arg4.IsWhole) (arg5 : Memref sig .tc .vmem S256x18944 .bf16) (harg5 : arg5.IsWhole) (arg6 : Memref sig .tc .vmem S512x256 .bf16) (harg6 : arg6.IsWhole) (arg7 : Memref sig .tc .vmem S256x256 .bf16) (harg7 : arg7.IsWhole) (arg8 : Memref sig .tc .vmem S256x512 .bf16) (harg8 : arg8.IsWhole) (arg9 : Memref sig .tc .vmem S512x512 .f32) (harg9 : arg9.IsWhole) (arg10 : Memref sig .tc .vmem S512x256 .i8) (harg10 : arg10.IsWhole) (arg11 : Memref sig .tc .vmem S512x592 .i8) (harg11 : arg11.IsWhole) (arg12 : Memref sig .tc .vmem S256x512 .f32) (harg12 : arg12.IsWhole) (arg13 : Memref sig .tc .vmem S512x512 .bf16) (harg13 : arg13.IsWhole) (arg14 : Memref sig .tc .vmem S8x72x128 .f32) (harg14 : arg14.IsWhole) (arg15 : Memref sig .tc .vmem S8x24x128 .i32) (harg15 : arg15.IsWhole) (arg16 : Memref sig .tc .vmem S37x16x512 .i32) (harg16 : arg16.IsWhole) (hc0 : cond0_0 i) (hc1 : ¬cond0_1 i)
    (x0 : Vec F S512x512 .bf16) (x1 : Vec F S512x512 .i8) (x2 : Vec F S256x18944 .bf16) (x3 : Vec F S256x18944 .bf16) (x4 : Vec F S512x256 .bf16) (x5 : Vec F S256x256 .bf16) (x6 : Vec F S256x512 .bf16) :
    View.canon (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6).2.1 = (accNext arg13.view arg14.view arg15.view i x0 x1 x2 x5 (k0_pay4 (F := F))) := by
  rw [acc_First, View.canon_cons_unit_lit' _ _ _ z2]
  unfold accNext wqOf
  rw [View.readCov_unit_lit' _ _ _ z2]
  simp only [View.readAt_eq_ld, Memref.IsWhole.read_unread]
  rw [View.ld_unit_lit' _ x5 z2]

/-- The pieces the run `runFirst` finds in the accumulator cover it. -/
theorem cover_First (c : Dev nD) (i : grid0.Coords) (arg2 : Memref sig .tc .vmem S512x512 .bf16) (harg2 : arg2.IsWhole) (arg3 : Memref sig .tc .vmem S512x512 .i8) (harg3 : arg3.IsWhole) (arg4 : Memref sig .tc .vmem S256x18944 .bf16) (harg4 : arg4.IsWhole) (arg5 : Memref sig .tc .vmem S256x18944 .bf16) (harg5 : arg5.IsWhole) (arg6 : Memref sig .tc .vmem S512x256 .bf16) (harg6 : arg6.IsWhole) (arg7 : Memref sig .tc .vmem S256x256 .bf16) (harg7 : arg7.IsWhole) (arg8 : Memref sig .tc .vmem S256x512 .bf16) (harg8 : arg8.IsWhole) (arg9 : Memref sig .tc .vmem S512x512 .f32) (harg9 : arg9.IsWhole) (arg10 : Memref sig .tc .vmem S512x256 .i8) (harg10 : arg10.IsWhole) (arg11 : Memref sig .tc .vmem S512x592 .i8) (harg11 : arg11.IsWhole) (arg12 : Memref sig .tc .vmem S256x512 .f32) (harg12 : arg12.IsWhole) (arg13 : Memref sig .tc .vmem S512x512 .bf16) (harg13 : arg13.IsWhole) (arg14 : Memref sig .tc .vmem S8x72x128 .f32) (harg14 : arg14.IsWhole) (arg15 : Memref sig .tc .vmem S8x24x128 .i32) (harg15 : arg15.IsWhole) (arg16 : Memref sig .tc .vmem S37x16x512 .i32) (harg16 : arg16.IsWhole) (hc0 : cond0_0 i) (hc1 : ¬cond0_1 i)
    (x0 : Vec F S512x512 .bf16) (x1 : Vec F S512x512 .i8) (x2 : Vec F S256x18944 .bf16) (x3 : Vec F S256x18944 .bf16) (x4 : Vec F S512x256 .bf16) (x5 : Vec F S256x256 .bf16) (x6 : Vec F S256x512 .bf16) :
    ∀ y, ∃ p ∈ (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6).2.1, y ∈ p.1.set := by
  rw [acc_First]
  exact whole_cover _ _

set_option maxHeartbeats 4000000 in
/-- The body run there, from named contents to named contents. -/
theorem ends_First (c : Dev nD) (i : grid0.Coords) (arg2 : Memref sig .tc .vmem S512x512 .bf16) (harg2 : arg2.IsWhole) (arg3 : Memref sig .tc .vmem S512x512 .i8) (harg3 : arg3.IsWhole) (arg4 : Memref sig .tc .vmem S256x18944 .bf16) (harg4 : arg4.IsWhole) (arg5 : Memref sig .tc .vmem S256x18944 .bf16) (harg5 : arg5.IsWhole) (arg6 : Memref sig .tc .vmem S512x256 .bf16) (harg6 : arg6.IsWhole) (arg7 : Memref sig .tc .vmem S256x256 .bf16) (harg7 : arg7.IsWhole) (arg8 : Memref sig .tc .vmem S256x512 .bf16) (harg8 : arg8.IsWhole) (arg9 : Memref sig .tc .vmem S512x512 .f32) (harg9 : arg9.IsWhole) (arg10 : Memref sig .tc .vmem S512x256 .i8) (harg10 : arg10.IsWhole) (arg11 : Memref sig .tc .vmem S512x592 .i8) (harg11 : arg11.IsWhole) (arg12 : Memref sig .tc .vmem S256x512 .f32) (harg12 : arg12.IsWhole) (arg13 : Memref sig .tc .vmem S512x512 .bf16) (harg13 : arg13.IsWhole) (arg14 : Memref sig .tc .vmem S8x72x128 .f32) (harg14 : arg14.IsWhole) (arg15 : Memref sig .tc .vmem S8x24x128 .i32) (harg15 : arg15.IsWhole) (arg16 : Memref sig .tc .vmem S37x16x512 .i32) (harg16 : arg16.IsWhole) (hc0 : cond0_0 i) (hc1 : ¬cond0_1 i)
    (x0 : Vec F S512x512 .bf16) (x1 : Vec F S512x512 .i8) (x2 : Vec F S256x18944 .bf16) (x3 : Vec F S256x18944 .bf16) (x4 : Vec F S512x256 .bf16) (x5 : Vec F S256x256 .bf16) (x6 : Vec F S256x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (View.canon (dwPieces i x3 x4)) ∗ (∃ d, owns (c : Thread nD τ) arg10 fullShare d) ∗ (∃ d, owns (c : Thread nD τ) arg11 fullShare d) ∗ owns (c : Thread nD τ) arg12 fullShare (accNext arg13.view arg14.view arg15.view i x0 x1 x2 x5 (k0_pay4 (F := F))) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  have h := (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6).2.2 E K
  refine BIBase.Entails.trans ?_ h
  iintro ⟨H2, H3, H4, H5, H6, H7, H8, H9, H10, H11, H12, H13, H14, H15, H16, HK⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, H8, ⟨%e9, H9⟩, H10, H11, ⟨%e12, H12⟩, H13, H14, H15, H16⟩
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; rw [← pieces_First c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6]; exact View.read_writes_eq_canon _ _ _ (by rw [pieces_First]; exact dwPieces_cover _ _ _)
  isplitl [H10]; · iexact H10
  isplitl [H11]; · iexact H11
  isplitl [H12]
  · unfold owns; iexists _; isplitr
    swap; · iexact H12
    ipureintro; rw [← canon_First c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6]; exact View.read_writes_eq_canon _ _ _ (cover_First c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6)
  isplitl [H13]; · iexact H13
  isplitl [H14]; · iexact H14
  isplitl [H15]; · iexact H15
  iexact H16

/-- The pieces the run `runMiddle` finds in `dw`'s buffer are `dwPieces`. -/
theorem pieces_Middle (c : Dev nD) (i : grid0.Coords) (arg2 : Memref sig .tc .vmem S512x512 .bf16) (harg2 : arg2.IsWhole) (arg3 : Memref sig .tc .vmem S512x512 .i8) (harg3 : arg3.IsWhole) (arg4 : Memref sig .tc .vmem S256x18944 .bf16) (harg4 : arg4.IsWhole) (arg5 : Memref sig .tc .vmem S256x18944 .bf16) (harg5 : arg5.IsWhole) (arg6 : Memref sig .tc .vmem S512x256 .bf16) (harg6 : arg6.IsWhole) (arg7 : Memref sig .tc .vmem S256x256 .bf16) (harg7 : arg7.IsWhole) (arg8 : Memref sig .tc .vmem S256x512 .bf16) (harg8 : arg8.IsWhole) (arg9 : Memref sig .tc .vmem S512x512 .f32) (harg9 : arg9.IsWhole) (arg10 : Memref sig .tc .vmem S512x256 .i8) (harg10 : arg10.IsWhole) (arg11 : Memref sig .tc .vmem S512x592 .i8) (harg11 : arg11.IsWhole) (arg12 : Memref sig .tc .vmem S256x512 .f32) (harg12 : arg12.IsWhole) (arg13 : Memref sig .tc .vmem S512x512 .bf16) (harg13 : arg13.IsWhole) (arg14 : Memref sig .tc .vmem S8x72x128 .f32) (harg14 : arg14.IsWhole) (arg15 : Memref sig .tc .vmem S8x24x128 .i32) (harg15 : arg15.IsWhole) (arg16 : Memref sig .tc .vmem S37x16x512 .i32) (harg16 : arg16.IsWhole) (hc0 : ¬cond0_0 i) (hc1 : ¬cond0_1 i)
    (x0 : Vec F S512x512 .bf16) (x1 : Vec F S512x512 .i8) (x2 : Vec F S256x18944 .bf16) (x3 : Vec F S256x18944 .bf16) (x4 : Vec F S512x256 .bf16) (x5 : Vec F S256x256 .bf16) (xs0 : Vec F S256x512 .f32) (x6 : Vec F S256x512 .bf16) :
    (runMiddle c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 x6).1 = dwPieces i x3 x4 := by
  unfold runMiddle dwPieces
  sl_unfold_words
  simp only [View.readAt_eq_ld, Memref.IsWhole.read_unread]

/-- What the run `runMiddle` leaves in the accumulator is `accNext`. -/
theorem canon_Middle (c : Dev nD) (i : grid0.Coords) (arg2 : Memref sig .tc .vmem S512x512 .bf16) (harg2 : arg2.IsWhole) (arg3 : Memref sig .tc .vmem S512x512 .i8) (harg3 : arg3.IsWhole) (arg4 : Memref sig .tc .vmem S256x18944 .bf16) (harg4 : arg4.IsWhole) (arg5 : Memref sig .tc .vmem S256x18944 .bf16) (harg5 : arg5.IsWhole) (arg6 : Memref sig .tc .vmem S512x256 .bf16) (harg6 : arg6.IsWhole) (arg7 : Memref sig .tc .vmem S256x256 .bf16) (harg7 : arg7.IsWhole) (arg8 : Memref sig .tc .vmem S256x512 .bf16) (harg8 : arg8.IsWhole) (arg9 : Memref sig .tc .vmem S512x512 .f32) (harg9 : arg9.IsWhole) (arg10 : Memref sig .tc .vmem S512x256 .i8) (harg10 : arg10.IsWhole) (arg11 : Memref sig .tc .vmem S512x592 .i8) (harg11 : arg11.IsWhole) (arg12 : Memref sig .tc .vmem S256x512 .f32) (harg12 : arg12.IsWhole) (arg13 : Memref sig .tc .vmem S512x512 .bf16) (harg13 : arg13.IsWhole) (arg14 : Memref sig .tc .vmem S8x72x128 .f32) (harg14 : arg14.IsWhole) (arg15 : Memref sig .tc .vmem S8x24x128 .i32) (harg15 : arg15.IsWhole) (arg16 : Memref sig .tc .vmem S37x16x512 .i32) (harg16 : arg16.IsWhole) (hc0 : ¬cond0_0 i) (hc1 : ¬cond0_1 i)
    (x0 : Vec F S512x512 .bf16) (x1 : Vec F S512x512 .i8) (x2 : Vec F S256x18944 .bf16) (x3 : Vec F S256x18944 .bf16) (x4 : Vec F S512x256 .bf16) (x5 : Vec F S256x256 .bf16) (xs0 : Vec F S256x512 .f32) (x6 : Vec F S256x512 .bf16) :
    View.canon (runMiddle c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 x6).2.1 = (accNext arg13.view arg14.view arg15.view i x0 x1 x2 x5 xs0) := by
  rw [acc_Middle, View.canon_cons_unit_lit' _ _ _ z2]
  unfold accNext wqOf
  simp only [View.readAt_eq_ld, Memref.IsWhole.read_unread]
  rw [View.ld_unit_lit' _ x5 z2, View.ld_unit_lit' _ xs0 z2]

/-- The pieces the run `runMiddle` finds in the accumulator cover it. -/
theorem cover_Middle (c : Dev nD) (i : grid0.Coords) (arg2 : Memref sig .tc .vmem S512x512 .bf16) (harg2 : arg2.IsWhole) (arg3 : Memref sig .tc .vmem S512x512 .i8) (harg3 : arg3.IsWhole) (arg4 : Memref sig .tc .vmem S256x18944 .bf16) (harg4 : arg4.IsWhole) (arg5 : Memref sig .tc .vmem S256x18944 .bf16) (harg5 : arg5.IsWhole) (arg6 : Memref sig .tc .vmem S512x256 .bf16) (harg6 : arg6.IsWhole) (arg7 : Memref sig .tc .vmem S256x256 .bf16) (harg7 : arg7.IsWhole) (arg8 : Memref sig .tc .vmem S256x512 .bf16) (harg8 : arg8.IsWhole) (arg9 : Memref sig .tc .vmem S512x512 .f32) (harg9 : arg9.IsWhole) (arg10 : Memref sig .tc .vmem S512x256 .i8) (harg10 : arg10.IsWhole) (arg11 : Memref sig .tc .vmem S512x592 .i8) (harg11 : arg11.IsWhole) (arg12 : Memref sig .tc .vmem S256x512 .f32) (harg12 : arg12.IsWhole) (arg13 : Memref sig .tc .vmem S512x512 .bf16) (harg13 : arg13.IsWhole) (arg14 : Memref sig .tc .vmem S8x72x128 .f32) (harg14 : arg14.IsWhole) (arg15 : Memref sig .tc .vmem S8x24x128 .i32) (harg15 : arg15.IsWhole) (arg16 : Memref sig .tc .vmem S37x16x512 .i32) (harg16 : arg16.IsWhole) (hc0 : ¬cond0_0 i) (hc1 : ¬cond0_1 i)
    (x0 : Vec F S512x512 .bf16) (x1 : Vec F S512x512 .i8) (x2 : Vec F S256x18944 .bf16) (x3 : Vec F S256x18944 .bf16) (x4 : Vec F S512x256 .bf16) (x5 : Vec F S256x256 .bf16) (xs0 : Vec F S256x512 .f32) (x6 : Vec F S256x512 .bf16) :
    ∀ y, ∃ p ∈ (runMiddle c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 x6).2.1, y ∈ p.1.set := by
  rw [acc_Middle]
  exact whole_cover _ _

set_option maxHeartbeats 4000000 in
/-- The body run there, from named contents to named contents. -/
theorem ends_Middle (c : Dev nD) (i : grid0.Coords) (arg2 : Memref sig .tc .vmem S512x512 .bf16) (harg2 : arg2.IsWhole) (arg3 : Memref sig .tc .vmem S512x512 .i8) (harg3 : arg3.IsWhole) (arg4 : Memref sig .tc .vmem S256x18944 .bf16) (harg4 : arg4.IsWhole) (arg5 : Memref sig .tc .vmem S256x18944 .bf16) (harg5 : arg5.IsWhole) (arg6 : Memref sig .tc .vmem S512x256 .bf16) (harg6 : arg6.IsWhole) (arg7 : Memref sig .tc .vmem S256x256 .bf16) (harg7 : arg7.IsWhole) (arg8 : Memref sig .tc .vmem S256x512 .bf16) (harg8 : arg8.IsWhole) (arg9 : Memref sig .tc .vmem S512x512 .f32) (harg9 : arg9.IsWhole) (arg10 : Memref sig .tc .vmem S512x256 .i8) (harg10 : arg10.IsWhole) (arg11 : Memref sig .tc .vmem S512x592 .i8) (harg11 : arg11.IsWhole) (arg12 : Memref sig .tc .vmem S256x512 .f32) (harg12 : arg12.IsWhole) (arg13 : Memref sig .tc .vmem S512x512 .bf16) (harg13 : arg13.IsWhole) (arg14 : Memref sig .tc .vmem S8x72x128 .f32) (harg14 : arg14.IsWhole) (arg15 : Memref sig .tc .vmem S8x24x128 .i32) (harg15 : arg15.IsWhole) (arg16 : Memref sig .tc .vmem S37x16x512 .i32) (harg16 : arg16.IsWhole) (hc0 : ¬cond0_0 i) (hc1 : ¬cond0_1 i)
    (x0 : Vec F S512x512 .bf16) (x1 : Vec F S512x512 .i8) (x2 : Vec F S256x18944 .bf16) (x3 : Vec F S256x18944 .bf16) (x4 : Vec F S512x256 .bf16) (x5 : Vec F S256x256 .bf16) (xs0 : Vec F S256x512 .f32) (x6 : Vec F S256x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (View.canon (dwPieces i x3 x4)) ∗ (∃ d, owns (c : Thread nD τ) arg10 fullShare d) ∗ (∃ d, owns (c : Thread nD τ) arg11 fullShare d) ∗ owns (c : Thread nD τ) arg12 fullShare (accNext arg13.view arg14.view arg15.view i x0 x1 x2 x5 xs0) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  have h := (runMiddle c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 x6).2.2 E K
  refine BIBase.Entails.trans ?_ h
  iintro ⟨H2, H3, H4, H5, H6, H7, H8, H9, H10, H11, H12, H13, H14, H15, H16, HK⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, H8, ⟨%e9, H9⟩, H10, H11, ⟨%e12, H12⟩, H13, H14, H15, H16⟩
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; rw [← pieces_Middle c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 x6]; exact View.read_writes_eq_canon _ _ _ (by rw [pieces_Middle]; exact dwPieces_cover _ _ _)
  isplitl [H10]; · iexact H10
  isplitl [H11]; · iexact H11
  isplitl [H12]
  · unfold owns; iexists _; isplitr
    swap; · iexact H12
    ipureintro; rw [← canon_Middle c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 x6]; exact View.read_writes_eq_canon _ _ _ (cover_Middle c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 x6)
  isplitl [H13]; · iexact H13
  isplitl [H14]; · iexact H14
  isplitl [H15]; · iexact H15
  iexact H16

/-- The pieces the run `runLast` finds in `dw`'s buffer are `dwPieces`. -/
theorem pieces_Last (c : Dev nD) (i : grid0.Coords) (arg2 : Memref sig .tc .vmem S512x512 .bf16) (harg2 : arg2.IsWhole) (arg3 : Memref sig .tc .vmem S512x512 .i8) (harg3 : arg3.IsWhole) (arg4 : Memref sig .tc .vmem S256x18944 .bf16) (harg4 : arg4.IsWhole) (arg5 : Memref sig .tc .vmem S256x18944 .bf16) (harg5 : arg5.IsWhole) (arg6 : Memref sig .tc .vmem S512x256 .bf16) (harg6 : arg6.IsWhole) (arg7 : Memref sig .tc .vmem S256x256 .bf16) (harg7 : arg7.IsWhole) (arg8 : Memref sig .tc .vmem S256x512 .bf16) (harg8 : arg8.IsWhole) (arg9 : Memref sig .tc .vmem S512x512 .f32) (harg9 : arg9.IsWhole) (arg10 : Memref sig .tc .vmem S512x256 .i8) (harg10 : arg10.IsWhole) (arg11 : Memref sig .tc .vmem S512x592 .i8) (harg11 : arg11.IsWhole) (arg12 : Memref sig .tc .vmem S256x512 .f32) (harg12 : arg12.IsWhole) (arg13 : Memref sig .tc .vmem S512x512 .bf16) (harg13 : arg13.IsWhole) (arg14 : Memref sig .tc .vmem S8x72x128 .f32) (harg14 : arg14.IsWhole) (arg15 : Memref sig .tc .vmem S8x24x128 .i32) (harg15 : arg15.IsWhole) (arg16 : Memref sig .tc .vmem S37x16x512 .i32) (harg16 : arg16.IsWhole) (hc0 : ¬cond0_0 i) (hc1 : cond0_1 i)
    (x0 : Vec F S512x512 .bf16) (x1 : Vec F S512x512 .i8) (x2 : Vec F S256x18944 .bf16) (x3 : Vec F S256x18944 .bf16) (x4 : Vec F S512x256 .bf16) (x5 : Vec F S256x256 .bf16) (xs0 : Vec F S256x512 .f32) :
    (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0).1 = dwPieces i x3 x4 := by
  unfold runLast dwPieces
  sl_unfold_words
  simp only [View.readAt_eq_ld, Memref.IsWhole.read_unread]

/-- What the run `runLast` leaves in the accumulator is `accNext`. -/
theorem canon_Last (c : Dev nD) (i : grid0.Coords) (arg2 : Memref sig .tc .vmem S512x512 .bf16) (harg2 : arg2.IsWhole) (arg3 : Memref sig .tc .vmem S512x512 .i8) (harg3 : arg3.IsWhole) (arg4 : Memref sig .tc .vmem S256x18944 .bf16) (harg4 : arg4.IsWhole) (arg5 : Memref sig .tc .vmem S256x18944 .bf16) (harg5 : arg5.IsWhole) (arg6 : Memref sig .tc .vmem S512x256 .bf16) (harg6 : arg6.IsWhole) (arg7 : Memref sig .tc .vmem S256x256 .bf16) (harg7 : arg7.IsWhole) (arg8 : Memref sig .tc .vmem S256x512 .bf16) (harg8 : arg8.IsWhole) (arg9 : Memref sig .tc .vmem S512x512 .f32) (harg9 : arg9.IsWhole) (arg10 : Memref sig .tc .vmem S512x256 .i8) (harg10 : arg10.IsWhole) (arg11 : Memref sig .tc .vmem S512x592 .i8) (harg11 : arg11.IsWhole) (arg12 : Memref sig .tc .vmem S256x512 .f32) (harg12 : arg12.IsWhole) (arg13 : Memref sig .tc .vmem S512x512 .bf16) (harg13 : arg13.IsWhole) (arg14 : Memref sig .tc .vmem S8x72x128 .f32) (harg14 : arg14.IsWhole) (arg15 : Memref sig .tc .vmem S8x24x128 .i32) (harg15 : arg15.IsWhole) (arg16 : Memref sig .tc .vmem S37x16x512 .i32) (harg16 : arg16.IsWhole) (hc0 : ¬cond0_0 i) (hc1 : cond0_1 i)
    (x0 : Vec F S512x512 .bf16) (x1 : Vec F S512x512 .i8) (x2 : Vec F S256x18944 .bf16) (x3 : Vec F S256x18944 .bf16) (x4 : Vec F S512x256 .bf16) (x5 : Vec F S256x256 .bf16) (xs0 : Vec F S256x512 .f32) :
    View.canon (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0).2.2.1 = (accNext arg13.view arg14.view arg15.view i x0 x1 x2 x5 xs0) := by
  rw [acc_Last, View.canon_cons_unit_lit' _ _ _ z2]
  unfold accNext wqOf
  simp only [View.readAt_eq_ld, Memref.IsWhole.read_unread]
  rw [View.ld_unit_lit' _ x5 z2, View.ld_unit_lit' _ xs0 z2]

/-- The pieces the run `runLast` finds in the accumulator cover it. -/
theorem cover_Last (c : Dev nD) (i : grid0.Coords) (arg2 : Memref sig .tc .vmem S512x512 .bf16) (harg2 : arg2.IsWhole) (arg3 : Memref sig .tc .vmem S512x512 .i8) (harg3 : arg3.IsWhole) (arg4 : Memref sig .tc .vmem S256x18944 .bf16) (harg4 : arg4.IsWhole) (arg5 : Memref sig .tc .vmem S256x18944 .bf16) (harg5 : arg5.IsWhole) (arg6 : Memref sig .tc .vmem S512x256 .bf16) (harg6 : arg6.IsWhole) (arg7 : Memref sig .tc .vmem S256x256 .bf16) (harg7 : arg7.IsWhole) (arg8 : Memref sig .tc .vmem S256x512 .bf16) (harg8 : arg8.IsWhole) (arg9 : Memref sig .tc .vmem S512x512 .f32) (harg9 : arg9.IsWhole) (arg10 : Memref sig .tc .vmem S512x256 .i8) (harg10 : arg10.IsWhole) (arg11 : Memref sig .tc .vmem S512x592 .i8) (harg11 : arg11.IsWhole) (arg12 : Memref sig .tc .vmem S256x512 .f32) (harg12 : arg12.IsWhole) (arg13 : Memref sig .tc .vmem S512x512 .bf16) (harg13 : arg13.IsWhole) (arg14 : Memref sig .tc .vmem S8x72x128 .f32) (harg14 : arg14.IsWhole) (arg15 : Memref sig .tc .vmem S8x24x128 .i32) (harg15 : arg15.IsWhole) (arg16 : Memref sig .tc .vmem S37x16x512 .i32) (harg16 : arg16.IsWhole) (hc0 : ¬cond0_0 i) (hc1 : cond0_1 i)
    (x0 : Vec F S512x512 .bf16) (x1 : Vec F S512x512 .i8) (x2 : Vec F S256x18944 .bf16) (x3 : Vec F S256x18944 .bf16) (x4 : Vec F S512x256 .bf16) (x5 : Vec F S256x256 .bf16) (xs0 : Vec F S256x512 .f32) :
    ∀ y, ∃ p ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0).2.2.1, y ∈ p.1.set := by
  rw [acc_Last]
  exact whole_cover _ _

/-- The pieces the run `runLast` finds in `dx`'s buffer: one, of the whole block. -/
theorem out_Last (c : Dev nD) (i : grid0.Coords) (arg2 : Memref sig .tc .vmem S512x512 .bf16) (harg2 : arg2.IsWhole) (arg3 : Memref sig .tc .vmem S512x512 .i8) (harg3 : arg3.IsWhole) (arg4 : Memref sig .tc .vmem S256x18944 .bf16) (harg4 : arg4.IsWhole) (arg5 : Memref sig .tc .vmem S256x18944 .bf16) (harg5 : arg5.IsWhole) (arg6 : Memref sig .tc .vmem S512x256 .bf16) (harg6 : arg6.IsWhole) (arg7 : Memref sig .tc .vmem S256x256 .bf16) (harg7 : arg7.IsWhole) (arg8 : Memref sig .tc .vmem S256x512 .bf16) (harg8 : arg8.IsWhole) (arg9 : Memref sig .tc .vmem S512x512 .f32) (harg9 : arg9.IsWhole) (arg10 : Memref sig .tc .vmem S512x256 .i8) (harg10 : arg10.IsWhole) (arg11 : Memref sig .tc .vmem S512x592 .i8) (harg11 : arg11.IsWhole) (arg12 : Memref sig .tc .vmem S256x512 .f32) (harg12 : arg12.IsWhole) (arg13 : Memref sig .tc .vmem S512x512 .bf16) (harg13 : arg13.IsWhole) (arg14 : Memref sig .tc .vmem S8x72x128 .f32) (harg14 : arg14.IsWhole) (arg15 : Memref sig .tc .vmem S8x24x128 .i32) (harg15 : arg15.IsWhole) (arg16 : Memref sig .tc .vmem S37x16x512 .i32) (harg16 : arg16.IsWhole) (hc0 : ¬cond0_0 i) (hc1 : cond0_1 i)
    (x0 : Vec F S512x512 .bf16) (x1 : Vec F S512x512 .i8) (x2 : Vec F S256x18944 .bf16) (x3 : Vec F S256x18944 .bf16) (x4 : Vec F S512x256 .bf16) (x5 : Vec F S256x256 .bf16) (xs0 : Vec F S256x512 .f32) :
    (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0).2.1 = [⟨Rect.unit (s := S256x512) ![0, 0] S256x512.size inb_S256x512_S256x512_0_0,
      k0_pay2 (arg12.view.readCov (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0).2.2.1 (Rect.unit (s := S256x512) ![0, 0] S256x512.size inb_S256x512_S256x512_0_0).toLoadRect)⟩] := by sl_kernel_rfl

/-- The piece is `k0_pay2` of the accumulator's last value. -/
theorem canonOut_Last (c : Dev nD) (i : grid0.Coords) (arg2 : Memref sig .tc .vmem S512x512 .bf16) (harg2 : arg2.IsWhole) (arg3 : Memref sig .tc .vmem S512x512 .i8) (harg3 : arg3.IsWhole) (arg4 : Memref sig .tc .vmem S256x18944 .bf16) (harg4 : arg4.IsWhole) (arg5 : Memref sig .tc .vmem S256x18944 .bf16) (harg5 : arg5.IsWhole) (arg6 : Memref sig .tc .vmem S512x256 .bf16) (harg6 : arg6.IsWhole) (arg7 : Memref sig .tc .vmem S256x256 .bf16) (harg7 : arg7.IsWhole) (arg8 : Memref sig .tc .vmem S256x512 .bf16) (harg8 : arg8.IsWhole) (arg9 : Memref sig .tc .vmem S512x512 .f32) (harg9 : arg9.IsWhole) (arg10 : Memref sig .tc .vmem S512x256 .i8) (harg10 : arg10.IsWhole) (arg11 : Memref sig .tc .vmem S512x592 .i8) (harg11 : arg11.IsWhole) (arg12 : Memref sig .tc .vmem S256x512 .f32) (harg12 : arg12.IsWhole) (arg13 : Memref sig .tc .vmem S512x512 .bf16) (harg13 : arg13.IsWhole) (arg14 : Memref sig .tc .vmem S8x72x128 .f32) (harg14 : arg14.IsWhole) (arg15 : Memref sig .tc .vmem S8x24x128 .i32) (harg15 : arg15.IsWhole) (arg16 : Memref sig .tc .vmem S37x16x512 .i32) (harg16 : arg16.IsWhole) (hc0 : ¬cond0_0 i) (hc1 : cond0_1 i)
    (x0 : Vec F S512x512 .bf16) (x1 : Vec F S512x512 .i8) (x2 : Vec F S256x18944 .bf16) (x3 : Vec F S256x18944 .bf16) (x4 : Vec F S512x256 .bf16) (x5 : Vec F S256x256 .bf16) (xs0 : Vec F S256x512 .f32) :
    View.canon (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0).2.1 = k0_pay2 (accNext arg13.view arg14.view arg15.view i x0 x1 x2 x5 xs0) := by
  rw [out_Last, View.canon_cons_unit_lit' _ _ _ z2]
  congr 1
  rw [← canon_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0, acc_Last, View.readCov_unit_lit' _ _ _ z2, View.canon_cons_unit_lit' _ _ _ z2]

set_option maxHeartbeats 4000000 in
/-- The body run there, from named contents to named contents. -/
theorem ends_Last (c : Dev nD) (i : grid0.Coords) (arg2 : Memref sig .tc .vmem S512x512 .bf16) (harg2 : arg2.IsWhole) (arg3 : Memref sig .tc .vmem S512x512 .i8) (harg3 : arg3.IsWhole) (arg4 : Memref sig .tc .vmem S256x18944 .bf16) (harg4 : arg4.IsWhole) (arg5 : Memref sig .tc .vmem S256x18944 .bf16) (harg5 : arg5.IsWhole) (arg6 : Memref sig .tc .vmem S512x256 .bf16) (harg6 : arg6.IsWhole) (arg7 : Memref sig .tc .vmem S256x256 .bf16) (harg7 : arg7.IsWhole) (arg8 : Memref sig .tc .vmem S256x512 .bf16) (harg8 : arg8.IsWhole) (arg9 : Memref sig .tc .vmem S512x512 .f32) (harg9 : arg9.IsWhole) (arg10 : Memref sig .tc .vmem S512x256 .i8) (harg10 : arg10.IsWhole) (arg11 : Memref sig .tc .vmem S512x592 .i8) (harg11 : arg11.IsWhole) (arg12 : Memref sig .tc .vmem S256x512 .f32) (harg12 : arg12.IsWhole) (arg13 : Memref sig .tc .vmem S512x512 .bf16) (harg13 : arg13.IsWhole) (arg14 : Memref sig .tc .vmem S8x72x128 .f32) (harg14 : arg14.IsWhole) (arg15 : Memref sig .tc .vmem S8x24x128 .i32) (harg15 : arg15.IsWhole) (arg16 : Memref sig .tc .vmem S37x16x512 .i32) (harg16 : arg16.IsWhole) (hc0 : ¬cond0_0 i) (hc1 : cond0_1 i)
    (x0 : Vec F S512x512 .bf16) (x1 : Vec F S512x512 .i8) (x2 : Vec F S256x18944 .bf16) (x3 : Vec F S256x18944 .bf16) (x4 : Vec F S512x256 .bf16) (x5 : Vec F S256x256 .bf16) (xs0 : Vec F S256x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay2 (accNext arg13.view arg14.view arg15.view i x0 x1 x2 x5 xs0)) ∗ owns (c : Thread nD τ) arg9 fullShare (View.canon (dwPieces i x3 x4)) ∗ (∃ d, owns (c : Thread nD τ) arg10 fullShare d) ∗ (∃ d, owns (c : Thread nD τ) arg11 fullShare d) ∗ owns (c : Thread nD τ) arg12 fullShare (accNext arg13.view arg14.view arg15.view i x0 x1 x2 x5 xs0) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  have h := (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0).2.2.2 E K
  refine BIBase.Entails.trans ?_ h
  iintro ⟨H2, H3, H4, H5, H6, H7, H8, H9, H10, H11, H12, H13, H14, H15, H16, HK⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, ⟨%e8, H8⟩, ⟨%e9, H9⟩, H10, H11, ⟨%e12, H12⟩, H13, H14, H15, H16⟩
  iapply HK
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; rw [← canonOut_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0]; exact View.read_writes_eq_canon _ _ _ (by rw [out_Last]; exact whole_cover_bf _ _)
  isplitl [H9]
  · unfold owns; iexists _; isplitr
    swap; · iexact H9
    ipureintro; rw [← pieces_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0]; exact View.read_writes_eq_canon _ _ _ (by rw [pieces_Last]; exact dwPieces_cover _ _ _)
  isplitl [H10]; · iexact H10
  isplitl [H11]; · iexact H11
  isplitl [H12]
  · unfold owns; iexists _; isplitr
    swap; · iexact H12
    ipureintro; rw [← canon_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0]; exact View.read_writes_eq_canon _ _ _ (cover_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0)
  isplitl [H13]; · iexact H13
  isplitl [H14]; · iexact H14
  isplitl [H15]; · iexact H15
  iexact H16

end Cert.KernelIdeal.Dw

end
-- ==== Proof.Launch.lean ====
/- The run of the whole call, over the reals: the arrays of `dx` and `dw` named, the other outputs forgotten. -/
module

public import proofs.«01_k».proof.Proof.Tiles
public import Idealize.ShloMosaic.Lib.Claim

@[expose] public section

-- the long axes of the staged arrays: an index into them is looked through coordinate by coordinate
set_option maxRecDepth 16384

noncomputable section

namespace Cert.KernelIdeal.Dw

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Of the outputs the windows of `dx` (6) and `dw` (7) are named: of the codes (8) and of the scales (9) nothing is stated. -/
def forgets : Fin 10 → Bool := fun w => w.val == 8 || w.val == 9

/-- The accumulator after point `t`, from what it held before. -/
def accAt (c : Dev nD) (t : Fin cfg0.N) (a : Vec F S256x512 .f32) : Vec F S256x512 .f32 :=
  accNext scM0_1.view scM0_2.view scM0_3.view (grid0.coords t) (iblk m c 0 t) (iblk m c 1 t) (iblk m c 2 t) (iblk m c 5 t) a

/-- The accumulator after the first `n` points: zeroed at the first step of every row of blocks. -/
def accV (c : Dev nD) : ℕ → Vec F S256x512 .f32
  | 0 => k0_pay4
  | n + 1 => if h : n < cfg0.N then accAt m c ⟨n, h⟩ (if n % 37 = 0 then k0_pay4 else accV c n) else k0_pay4

theorem accV_first (c : Dev nD) (t : Fin cfg0.N) (h : t.val % 37 = 0) : accV m c (t.val + 1) = accAt m c t k0_pay4 := by
  conv_lhs => unfold accV
  rw [dif_pos t.isLt, if_pos h]
theorem accV_next (c : Dev nD) (t : Fin cfg0.N) (h : ¬t.val % 37 = 0) : accV m c (t.val + 1) = accAt m c t (accV m c t.val) := by
  conv_lhs => unfold accV
  rw [dif_pos t.isLt, if_neg h]

/-- What holds between the points: the accumulator at its value inside a row of blocks, the other scratch at anything. -/
def PhiN (c : Dev nD) (n : ℕ) : sProp 𝕄 :=
  if n % 37 = 0 then Pipeline.ΦA spec0 c
  else iprop(iprop(owns (c : Thread nD τ) scM0_0 fullShare (accV m c n) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

/-- What the body leaves in `dw`'s block at point `t`: the four tiles of the product of the point's block of x's codes
    with its columns of dy's codes. -/
def dwBlock (c : Dev nD) (t : Fin cfg0.N) : Vec F S512x512 .f32 :=
  View.canon (dwPieces (grid0.coords t) (iblk m c 3 t) (iblk m c 4 t))

/-- The proof data of the pipeline on core `c`: the arrays as launched; after the body at point `t` each input's buffer
    at its block, `dx`'s at the accumulator divided by 32 and `dw`'s at `dwBlock`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay2 (accV m c (t.val + 1))
    | ⟨7, _⟩ => dwBlock m c t
    | ⟨8, h⟩ => Pipeline.Dat.unnamed (cfg := cfg0) ⟨8, h⟩ t
    | ⟨9, h⟩ => Pipeline.Dat.unnamed (cfg := cfg0) ⟨9, h⟩ t
  Φ n := PhiN m c n.val
  q _ := fullShare
  owed _ := 0

/-- The proof data's arrays are the launch contents. -/
theorem A_eq (c : Dev nD) (w : Fin cfg0.W) : (dats m 0 c).A w = V m c (Pipeline.arrRef spec0 w) := by
  dsimp only [dats]

/-- The body leaves input 0's block as it was. -/
theorem after_0 (c : Dev nD) (t : Fin cfg0.N) : (dats m 0 c).after 0 t = iblk m c 0 t := by dsimp only [dats]
/-- The body leaves input 1's block as it was. -/
theorem after_1 (c : Dev nD) (t : Fin cfg0.N) : (dats m 0 c).after 1 t = iblk m c 1 t := by dsimp only [dats]
/-- The body leaves input 2's block as it was. -/
theorem after_2 (c : Dev nD) (t : Fin cfg0.N) : (dats m 0 c).after 2 t = iblk m c 2 t := by dsimp only [dats]
/-- The body leaves input 3's block as it was. -/
theorem after_3 (c : Dev nD) (t : Fin cfg0.N) : (dats m 0 c).after 3 t = iblk m c 3 t := by dsimp only [dats]
/-- The body leaves input 4's block as it was. -/
theorem after_4 (c : Dev nD) (t : Fin cfg0.N) : (dats m 0 c).after 4 t = iblk m c 4 t := by dsimp only [dats]
/-- The body leaves input 5's block as it was. -/
theorem after_5 (c : Dev nD) (t : Fin cfg0.N) : (dats m 0 c).after 5 t = iblk m c 5 t := by dsimp only [dats]
/-- The body leaves the accumulator divided by 32 in `dx`'s block where it is written back. -/
theorem after_6 (c : Dev nD) (t : Fin cfg0.N) : (dats m 0 c).after 6 t = k0_pay2 (accV m c (t.val + 1)) := by dsimp only [dats]
/-- The body leaves `dwBlock` in `dw`'s block. -/
theorem after_7 (c : Dev nD) (t : Fin cfg0.N) : (dats m 0 c).after 7 t = dwBlock m c t := by dsimp only [dats]

/-- Input 0's buffer holds its block before the body at every point. -/
theorem before_0 (c : Dev nD) (t : Fin cfg0.N) (d) : (dats m 0 c).before 0 t d = iblk m c 0 t :=
  before0_0_of m (dats m 0 c) (A_eq m c 0) (after_0 m c) t d
/-- Input 1's buffer holds its block before the body at every point. -/
theorem before_1 (c : Dev nD) (t : Fin cfg0.N) (d) : (dats m 0 c).before 1 t d = iblk m c 1 t :=
  before0_1_of m (dats m 0 c) (A_eq m c 1) (after_1 m c) t d
/-- Input 2's buffer holds its block before the body at every point. -/
theorem before_2 (c : Dev nD) (t : Fin cfg0.N) (d) : (dats m 0 c).before 2 t d = iblk m c 2 t :=
  before0_2_of m (dats m 0 c) (A_eq m c 2) (after_2 m c) t d
/-- Input 3's buffer holds its block before the body at every point. -/
theorem before_3 (c : Dev nD) (t : Fin cfg0.N) (d) : (dats m 0 c).before 3 t d = iblk m c 3 t :=
  before0_3_of m (dats m 0 c) (A_eq m c 3) (after_3 m c) t d
/-- Input 4's buffer holds its block before the body at every point. -/
theorem before_4 (c : Dev nD) (t : Fin cfg0.N) (d) : (dats m 0 c).before 4 t d = iblk m c 4 t :=
  before0_4_of m (dats m 0 c) (A_eq m c 4) (after_4 m c) t d
/-- Input 5's buffer holds its block before the body at every point. -/
theorem before_5 (c : Dev nD) (t : Fin cfg0.N) (d) : (dats m 0 c).before 5 t d = iblk m c 5 t :=
  before0_5_of m (dats m 0 c) (A_eq m c 5) (after_5 m c) t d
/-- `dw`'s window is written back from every point's own block: no point leaves it idle. -/
theorem liveAt0_7 : ∀ t : Fin cfg0.N, cfg0.idle 7 (grid0.coords t) = false := fun _ => rfl

/-- `dx`'s window is idle except at the last step of a row of blocks, -/
theorem idle0_6 (t : Fin cfg0.N) (h : ¬cond0_1 (grid0.coords t)) : cfg0.idle 6 (grid0.coords t) = true := by
  show (!(k0_cond2 (grid0.coords t) == 1#1)) = true
  rw [beq_eq_false_iff_ne.mpr h]; rfl
theorem live0_6 (t : Fin cfg0.N) (h : cond0_1 (grid0.coords t)) : cfg0.idle 6 (grid0.coords t) = false := by
  show (!(k0_cond2 (grid0.coords t) == 1#1)) = false
  rw [show k0_cond2 (grid0.coords t) = 1#1 from h]; rfl
/-- and written back only there. -/
theorem flush0_6 : ∀ t : Fin cfg0.N, t.val % 37 ≠ 36 → (cfg0.win 6).flush t = false := by decide +kernel

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d))

set_option maxHeartbeats 8000000 in
/-- The body at any point: it finishes, the inputs' blocks as they were, the accumulator one step on, `dx`'s block at the
    accumulator divided by 32 where it is written back, and `dw`'s block at `dwBlock`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiN m c (t.val + 1) from rfl, show (dats m 0 c).Φ t.castSucc = PhiN m c t.val from rfl]
  rw [show (dats m 0 c).leavesExact 0 t = owns (c : Thread nD τ) (ms0_0 t) fullShare ((dats m 0 c).after 0 t) from by
    unfold Dat.leavesExact; rw [liveAt0_0 t], after_0]
  rw [show (dats m 0 c).leavesExact 1 t = owns (c : Thread nD τ) (ms0_1 t) fullShare ((dats m 0 c).after 1 t) from by
    unfold Dat.leavesExact; rw [liveAt0_1 t], after_1]
  rw [show (dats m 0 c).leavesExact 2 t = owns (c : Thread nD τ) (ms0_2 t) fullShare ((dats m 0 c).after 2 t) from by
    unfold Dat.leavesExact; rw [liveAt0_2 t], after_2]
  rw [show (dats m 0 c).leavesExact 3 t = owns (c : Thread nD τ) (ms0_3 t) fullShare ((dats m 0 c).after 3 t) from by
    unfold Dat.leavesExact; rw [liveAt0_3 t], after_3]
  rw [show (dats m 0 c).leavesExact 4 t = owns (c : Thread nD τ) (ms0_4 t) fullShare ((dats m 0 c).after 4 t) from by
    unfold Dat.leavesExact; rw [liveAt0_4 t], after_4]
  rw [show (dats m 0 c).leavesExact 5 t = owns (c : Thread nD τ) (ms0_5 t) fullShare ((dats m 0 c).after 5 t) from by
    unfold Dat.leavesExact; rw [liveAt0_5 t], after_5]
  rw [show (dats m 0 c).leavesExact 7 t = owns (c : Thread nD τ) (ms0_7 t) fullShare ((dats m 0 c).after 7 t) from by
    unfold Dat.leavesExact; rw [liveAt0_7 t], after_7]
  unfold dwBlock
  by_cases hc0 : cond0_0 (grid0.coords t)
  · have h0 := (hcond0_0 t).mp hc0
    have hc1 : ¬cond0_1 (grid0.coords t) := fun h => by have h1 := (hcond0_1 t).mp h; omega
    rw [(dats m 0 c).leavesExact_idle 6 t (idle0_6 t hc1) (flush0_6 t (by omega))]
    rw [show PhiN m c t.val = Pipeline.ΦA spec0 c from if_pos h0, PhiA0_eq, show PhiN m c (t.val + 1) = _ from if_neg (by omega), accV_first m c t h0]
    unfold accAt
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((ends_First c (grid0.coords t) _ _ _ _ _ _ _ _ _ _ _ _ _ _ _ _ _ _ _ _ _ _ _ _ _ _ _ _ _ _ hc0 hc1 (iblk m c 0 t) (iblk m c 1 t) (iblk m c 2 t) (iblk m c 3 t) (iblk m c 4 t) (iblk m c 5 t) ((dats m 0 c).before 6 t d6)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    isplitl [H7]; · iexact H7
    isplitl [H8]; · iexact H8
    iexact H9
  · have h0 : ¬t.val % 37 = 0 := fun h => hc0 ((hcond0_0 t).mpr h)
    by_cases hc1 : cond0_1 (grid0.coords t)
    swap
    · rw [(dats m 0 c).leavesExact_idle 6 t (idle0_6 t hc1) (flush0_6 t (fun h => hc1 ((hcond0_1 t).mpr h)))]
      have h1 : ¬t.val % 37 = 36 := fun h => hc1 ((hcond0_1 t).mpr h)
      rw [show PhiN m c t.val = _ from if_neg h0, show PhiN m c (t.val + 1) = _ from if_neg (by omega), accV_next m c t h0]
      unfold accAt
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((ends_Middle c (grid0.coords t) _ _ _ _ _ _ _ _ _ _ _ _ _ _ _ _ _ _ _ _ _ _ _ _ _ _ _ _ _ _ hc0 hc1 (iblk m c 0 t) (iblk m c 1 t) (iblk m c 2 t) (iblk m c 3 t) (iblk m c 4 t) (iblk m c 5 t) (accV m c t.val) ((dats m 0 c).before 6 t d6)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      isplitl [H7]; · iexact H7
      isplitl [H8]; · iexact H8
      iexact H9
    · have h1 := (hcond0_1 t).mp hc1
      rw [show (dats m 0 c).leavesExact 6 t = owns (c : Thread nD τ) (ms0_6 t) fullShare ((dats m 0 c).after 6 t) from by
        unfold Dat.leavesExact; rw [live0_6 t hc1], after_6]
      rw [show PhiN m c t.val = _ from if_neg h0, show PhiN m c (t.val + 1) = Pipeline.ΦA spec0 c from if_pos (by omega), PhiA0_eq, accV_next m c t h0]
      unfold accAt
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((ends_Last c (grid0.coords t) _ _ _ _ _ _ _ _ _ _ _ _ _ _ _ _ _ _ _ _ _ _ _ _ _ _ _ _ _ _ hc0 hc1 (iblk m c 0 t) (iblk m c 1 t) (iblk m c 2 t) (iblk m c 3 t) (iblk m c 4 t) (iblk m c 5 t) (accV m c t.val)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, HS0, HS1, HS2, HS3, HS4⟩
      isplitl [HS0 HS1 HS2 HS3 HS4 Hg]
      · isplitl [HS0 HS1 HS2 HS3 HS4]
        · isplitl [HS0]; · iexists _; iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body table's row at point `t`'s slots is the body as the points spell it. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-- The invariant is the scratch at anything before the first point -/
theorem Phi_in (c : Dev nD) : (Pipeline.ΦA spec0 c : sProp 𝕄) ⊢ (dats m 0 c).Φ 0 := by
  show (Pipeline.ΦA spec0 c : sProp 𝕄) ⊢ PhiN m c 0
  unfold PhiN; rw [if_pos (by norm_num)]
/-- and after the last. -/
theorem Phi_out (c : Dev nD) : (dats m 0 c).Φ (Fin.last cfg0.N) ⊢ (Pipeline.ΦA spec0 c : sProp 𝕄) := by
  show PhiN m c cfg0.N ⊢ (Pipeline.ΦA spec0 c : sProp 𝕄)
  unfold PhiN; rw [show cfg0.N = 518 from N_0, if_pos (by norm_num)]

-- the launch theorem's implicit arguments are found by unifying its conclusion with this one, which takes unfolding plain
-- definitions in a metavariable's type
set_option backward.isDefEq.respectTransparency.types false in
/-- Every execution of @main finishes, every array at what the proof data says of it, every semaphore counter at zero. -/
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hin := fun c => Phi_in m c)
    (hout := fun c => Phi_out m c)

/-- A named window's array after the run. -/
theorem final_arr (r : PUnit × MemSt nD τ sig (Elt F)) (h : Pipeline.RDat.FramePost (cfgs 0) (fun c => (dats m 0 c).toRForget forgets) (V m) r)
    (c : Dev nD) (w : Fin 10) (hw : forgets w = false) :
    r.2.mem (((cfgs 0).spec w).arr.view.loc (c.tc : Thread nD τ)) = (dats m 0 c).arrAt w (cfgs 0).N :=
  ((dats m 0 c).toRForget_arrAt_iff hw _ _).mp ((h c).1 w)

/-- Every execution of @main finishes with the arrays of `dx` and `dw` at what the points wrote back, the arguments unchanged and every
    semaphore counter at zero. -/
theorem run : θ_run defs (onTc (τ := τ) (main (F := F))) ⟨m, fun _ => 0, ρ⟩ (fun r => (∀ c : Dev nD,
      r.2.mem ((c.tc : Thread nD τ).loc main_v0_0) = (dats m 0 c).arrAt 6 (cfgs 0).N
      ∧ r.2.mem ((c.tc : Thread nD τ).loc main_v0_1) = (dats m 0 c).arrAt 7 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨final_arr m r h.1 c 6 rfl, final_arr m r h.1 c 7 rfl,
      (Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c))⟩, h.2⟩) (run_main_quiescent m ρ)

end Cert.KernelIdeal.Dw

end
-- ==== Proof.Result.lean ====
/- `dw`'s array after the whole call, over the extended reals. -/
module

public import proofs.«01_k».proof.Proof.Value
public import proofs.«01_k».proof.Proof.Launch

@[expose] public section

-- the long axes of the staged arrays: an index into them is looked through coordinate by coordinate
set_option maxRecDepth 16384

noncomputable section

namespace Cert.KernelIdeal.Dw

open Cert.KernelIdeal.Gen
open Idealize.ShloMosaic Idealize.ShloMosaic.TcCoe Idealize.ShloMosaic.Tactic
open Idealize.ShloMosaic.Pipeline (Dat Cfg Window BodyObligation cellOf)

variable (m : (ℓ : Loc nD τ sig) → Buf (Elt Ideal) ℓ)

/-- `dw`'s block at a point is the one at the point's two coordinates, -/
theorem index_7 : ∀ t : Fin cfg0.N, win0_7.index t 0 = (grid0.coords t 0).val ∧ win0_7.index t 1 = (grid0.coords t 1).val := by
  decide +kernel
/-- x's codes' block at a point is the one at the point's first coordinate, -/
theorem index_4 : ∀ t : Fin cfg0.N, win0_4.index t 0 = (grid0.coords t 0).val ∧ win0_4.index t 1 = 0 := by
  decide +kernel
/-- and dy's codes' block is the whole array. -/
theorem index_3 : ∀ t : Fin cfg0.N, win0_3.index t 0 = 0 ∧ win0_3.index t 1 = 0 := by
  decide +kernel

/-- After the call `dw`'s array is the product of x's codes with dy's codes over the 256 tokens, divided by 32: each
    point writes the block of that product its index names, and the blocks cover the array. -/
theorem final_dw (c : Dev nD) : (dats m 0 c).arrAt 7 cfg0.N
    = dwOf (m ((c : Thread nD τ).loc main_arg4)) (m ((c : Thread nD τ).loc main_arg3)) := by
  refine (dats m 0 c).arrAt_eq_of_covers 7 _ (by decide +kernel) fun t hf y => ?_
  blk_simp
  rw [after_7]
  have h0 : (((win0_7.blk t).view.emb y) 0 : ℕ) = 512 * (grid0.coords t 0).val + (y 0).val := by
    blk_simp
    rw [(index_7 t).1]
    omega
  have h1 : (((win0_7.blk t).view.emb y) 1 : ℕ) = 512 * (grid0.coords t 1).val + (y 1).val := by
    blk_simp
    rw [(index_7 t).2]
    omega
  unfold dwBlock dwOf
  refine (canon_apply (grid0.coords t) _ _ y (((win0_7.blk t).view.emb y) 1) h1).trans ?_
  congr 1
  refine Finset.sum_congr rfl fun k _ => ?_
  congr 1
  · blk_ext [iblk, V]
    all_goals simp only [index_3 t, index_4 t, index_7 t]
    all_goals omega
  · blk_ext [iblk, V]
    all_goals simp only [index_3 t, index_4 t, index_7 t]
    all_goals omega

end Cert.KernelIdeal.Dw

end
-- ==== Proof.Same.lean ====
/- The kernel and the kernel as read over the reals are one program: the second is a second printing of the first, in
   which nothing was rewritten. So what is proved of the second at every reading of the floats holds of the first. -/
module

public import proofs.«01_k».proof.Defs
public import proofs.«01_k».proof.Proof.Gen.Kernel
public import proofs.«01_k».proof.Proof.Gen.KernelIdeal
public import proofs.«01_k».proof.Proof.Launch

@[expose] public section

-- the body's definitions are compared part by part, each nested in the one before
set_option maxRecDepth 65536
set_option maxHeartbeats 4000000

noncomputable section

namespace Cert.Kernel.Same

open Idealize.ShloMosaic Idealize.SL.Sem

variable {F : FTy → Type} [FloatOps F]

/-- The two body functions are equal: their definitions have the same text. -/
theorem body_eq : @Cert.Kernel.cc0_main F _ _ = @Cert.KernelIdeal.cc0_main F _ _ := rfl

/-- The two body tables are equal: each has one label, which runs the body on the staging buffers. -/
theorem defs₀_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- The two tables of the launch are equal. -/
theorem defs_eq : Cert.Kernel.defs (F := F) = Cert.KernelIdeal.defs (F := F) := by
  unfold Cert.Kernel.defs Cert.KernelIdeal.defs
  exact congrArg (Pipeline.defs (Cert.KernelIdeal.pcfgs (F := F))) defs₀_eq

/-- The two main functions are equal. -/
theorem main_eq : Cert.Kernel.main (F := F) = Cert.KernelIdeal.main (F := F) := rfl

variable (m : (ℓ : Loc Cert.Kernel.nD Cert.Kernel.τ Cert.Kernel.sig) → Buf (Elt F) ℓ) (ρ : Dev Cert.Kernel.nD → PrngReg)

/-- Every execution of the kernel finishes, the arguments unchanged and every semaphore counter at zero. -/
theorem frame : θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0) := by
  rw [defs_eq, main_eq]
  exact (θ_run Cert.KernelIdeal.defs _ _).mono (fun _ h => ⟨fun c => (h.1 c).2.2, h.2⟩) (Cert.KernelIdeal.Dw.run (F := F) m ρ)

end Cert.Kernel.Same

end
-- ==== Proof.Reference.lean ====
/- The reference's result over the extended reals: the products over the even and the odd tokens, added and divided by
   32, are the product over all 256 tokens divided by 32. -/
module

public import proofs.«01_k».proof.Proof.Gen.ReferenceIdeal
public import Idealize.ShloMosaic.Lib.Pointwise

@[expose] public section

-- the long axes of the arrays: an index into them is looked through coordinate by coordinate
set_option maxRecDepth 16384

noncomputable section

namespace Cert.ReferenceIdeal.Dw

open Cert.ReferenceIdeal Cert.ReferenceIdeal.Gen
open Idealize.ShloMosaic Idealize.ShloMosaic.TcCoe Idealize.ShloMosaic.Tactic

/-- 1/32 as the reference writes it: the number of the f32 word `0x3D000000`. -/
abbrev inv32 : EReal := (Scalar.ofBits .f32 0x3D000000#32 : Ideal .f32)

/-- The reference's term of the codes `xq` of x and `tq` of dy. -/
def refDw (xq : FVec Ideal S7168x256 .bf16) (tq : FVec Ideal S256x18944 .bf16) : FVec Ideal S7168x18944 .f32 :=
  mulf (addf
    (Host.dotGeneral dot_S2x64x7168_S2x64x18944_S7168x18944_01_01_2_2_n_n none
      (shapeCast S2x64x7168 (extractStridedSlice S2x64x1x7168 ![0, 0, 0, 0] (shapeCast S2x64x2x7168 (transpose S256x7168 [1, 0] xq transposes_S7168x256_S256x7168_1_0) shapeCasts_S256x7168_S2x64x2x7168) slices_S2x64x2x7168_S2x64x1x7168_0_0_0_0) shapeCasts_S2x64x1x7168_S2x64x7168)
      (shapeCast S2x64x18944 (extractStridedSlice S2x64x1x18944 ![0, 0, 0, 0] (shapeCast S2x64x2x18944 tq shapeCasts_S256x18944_S2x64x2x18944) slices_S2x64x2x18944_S2x64x1x18944_0_0_0_0) shapeCasts_S2x64x1x18944_S2x64x18944)
      : FVec Ideal S7168x18944 .f32)
    (Host.dotGeneral dot_S2x64x7168_S2x64x18944_S7168x18944_01_01_2_2_n_n none
      (shapeCast S2x64x7168 (extractStridedSlice S2x64x1x7168 ![0, 0, 1, 0] (shapeCast S2x64x2x7168 (transpose S256x7168 [1, 0] xq transposes_S7168x256_S256x7168_1_0) shapeCasts_S256x7168_S2x64x2x7168) slices_S2x64x2x7168_S2x64x1x7168_0_0_1_0) shapeCasts_S2x64x1x7168_S2x64x7168)
      (shapeCast S2x64x18944 (extractStridedSlice S2x64x1x18944 ![0, 0, 1, 0] (shapeCast S2x64x2x18944 tq shapeCasts_S256x18944_S2x64x2x18944) slices_S2x64x2x18944_S2x64x1x18944_0_0_1_0) shapeCasts_S2x64x1x18944_S2x64x18944)
      : FVec Ideal S7168x18944 .f32))
    (broadcastInDim S7168x18944 ![] bcast_S_S7168x18944 (constant S_ .f32 0x3D000000#32))

/-- A sum over 256 tokens is the sum over the even tokens `128 a + 2 b` plus the sum over the odd ones. -/
theorem sum_tokens (f : Fin 256 → EReal) :
    ∑ k, f k = (∑ a : Fin 2, ∑ b : Fin 64, f ⟨a.val * 128 + b.val * 2, by omega⟩)
      + ∑ a : Fin 2, ∑ b : Fin 64, f ⟨a.val * 128 + b.val * 2 + 1, by omega⟩ := by
  let e : (Fin 2 × Fin 64) × Fin 2 ≃ Fin 256 :=
    { toFun := fun q => ⟨q.1.1.val * 128 + q.1.2.val * 2 + q.2.val, by omega⟩
      invFun := fun k => ((⟨k.val / 128, by omega⟩, ⟨k.val % 128 / 2, by omega⟩), ⟨k.val % 2, by omega⟩)
      left_inv := fun q => by
        refine Prod.ext (Prod.ext (Fin.ext ?_) (Fin.ext ?_)) (Fin.ext ?_) <;> dsimp only <;> omega
      right_inv := fun k => by
        refine Fin.ext ?_
        dsimp only
        omega }
  rw [← Equiv.sum_comp e f, Fintype.sum_prod_type]
  rw [Finset.sum_congr rfl fun q _ => Fin.sum_univ_two fun p => f (e (q, p))]
  rw [Finset.sum_add_distrib, Fintype.sum_prod_type, Fintype.sum_prod_type]
  rfl

/-- The reference's result at an index: the inner product over all 256 tokens, divided by 32. -/
theorem refDw_apply (xq : FVec Ideal S7168x256 .bf16) (tq : FVec Ideal S256x18944 .bf16) (j : S7168x18944.Idx) :
    refDw xq tq j = (∑ k : Fin 256, xq (ix2 (j 0) k) * tq (ix2 k (j 1))) * inv32 := by
  rw [sum_tokens fun k => xq (ix2 (j 0) k) * tq (ix2 k (j 1))]
  pointwise [refDw]
  done

end Cert.ReferenceIdeal.Dw

end
-- ==== Proof.Words.lean ====
/- The word of a float that is not negative, over the reals: what `Quant.lean`'s bisection and mantissa compute at one
   element. A word `n` below `255 · 2 ^ 23` stands for the number `fv n`; the word of `x` rounded up is the least word whose
   number is at least `x`. -/
module

public import proofs.«01_k».proof.Proof.Quant
public import Idealize.ShloMosaic.PureOps.Ideal

@[expose] public section

noncomputable section

namespace Cert.KernelIdeal.Dw

open Idealize.ShloMosaic

/-- The place of the last bit of a float whose exponent field is `e`, as a power of two. -/
def lsb (e : ℕ) : ℝ := 2 ^ ((max e 1 : ℕ) - 150 : ℤ)

theorem lsb_pos (e : ℕ) : 0 < lsb e := zpow_pos (by norm_num) _

/-- The number of a float's word. -/
def fv (n : ℕ) : ℝ := (if n / 2 ^ 23 = 0 then (n % 2 ^ 23 : ℕ) else (2 ^ 23 + n % 2 ^ 23 : ℕ)) * lsb (n / 2 ^ 23)

theorem lsb_succ (e : ℕ) (h : 1 ≤ e) : lsb (e + 1) = 2 * lsb e := by
  unfold lsb
  rw [← zpow_one_add₀ (by norm_num : (2 : ℝ) ≠ 0)]
  congr 1
  omega

theorem fv_low (m : ℕ) (h : m < 2 ^ 23) : fv m = m * lsb 0 := by
  unfold fv
  rw [Nat.div_eq_of_lt h, if_pos rfl, Nat.mod_eq_of_lt h]

theorem fv_high (e m : ℕ) (he : 1 ≤ e) (h : m < 2 ^ 23) : fv (e * 2 ^ 23 + m) = (2 ^ 23 + m) * lsb e := by
  have h1 : (e * 2 ^ 23 + m) / 2 ^ 23 = e := by omega
  have h2 : (e * 2 ^ 23 + m) % 2 ^ 23 = m := by omega
  unfold fv
  rw [h1, h2, if_neg (by omega)]
  push_cast; ring

/-- The number of a word whose exponent field is `e` and mantissa `m`; `m` may run to the next power of two. -/
theorem fv_seg (e m : ℕ) (h : m ≤ 2 ^ 23) : fv (e * 2 ^ 23 + m) = fv (e * 2 ^ 23) + m * lsb e := by
  rcases Nat.eq_zero_or_pos e with rfl | he
  · rcases Nat.lt_or_eq_of_le h with hm | rfl
    · have := fv_low m hm
      have h0 := fv_low 0 (by norm_num)
      simp only [Nat.zero_mul, Nat.zero_add] at *
      rw [this, h0]; push_cast; ring
    · have := fv_high 1 0 le_rfl (by norm_num)
      have h0 := fv_low 0 (by norm_num)
      simp only [Nat.zero_mul, Nat.zero_add, Nat.add_zero, Nat.one_mul] at *
      rw [this, h0]; unfold lsb; push_cast; ring_nf; norm_num
  · have h0 := fv_high e 0 he (by norm_num)
    rw [Nat.add_zero] at h0
    rcases Nat.lt_or_eq_of_le h with hm | rfl
    · rw [fv_high e m he hm, h0]; push_cast; ring
    · have h1 := fv_high (e + 1) 0 (by omega) (by norm_num)
      rw [show e * 2 ^ 23 + 2 ^ 23 = (e + 1) * 2 ^ 23 + 0 by ring, h1, h0, lsb_succ e he]; push_cast; ring

theorem fv_next (e : ℕ) : fv ((e + 1) * 2 ^ 23) = fv (e * 2 ^ 23) + (2 ^ 23 : ℝ) * lsb e := by
  have h := fv_seg e (2 ^ 23) le_rfl
  rw [show e * 2 ^ 23 + 2 ^ 23 = (e + 1) * 2 ^ 23 by ring, show ((2 ^ 23 : ℕ) : ℝ) = 2 ^ 23 by norm_num] at h
  exact h

theorem fv_strictMono : StrictMono fv := by
  refine strictMono_nat_of_lt_succ fun n => ?_
  have hn : n = n / 2 ^ 23 * 2 ^ 23 + n % 2 ^ 23 := by omega
  have h1 := fv_seg (n / 2 ^ 23) (n % 2 ^ 23) (by omega)
  have h2 := fv_seg (n / 2 ^ 23) (n % 2 ^ 23 + 1) (by omega)
  rw [← hn] at h1
  rw [← Nat.add_assoc, ← hn] at h2
  rw [h1, h2]
  have := lsb_pos (n / 2 ^ 23)
  push_cast
  linarith

theorem fv_zero : fv 0 = 0 := by
  have := fv_low 0 (by norm_num)
  rw [this]; push_cast; ring

theorem fv_nonneg (n : ℕ) : 0 ≤ fv n := by
  rw [← fv_zero]; exact fv_strictMono.monotone (Nat.zero_le n)

/-- The number of a power of two's word. -/
theorem fv_pow (e : ℕ) (h : 1 ≤ e) : fv (e * 2 ^ 23) = 2 ^ ((e : ℤ) - 127) := by
  have := fv_high e 0 h (by norm_num)
  rw [Nat.add_zero] at this
  rw [this]; unfold lsb
  rw [show max e 1 = e by omega, show ((e : ℤ) - 127) = 23 + ((e : ℤ) - 150) by ring,
    zpow_add₀ (by norm_num : (2 : ℝ) ≠ 0)]
  push_cast; norm_num

/-- A word below `255 · 2 ^ 23` stands for its number. -/
theorem ofBits_fv (n : ℕ) (h : n < 255 * 2 ^ 23) : Ideal.ofBits .f32 (BitVec.ofNat 32 n) = ((fv n : ℝ) : EReal) := by
  have e1 : ((BitVec.ofNat 32 n).extractLsb' 23 8).toNat = n / 2 ^ 23 := by
    simp only [BitVec.extractLsb'_toNat, BitVec.toNat_ofNat, Nat.shiftRight_eq_div_pow]; omega
  have e2 : ((BitVec.ofNat 32 n).extractLsb' 0 23).toNat = n % 2 ^ 23 := by
    simp only [BitVec.extractLsb'_toNat, BitVec.toNat_ofNat, Nat.shiftRight_eq_div_pow]; omega
  have e3 : ((BitVec.ofNat 32 n).extractLsb' 31 1 == 1#1) = false := by
    rw [beq_eq_false_iff_ne]; intro h'
    have := congrArg BitVec.toNat h'
    simp only [BitVec.extractLsb'_toNat, BitVec.toNat_ofNat, Nat.shiftRight_eq_div_pow] at this; omega
  show Ideal.ieee 8 23 _ = _
  unfold Ideal.ieee
  simp only [e1, e2, e3, show 8 + 23 = 31 from rfl]
  rw [if_neg (by omega)]
  unfold fv lsb
  split
  · rename_i h0
    rw [h0]
    congr 1; norm_num
  · rename_i h0
    rw [show max (n / 2 ^ 23) 1 = n / 2 ^ 23 by omega]
    congr 1
    have : ((n / 2 ^ 23 : ℕ) : ℤ) - (2 ^ (8 - 1) - 1) - ((23 : ℕ) : ℤ) = ((n / 2 ^ 23 : ℕ) : ℤ) - 150 := by norm_num; ring
    simp only [this]
    norm_num

/-! ## The bisection and the mantissa at one element -/

/-- One step of the bisection. -/
def sStp (x : EReal) (e b : BitVec 32) : BitVec 32 :=
  Scalar.select (Ideal.cmp .oge x (Ideal.ofBits .f32 (IntOp.shli .vector (IntOp.addi e b) 23#32))) (IntOp.addi e b) e

/-- The exponent field. -/
def sExpo (x : EReal) : BitVec 32 :=
  sStp x (sStp x (sStp x (sStp x (sStp x (sStp x (sStp x (sStp x 0#32 128#32) 64#32) 32#32) 16#32) 8#32) 4#32) 2#32) 1#32

/-- Half of the mantissa's exponent. -/
def sHlf (e : BitVec 32) : BitVec 32 :=
  IntOp.shrsi .vector (IntOp.subi 150#32 (IntOp.maxsi e 1#32)) 1#32

/-- The mantissa. -/
def sMant (x : EReal) (e : BitVec 32) : EReal :=
  Scalar.select (IntOp.cmpi .eq e 255#32) (Ideal.ofBits .f32 0x00000000#32)
    ((x - Ideal.ofBits .f32 (IntOp.shli .vector e 23#32))
        * Ideal.ofBits .f32 (IntOp.shli .vector (IntOp.addi 127#32 (sHlf e)) 23#32)
      * Ideal.ofBits .f32 (IntOp.shli .vector (IntOp.subi (IntOp.subi 277#32 (IntOp.maxsi e 1#32)) (sHlf e)) 23#32))

/-- The word rounded up, -/
def sUp (x : EReal) : BitVec 32 :=
  IntOp.addi (IntOp.shli .vector (sExpo x) 23#32) (Ideal.fptosi 32 (Ideal.liftRound Int.ceil (sMant x (sExpo x))))

/-- and down. -/
def sDn (x : EReal) : BitVec 32 :=
  IntOp.addi (IntOp.shli .vector (sExpo x) 23#32) (Ideal.fptosi 32 (sMant x (sExpo x)))

theorem stp_apply {s : Shape} (x : FVec Ideal s .f32) (e : IVec s 32) (b : BitVec 32) (i : s.Idx) :
    stp x e b i = sStp (x i) (e i) b := rfl

theorem expo_apply {s : Shape} (x : FVec Ideal s .f32) (i : s.Idx) : expo x i = sExpo (x i) := by
  unfold expo sExpo
  rw [stp_apply, stp_apply, stp_apply, stp_apply, stp_apply, stp_apply, stp_apply, stp_apply]
  rfl

theorem mant_apply {s : Shape} (x : FVec Ideal s .f32) (e : IVec s 32) (i : s.Idx) : mant x e i = sMant (x i) (e i) := rfl

theorem wordUp_apply {s : Shape} (x : FVec Ideal s .f32) (i : s.Idx) : wordUp x i = sUp (x i) := by
  unfold wordUp sUp
  show IntOp.addi (IntOp.shli .vector (expo x i) 23#32) (Ideal.fptosi 32 (Ideal.liftRound Int.ceil (mant x (expo x) i))) = _
  rw [mant_apply, expo_apply]

theorem wordDn_apply {s : Shape} (x : FVec Ideal s .f32) (i : s.Idx) : wordDn x i = sDn (x i) := by
  unfold wordDn sDn
  show IntOp.addi (IntOp.shli .vector (expo x i) 23#32) (Ideal.fptosi 32 (mant x (expo x) i)) = _
  rw [mant_apply, expo_apply]

theorem addi_ofNat (a b : ℕ) : IntOp.addi (BitVec.ofNat 32 a) (BitVec.ofNat 32 b) = BitVec.ofNat 32 (a + b) := by
  unfold IntOp.addi; rw [← BitVec.ofNat_add]

theorem shl23_ofNat (a : ℕ) (h : a < 512) : IntOp.shli .vector (BitVec.ofNat 32 a) 23#32 = BitVec.ofNat 32 (a * 2 ^ 23) := by
  unfold IntOp.shli
  rw [if_pos (by decide)]
  apply BitVec.eq_of_toNat_eq
  simp only [BitVec.shiftLeft_eq', BitVec.toNat_shiftLeft, BitVec.toNat_ofNat, Nat.shiftLeft_eq]
  rw [show 23 % 2 ^ 32 = 23 from rfl]
  omega

theorem ofBits_pow (e : ℕ) (h : e ≤ 254) : Ideal.ofBits .f32 (IntOp.shli .vector (BitVec.ofNat 32 e) 23#32) = ((fv (e * 2 ^ 23) : ℝ) : EReal) := by
  rw [shl23_ofNat e (by omega), ofBits_fv _ (by omega)]

theorem select_oge (x y : EReal) (a b : BitVec 32) : Scalar.select (Ideal.cmp .oge x y) a b = if y ≤ x then a else b := by
  unfold Ideal.cmp Scalar.select
  by_cases h : y ≤ x <;> simp [h]

/-- The exponent field `k` is not above that of `x`. -/
def atMost (x : ℝ) (k : ℕ) : Prop := k ≤ 254 ∧ fv (k * 2 ^ 23) ≤ x

theorem sStp_spec (x : ℝ) (e b : ℕ) (h : e + b ≤ 255) (he : atMost x e) (hk : ∀ k, e + 2 * b ≤ k → ¬atMost x k) :
    ∃ e', e' ≤ e + b ∧ sStp x (BitVec.ofNat 32 e) (BitVec.ofNat 32 b) = BitVec.ofNat 32 e' ∧ atMost x e' ∧ ∀ k, e' + b ≤ k → ¬atMost x k := by
  unfold sStp
  rw [select_oge, addi_ofNat]
  by_cases h255 : e + b = 255
  · have ht : Ideal.ofBits .f32 (IntOp.shli .vector (BitVec.ofNat 32 (e + b)) 23#32) = ⊤ := by
      rw [h255, shl23_ofNat 255 (by omega)]
      simp [Ideal.ofBits, Ideal.ieee]
    rw [ht, if_neg (by simp)]
    exact ⟨e, by omega, rfl, he, fun k hk' h' => by have := h'.1; omega⟩
  · rw [ofBits_pow _ (by omega)]
    by_cases hx : fv ((e + b) * 2 ^ 23) ≤ x
    · rw [if_pos (by exact_mod_cast hx)]
      exact ⟨e + b, le_rfl, rfl, ⟨by omega, hx⟩, fun k hk' => hk k (by omega)⟩
    · rw [if_neg (by exact_mod_cast hx)]
      refine ⟨e, by omega, rfl, he, fun k hk' h' => hx (le_trans (fv_strictMono.monotone ?_) h'.2)⟩
      exact Nat.mul_le_mul_right _ hk'

/-- The bisection finds the exponent field. -/
theorem sExpo_spec (x : ℝ) (h0 : 0 ≤ x) (h1 : x < fv (254 * 2 ^ 23)) :
    ∃ e, e ≤ 253 ∧ sExpo x = BitVec.ofNat 32 e ∧ fv (e * 2 ^ 23) ≤ x ∧ x < fv ((e + 1) * 2 ^ 23) := by
  have i0 : atMost x 0 := ⟨by omega, by rw [Nat.zero_mul, fv_zero]; exact h0⟩
  have n0 : ∀ k, 0 + 2 * 128 ≤ k → ¬atMost x k := fun k hk h' => by have := h'.1; omega
  obtain ⟨e1, l1, q1, i1, n1⟩ := sStp_spec x 0 128 (by omega) i0 n0
  obtain ⟨e2, l2, q2, i2, n2⟩ := sStp_spec x e1 64 (by omega) i1 (by simpa using n1)
  obtain ⟨e3, l3, q3, i3, n3⟩ := sStp_spec x e2 32 (by omega) i2 (by simpa using n2)
  obtain ⟨e4, l4, q4, i4, n4⟩ := sStp_spec x e3 16 (by omega) i3 (by simpa using n3)
  obtain ⟨e5, l5, q5, i5, n5⟩ := sStp_spec x e4 8 (by omega) i4 (by simpa using n4)
  obtain ⟨e6, l6, q6, i6, n6⟩ := sStp_spec x e5 4 (by omega) i5 (by simpa using n5)
  obtain ⟨e7, l7, q7, i7, n7⟩ := sStp_spec x e6 2 (by omega) i6 (by simpa using n6)
  obtain ⟨e8, l8, q8, i8, n8⟩ := sStp_spec x e7 1 (by omega) i7 (by simpa using n7)
  have hle : e8 ≤ 253 := by
    by_contra hc
    have : fv (254 * 2 ^ 23) ≤ x := le_trans (fv_strictMono.monotone (Nat.mul_le_mul_right _ (by omega))) i8.2
    linarith
  refine ⟨e8, hle, ?_, i8.2, ?_⟩
  · unfold sExpo; rw [q1, q2, q3, q4, q5, q6, q7, q8]
  · by_contra hc
    exact n8 (e8 + 1) le_rfl ⟨by omega, not_lt.mp hc⟩

theorem hlf_table : ∀ e : Fin 254,
    IntOp.addi 127#32 (sHlf (BitVec.ofNat 32 e.val)) = BitVec.ofNat 32 ((404 - max e.val 1) / 2)
    ∧ IntOp.subi (IntOp.subi 277#32 (IntOp.maxsi (BitVec.ofNat 32 e.val) 1#32)) (sHlf (BitVec.ofNat 32 e.val))
      = BitVec.ofNat 32 (404 - max e.val 1 - (404 - max e.val 1) / 2) := by
  decide +kernel

/-- The mantissa's value. -/
theorem sMant_spec (x : ℝ) (e : ℕ) (he : e ≤ 253) :
    sMant x (BitVec.ofNat 32 e) = (((x - fv (e * 2 ^ 23)) / lsb e : ℝ) : EReal) := by
  have t1 := (hlf_table ⟨e, by omega⟩).1
  have t2 := (hlf_table ⟨e, by omega⟩).2
  dsimp only at t1 t2
  have hne : IntOp.cmpi .eq (BitVec.ofNat 32 e) 255#32 = 0#1 := by
    have : BitVec.ofNat 32 e ≠ 255#32 := fun h => by
      have := congrArg BitVec.toNat h
      simp only [BitVec.toNat_ofNat] at this; omega
    show BitVec.ofBool (BitVec.ofNat 32 e == 255#32) = 0#1
    rw [beq_eq_false_iff_ne.mpr this]; rfl
  unfold sMant
  rw [hne, t1, t2, ofBits_pow e (by omega), ofBits_pow ((404 - max e 1) / 2) (by omega),
    ofBits_pow (404 - max e 1 - (404 - max e 1) / 2) (by omega)]
  show (((x : ℝ) : EReal) - ((fv (e * 2 ^ 23) : ℝ) : EReal)) * _ * _ = _
  rw [fv_pow ((404 - max e 1) / 2) (by omega), fv_pow (404 - max e 1 - (404 - max e 1) / 2) (by omega), ← EReal.coe_sub, ← EReal.coe_mul, ← EReal.coe_mul]
  congr 1
  unfold lsb
  rw [mul_assoc, ← zpow_add₀ (by norm_num : (2 : ℝ) ≠ 0), div_eq_mul_inv, ← zpow_neg]
  congr 2
  omega

theorem fptosi_nonneg (r : ℝ) (h0 : 0 ≤ r) (h1 : r ≤ 2 ^ 23) : Ideal.fptosi 32 (r : EReal) = BitVec.ofNat 32 ⌊r⌋₊ := by
  show BitVec.ofInt 32 (max (-(2 ^ (32 - 1) : ℕ) : ℤ) (min (((2 ^ (32 - 1) : ℕ) : ℤ) - 1) (if 0 ≤ r then ⌊r⌋ else ⌈r⌉))) = _
  rw [if_pos h0]
  have hf0 : 0 ≤ ⌊r⌋ := Int.floor_nonneg.mpr h0
  have hf1 : ⌊r⌋ ≤ 2 ^ 23 := by
    have := (Int.floor_le r).trans h1
    exact_mod_cast this
  have : max (-(2 ^ (32 - 1) : ℕ) : ℤ) (min (((2 ^ (32 - 1) : ℕ) : ℤ) - 1) ⌊r⌋) = ((⌊r⌋₊ : ℕ) : ℤ) := by
    rw [Int.natCast_floor_eq_floor h0]; norm_num; omega
  rw [this, BitVec.ofInt_natCast]

/-- The word rounded up is the least word whose number is at least `x`. -/
theorem sUp_spec (x : ℝ) (h0 : 0 ≤ x) (h1 : x < fv (254 * 2 ^ 23)) :
    ∃ n, n ≤ 254 * 2 ^ 23 ∧ sUp x = BitVec.ofNat 32 n ∧ ∀ k, n ≤ k ↔ x ≤ fv k := by
  obtain ⟨e, he, hx, hlo, hhi⟩ := sExpo_spec x h0 h1
  have hp := lsb_pos e
  have hseg := fv_next e
  set M : ℝ := (x - fv (e * 2 ^ 23)) / lsb e with hM
  have hM0 : 0 ≤ M := div_nonneg (by linarith) hp.le
  have hM1 : M < 2 ^ 23 := by
    rw [hM, div_lt_iff₀ hp]; linarith
  have hxM : x = fv (e * 2 ^ 23) + M * lsb e := by
    rw [hM]; field_simp; ring
  have hc : ⌈M⌉₊ ≤ 2 ^ 23 := Nat.ceil_le.mpr (by rw [show ((2 ^ 23 : ℕ) : ℝ) = 2 ^ 23 by norm_num]; exact hM1.le)
  refine ⟨e * 2 ^ 23 + ⌈M⌉₊, by omega, ?_, fun k => ?_⟩
  · unfold sUp
    rw [hx, sMant_spec x e he, Ideal.liftRound_coe, shl23_ofNat e (by omega)]
    rw [fptosi_nonneg _ (by exact_mod_cast Int.ceil_nonneg hM0) (by
      rw [← hM, ← Int.natCast_ceil_eq_ceil hM0]; exact_mod_cast hc), addi_ofNat]
    rw [← hM, ← Int.natCast_ceil_eq_ceil hM0]
    norm_num
  · by_cases hk1 : k < e * 2 ^ 23
    · have := fv_strictMono hk1
      constructor
      · intro h; omega
      · intro h; linarith
    · by_cases hk2 : k ≤ (e + 1) * 2 ^ 23
      · obtain ⟨j, rfl⟩ : ∃ j, k = e * 2 ^ 23 + j := ⟨k - e * 2 ^ 23, by omega⟩
        rw [fv_seg e j (by omega), Nat.add_le_add_iff_left, Nat.ceil_le]
        constructor
        · intro h; rw [hxM]; nlinarith
        · intro h
          rw [hM, div_le_iff₀ hp]; linarith
      · constructor
        · intro _
          exact hhi.le.trans (fv_strictMono.monotone (by omega))
        · intro _; omega

/-- The word rounded down has the exponent field of `x`. -/
theorem sDn_spec (x : ℝ) (h0 : 0 ≤ x) (h1 : x < fv (254 * 2 ^ 23)) :
    ∃ e, e ≤ 253 ∧ IntOp.shrsi .vector (sDn x) 23#32 = BitVec.ofNat 32 e ∧ fv (e * 2 ^ 23) ≤ x ∧ x < fv ((e + 1) * 2 ^ 23) := by
  obtain ⟨e, he, hx, hlo, hhi⟩ := sExpo_spec x h0 h1
  have hp := lsb_pos e
  have hseg := fv_next e
  have hM0 : 0 ≤ (x - fv (e * 2 ^ 23)) / lsb e := div_nonneg (by linarith) hp.le
  have hM1 : (x - fv (e * 2 ^ 23)) / lsb e < 2 ^ 23 := by
    rw [div_lt_iff₀ hp]; linarith
  refine ⟨e, he, ?_, hlo, hhi⟩
  unfold sDn
  rw [hx, sMant_spec x e he, shl23_ofNat e (by omega), fptosi_nonneg _ hM0 hM1.le, addi_ofNat]
  have hf : ⌊(x - fv (e * 2 ^ 23)) / lsb e⌋₊ < 2 ^ 23 := (Nat.floor_lt hM0).mpr (by rw [show ((2 ^ 23 : ℕ) : ℝ) = 2 ^ 23 by norm_num]; exact hM1)
  generalize ⌊(x - fv (e * 2 ^ 23)) / lsb e⌋₊ = f at hf
  unfold IntOp.shrsi
  rw [if_pos (by decide)]
  apply BitVec.eq_of_toInt_eq
  rw [BitVec.sshiftRight_eq', BitVec.toInt_sshiftRight]
  rw [BitVec.toInt_eq_toNat_of_lt (by simp only [BitVec.toNat_ofNat]; omega), BitVec.toInt_eq_toNat_of_lt (by simp only [BitVec.toNat_ofNat]; omega)]
  simp only [BitVec.toNat_ofNat, Int.shiftRight_eq_div_pow]
  norm_num
  omega

end Cert.KernelIdeal.Dw

end
-- ==== Proof.Rounding.lean ====
/- The rounding to a four bit float, over the reals: the reference's formula, and that the kernel's code — a shifted word
   of the larger of the magnitude plus its scale's float and the magnitude's word one binade up — names the same value. -/
module

public import proofs.«01_k».proof.Proof.Words

@[expose] public section

noncomputable section

namespace Cert.KernelIdeal.Dw

open Idealize.ShloMosaic

/-- The magnitude a code stands for. -/
def val7 (c : ℕ) : ℝ := if c < 4 then c / 2 else if c < 6 then c - 2 else 2 * c - 8

/-- The spacing of the four bit floats at a magnitude. -/
def stepOf (R : ℝ) : ℝ := if R < 2 then 1 / 2 else if R < 4 then 1 else 2

/-- The four bit float at or below a magnitude. -/
def lowOf (R : ℝ) : ℝ := ⌊R / stepOf R⌋ * stepOf R

/-- The magnitude `R` rounded with the random number `u`. -/
def qv (R u : ℝ) : ℝ := if u < (R - lowOf R) / stepOf R then lowOf R + stepOf R else lowOf R

/-- The magnitude above which the code is at least `c`. -/
def thr (c : ℕ) (u : ℝ) : ℝ := val7 (c - 1) + (val7 c - val7 (c - 1)) * u

theorem qv_of_code (R u : ℝ) (c : ℕ) (h0 : 0 ≤ R) (h6 : R < 6) (hu0 : 0 < u) (hu1 : u < 1) (hc : c ≤ 7)
    (h : ∀ k, 1 ≤ k → k ≤ 7 → (k ≤ c ↔ thr k u < R)) : val7 c = qv R u := by
  have h1 := h 1 (by norm_num) (by norm_num)
  have h2 := h 2 (by norm_num) (by norm_num)
  have h3 := h 3 (by norm_num) (by norm_num)
  have h4 := h 4 (by norm_num) (by norm_num)
  have h5 := h 5 (by norm_num) (by norm_num)
  have h6' := h 6 (by norm_num) (by norm_num)
  have h7 := h 7 (by norm_num) (by norm_num)
  clear h
  simp only [thr, val7] at h1 h2 h3 h4 h5 h6' h7
  norm_num at h1 h2 h3 h4 h5 h6' h7
  -- what is left in each case: the code is the one below or the one above
  have fin : ∀ (lo st : ℝ) (k : ℕ), 0 < st → stepOf R = st → lowOf R = lo → val7 k = lo → val7 (k + 1) = lo + st →
      k ≤ c → c ≤ k + 1 → (k + 1 ≤ c ↔ lo + st * u < R) → val7 c = qv R u := by
    intro lo st k hst es el v1 v2 hk1 hk2 hk
    have hd : u < (R - lo) / st ↔ u * st < R - lo := lt_div_iff₀ hst
    unfold qv
    rw [es, el]
    by_cases hk' : k + 1 ≤ c
    · rw [if_pos (hd.mpr (by have := hk.mp hk'; linarith)), show c = k + 1 by omega, v2]
    · rw [if_neg (by rw [hd]; intro hh; exact hk' (hk.mpr (by linarith))), show c = k by omega, v1]
  have low : ∀ (st : ℝ) (f : ℤ), 0 < st → stepOf R = st → f * st ≤ R → R < (f + 1) * st → lowOf R = f * st := by
    intro st f hst es hl hh
    unfold lowOf
    rw [es, Int.floor_eq_iff.mpr ⟨by rw [le_div_iff₀ hst]; exact hl, by rw [div_lt_iff₀ hst]; exact hh⟩]
  by_cases c2 : R < 2
  · have es : stepOf R = 1 / 2 := if_pos c2
    by_cases a1 : R < 1 / 2
    · refine fin 0 (1 / 2) 0 (by norm_num) es ((low (1 / 2) 0 (by norm_num) es (by norm_num; linarith) (by norm_num; linarith)).trans (by norm_num)) (by norm_num [val7]) (by norm_num [val7]) (by omega) ?_ (by constructor <;> intro hh <;> first | (have := h1.mp (by omega); linarith) | exact (h1.mpr (by linarith)))
      by_contra hh; have := h2.mp (by omega); linarith
    · by_cases a2 : R < 1
      · refine fin (1 / 2) (1 / 2) 1 (by norm_num) es ((low (1 / 2) 1 (by norm_num) es (by norm_num; linarith) (by norm_num; linarith)).trans (by norm_num)) (by norm_num [val7]) (by norm_num [val7]) ?_ ?_ (by constructor <;> intro hh <;> first | (have := h2.mp (by omega); linarith) | exact (h2.mpr (by linarith)))
        · exact h1.mpr (by linarith)
        by_contra hh; have := h3.mp (by omega); linarith
      · by_cases a3 : R < 3 / 2
        · refine fin 1 (1 / 2) 2 (by norm_num) es ((low (1 / 2) 2 (by norm_num) es (by norm_num; linarith) (by norm_num; linarith)).trans (by norm_num)) (by norm_num [val7]) (by norm_num [val7]) ?_ ?_ (by constructor <;> intro hh <;> first | (have := h3.mp (by omega); linarith) | exact (h3.mpr (by linarith)))
          · exact h2.mpr (by linarith)
          by_contra hh; have := h4.mp (by omega); linarith
        · refine fin (3 / 2) (1 / 2) 3 (by norm_num) es ((low (1 / 2) 3 (by norm_num) es (by norm_num; linarith) (by norm_num; linarith)).trans (by norm_num)) (by norm_num [val7]) (by norm_num [val7]) ?_ ?_ (by constructor <;> intro hh <;> first | (have := h4.mp (by omega); linarith) | exact (h4.mpr (by linarith)))
          · exact h3.mpr (by linarith)
          by_contra hh; have := h5.mp (by omega); linarith
  · by_cases c4 : R < 4
    · have es : stepOf R = 1 := by unfold stepOf; rw [if_neg c2, if_pos c4]
      by_cases a1 : R < 3
      · refine fin 2 1 4 (by norm_num) es ((low 1 2 (by norm_num) es (by norm_num; linarith) (by norm_num; linarith)).trans (by norm_num)) (by norm_num [val7]) (by norm_num [val7]) ?_ ?_ (by constructor <;> intro hh <;> first | (have := h5.mp (by omega); linarith) | exact (h5.mpr (by linarith)))
        · exact h4.mpr (by linarith)
        by_contra hh; have := h6'.mp (by omega); linarith
      · refine fin 3 1 5 (by norm_num) es ((low 1 3 (by norm_num) es (by norm_num; linarith) (by norm_num; linarith)).trans (by norm_num)) (by norm_num [val7]) (by norm_num [val7]) ?_ ?_ (by constructor <;> intro hh <;> first | (have := h6'.mp (by omega); linarith) | exact (h6'.mpr (by linarith)))
        · exact h5.mpr (by linarith)
        by_contra hh; have := h7.mp (by omega); linarith
    · have es : stepOf R = 2 := by unfold stepOf; rw [if_neg c2, if_neg c4]
      refine fin 4 2 6 (by norm_num) es ((low 2 2 (by norm_num) es (by norm_num; linarith) (by norm_num; linarith)).trans (by norm_num)) (by norm_num [val7]) (by norm_num [val7]) ?_ (by omega) (by constructor <;> intro hh <;> first | (have := h7.mp (by omega); linarith) | exact (h7.mpr (by linarith)))
      exact h6'.mpr (by linarith)

theorem lsb_add (p q : ℕ) (h : 1 ≤ p) : lsb (p + q) = 2 ^ q * lsb p := by
  induction q with
  | zero => simp
  | succ q ih => rw [← Nat.add_assoc, lsb_succ _ (by omega), ih, pow_succ]; ring

theorem fv_at (e S : ℕ) (h : 1 ≤ e) (hS : S ≤ 2 ^ 23) : fv (e * 2 ^ 23 + S) = (2 ^ 23 + S) * lsb e := by
  rw [fv_seg e S hS]
  have := fv_high e 0 h (by norm_num)
  rw [Nat.add_zero] at this
  rw [this]; push_cast; ring

/-- The number the kernel takes the word of is above that of the last word before code `2 q + h + 1` (its mantissa's top
    bits `h` and the random bits `b`) exactly when the magnitude is above that code's threshold. -/
theorem above_iff (p q h b n : ℕ) (r : ℝ) (hp : 1 ≤ p) (hq : q ≤ 3) (hh : h ≤ 1) (hb : b < 256)
    (hn : ∀ k, n ≤ k ↔ r ≤ fv k) :
    (fv ((p + q) * 2 ^ 23 + ((256 * h + b + 1) * 2 ^ 14 - 1)) < r + fv (p * 2 ^ 23 + 8191)
      ∨ fv ((p + q) * 2 ^ 23 + ((256 * h + b + 1) * 2 ^ 14 - 1)) < fv (n + 8396799))
    ↔ thr (2 * q + h + 1) ((b + 1 / 2) / 256) * fv (p * 2 ^ 23) < r := by
  have hS1 : (256 * h + b + 1) * 2 ^ 14 ≤ 2 ^ 23 := by omega
  have hlp := lsb_pos p
  have hm : ((((256 * h + b + 1) * 2 ^ 14 - 1 : ℕ)) : ℝ) = (256 * h + b + 1) * 2 ^ 14 - 1 := by
    rw [Nat.cast_sub (by omega)]; push_cast; ring
  have hm' : ((((256 * h + b + 1) * 2 ^ 14 - 8192 : ℕ)) : ℝ) = (256 * h + b + 1) * 2 ^ 14 - 8192 := by
    rw [Nat.cast_sub (by omega)]; push_cast; ring
  have hB : fv ((p + q) * 2 ^ 23 + ((256 * h + b + 1) * 2 ^ 14 - 1)) < fv (n + 8396799)
      ↔ fv ((p - 1 + q) * 2 ^ 23 + ((256 * h + b + 1) * 2 ^ 14 - 8192)) < r := by
    rw [fv_strictMono.lt_iff_lt, ← not_le, ← not_le, ← hn]
    refine not_congr ?_
    obtain ⟨p', rfl⟩ : ∃ p', p = p' + 1 := ⟨p - 1, by omega⟩
    simp only [Nat.add_sub_cancel]
    omega
  rw [hB, fv_at (p + q) _ (by omega) (by omega), fv_at p _ hp (by norm_num), lsb_add p q hp]
  have hP : fv (p * 2 ^ 23) = 2 ^ 23 * lsb p := by
    have := fv_at p 0 hp (by norm_num)
    rw [Nat.add_zero] at this
    rw [this]; push_cast; ring
  rw [hP, hm]
  have hbR : (b : ℝ) ≤ 255 := by exact_mod_cast (by omega : b ≤ 255)
  have hb0 : (0 : ℝ) ≤ b := Nat.cast_nonneg b
  have hhR : (h : ℝ) ≤ 1 := by exact_mod_cast hh
  have hh0 : (0 : ℝ) ≤ h := Nat.cast_nonneg h
  rcases Nat.eq_zero_or_pos q with rfl | hq0
  · -- below one: the sum decides
    have ht : thr (2 * 0 + h + 1) ((b + 1 / 2) / 256) * (2 ^ 23 * lsb p) = ((256 * h + b + 1) * 2 ^ 14 - 8192) * lsb p := by
      have : h = 0 ∨ h = 1 := by omega
      rcases this with rfl | rfl <;> (unfold thr val7; norm_num; ring)
    rw [ht]
    have hle : ((256 * h + b + 1) * 2 ^ 14 - 8192) * lsb p ≤ fv ((p - 1 + 0) * 2 ^ 23 + ((256 * h + b + 1) * 2 ^ 14 - 8192)) := by
      rcases Nat.lt_or_ge 1 p with hp2 | hp2
      · rw [fv_at (p - 1 + 0) _ (by omega) (by omega), hm']
        have : lsb p = 2 * lsb (p - 1) := by
          have := lsb_succ (p - 1) (by omega)
          rwa [Nat.sub_add_cancel hp] at this
        rw [this]
        have := lsb_pos (p - 1)
        rw [Nat.add_zero]
        nlinarith
      · have : p = 1 := by omega
        subst this
        rw [show (1 - 1 + 0) * 2 ^ 23 + ((256 * h + b + 1) * 2 ^ 14 - 8192) = (256 * h + b + 1) * 2 ^ 14 - 8192 by omega,
          fv_low _ (by omega), hm']
        rfl
    norm_num at hle ⊢
    constructor
    · rintro (hh | hh) <;> linarith
    · intro hh; left; linarith
  · have he : 1 ≤ p - 1 + q := by omega
    rw [fv_at (p - 1 + q) _ he (by omega), hm']
    have hl : lsb (p - 1 + q) = 2 ^ (q - 1) * lsb p := by
      rw [show p - 1 + q = p + (q - 1) by omega, lsb_add p (q - 1) hp]
    rw [hl]
    have ht : thr (2 * q + h + 1) ((b + 1 / 2) / 256) * (2 ^ 23 * lsb p)
        = (2 ^ 23 + ((256 * h + b + 1) * 2 ^ 14 - 8192)) * (2 ^ (q - 1) * lsb p) := by
      have h1 : h = 0 ∨ h = 1 := by omega
      have h2 : q = 1 ∨ q = 2 ∨ q = 3 := by omega
      rcases h1 with rfl | rfl <;> rcases h2 with rfl | rfl | rfl <;> (unfold thr val7; norm_num; ring)
    rw [ht]
    constructor
    · rintro (hh | hh)
      · refine lt_of_le_of_lt ?_ (sub_lt_iff_lt_add.mpr hh)
        have h2 : q = 1 ∨ q = 2 ∨ q = 3 := by omega
        rcases h2 with rfl | rfl | rfl <;> (norm_num; nlinarith)
      · exact hh
    · intro hh; right; exact hh

end Cert.KernelIdeal.Dw

end
-- ==== Proof.Codes.lean ====
/- A group's codes at one element: of the four bytes of a word, byte `q` is computed from the word of channel `4 s + q`, its
   random bits, its sign and the group's constant, and from nothing else. -/
module

public import proofs.«01_k».proof.Proof.Rounding
public import Idealize.ShloMosaic.Lib.BitcastPair
public import Idealize.ShloMosaic.Lib.Pointwise

@[expose] public section

set_option maxRecDepth 16384

noncomputable section

namespace Cert.KernelIdeal.Dw

open Cert.KernelIdeal.Gen
open Idealize.ShloMosaic Idealize.ShloMosaic.TcCoe Idealize.ShloMosaic.Tactic

/-- Two half words make a word, -/
theorem cast_16_32 (x : IVec S16x128 16) (s : Fin 8) (l : Fin 128) :
    bitcast S8x128 32 x bitcasts_S16x128_w16_S8x128_w32 (ix2 s l)
      = x (ix2 ⟨2 * s.val + 1, by omega⟩ l) ++ x (ix2 ⟨2 * s.val, by omega⟩ l) := by
  rw [bitcast_16_32]
  congr 1
  all_goals
    congr 1
    funext a
    apply Fin.ext
    fin_cases a <;> rfl

/-- the half words of a word are its two halves, -/
theorem cast_32_16 (x : IVec S8x128 32) (s : Fin 8) (k : Fin 2) (l : Fin 128) :
    bitcast S16x128 16 x bitcasts_S8x128_w32_S16x128_w16 (ix2 ⟨2 * s.val + k.val, by omega⟩ l)
      = (x (ix2 s l)).extractLsb' (16 * k.val) 16 := by
  apply BitVec.eq_of_getLsbD_eq
  intro i hi
  rw [bitcast_getLsbD x _ _ i hi (by decide), BitVec.getLsbD_extractLsb', decide_eq_true hi, Bool.true_and]
  have e1 : ((2 * s.val + k.val) * 16 + i) / 32 = s.val := by omega
  have e2 : ((2 * s.val + k.val) * 16 + i) % 32 = 16 * k.val + i := by omega
  have hrow : Shape.row (s := S16x128) (ix2 ⟨2 * s.val + k.val, by omega⟩ l) = 2 * s.val + k.val := rfl
  simp only [hrow, e2]
  congr 2
  funext a
  apply Fin.ext
  fin_cases a
  · exact e1
  · rfl

/-- the bytes of a word are its four bytes, -/
theorem cast_32_8 (x : IVec S8x128 32) (s : Fin 8) (q : Fin 4) (l : Fin 128) :
    bitcast S32x128 8 x bitcasts_S8x128_w32_S32x128_w8 (ix2 ⟨4 * s.val + q.val, by omega⟩ l)
      = (x (ix2 s l)).extractLsb' (8 * q.val) 8 := by
  apply BitVec.eq_of_getLsbD_eq
  intro i hi
  rw [bitcast_getLsbD x _ _ i hi (by decide), BitVec.getLsbD_extractLsb', decide_eq_true hi, Bool.true_and]
  have e1 : ((4 * s.val + q.val) * 8 + i) / 32 = s.val := by omega
  have e2 : ((4 * s.val + q.val) * 8 + i) % 32 = 8 * q.val + i := by omega
  have hrow : Shape.row (s := S32x128) (ix2 ⟨4 * s.val + q.val, by omega⟩ l) = 4 * s.val + q.val := rfl
  simp only [hrow, e2]
  congr 2
  funext a
  apply Fin.ext
  fin_cases a
  · exact e1
  · rfl

/-- and four bytes make a word. -/
theorem cast_8_32 (x : Vec Ideal S256x256 .i8) (s : Fin 64) (q : Fin 4) (l : Fin 256) :
    (bitcast S64x256 32 x bitcasts_S256x256_w8_S64x256_w32 (ix2 s l)).extractLsb' (8 * q.val) 8
      = x (ix2 ⟨4 * s.val + q.val, by omega⟩ l) := by
  apply BitVec.eq_of_getLsbD_eq
  intro i hi
  rw [BitVec.getLsbD_extractLsb', decide_eq_true hi, Bool.true_and, bitcast_getLsbD x _ _ (8 * q.val + i) (by omega) (by decide)]
  have e1 : (s.val * 32 + (8 * q.val + i)) / 8 = 4 * s.val + q.val := by omega
  have e2 : (s.val * 32 + (8 * q.val + i)) % 8 = i := by omega
  have hrow : Shape.row (s := S64x256) (ix2 s l) = s.val := rfl
  simp only [hrow, e2]
  congr 2
  funext a
  apply Fin.ext
  fin_cases a
  · exact e1
  · rfl

/-- A half word of the code of one channel: its word's top bits, the group's constant, less the random bits. -/
def half (z : BitVec 32) (k : BitVec 16) (t : BitVec 8) : BitVec 16 := (z >>> 14).setWidth 16 + k - t.setWidth 16

/-- The nibble of a half word and a sign. -/
def nibOf (H : BitVec 16) (n : Bool) : BitVec 32 :=
  let y := H ||| (if n then 0x8000#16 else 0#16)
  ((y >>> 8) ||| (y >>> 12)).setWidth 32 &&& 15#32

/-- A word of two half words. -/
def cat16 (hi lo : BitVec 16) : BitVec 32 := hi ++ lo

theorem cat16_bit (hi lo : BitVec 16) (i : ℕ) : (cat16 hi lo).getLsbD i = if i < 16 then lo.getLsbD i else hi.getLsbD (i - 16) :=
  BitVec.getLsbD_append

/-- The word of two half words with their signs. -/
def yW (lo hi : BitVec 16) (nl nh : Bool) : BitVec 32 :=
  cat16 hi lo ||| ((if nl then 32768#32 else 0#32) ||| (if nh then 2147483648#32 else 0#32))

/-- The bytes of four half words, with their signs copied to bit 3. -/
def bW (y0 y1 : BitVec 32) : BitVec 32 :=
  let b := ((y0 >>> 8) &&& 16711935#32) ||| (y1 &&& 4278255360#32)
  b ||| (b >>> 4)

theorem sgLo_bit (n : Bool) (i : ℕ) (hi : i < 32) : (if n then 32768#32 else 0#32).getLsbD i = (n && decide (i = 15)) := by
  cases n
  · simp
  · interval_cases i <;> rfl

theorem sgHi_bit (n : Bool) (i : ℕ) (hi : i < 32) : (if n then 2147483648#32 else 0#32).getLsbD i = (n && decide (i = 31)) := by
  cases n
  · simp
  · interval_cases i <;> rfl

theorem sg16_bit (n : Bool) (i : ℕ) (hi : i < 16) : (if n then 0x8000#16 else 0#16).getLsbD i = (n && decide (i = 15)) := by
  cases n
  · simp
  · interval_cases i <;> rfl

theorem mLo_bit (i : ℕ) (hi : i < 32) : (16711935#32).getLsbD i = decide (i % 16 < 8) := by
  interval_cases i <;> rfl

theorem mHi_bit (i : ℕ) (hi : i < 32) : (4278255360#32).getLsbD i = decide (8 ≤ i % 16) := by
  interval_cases i <;> rfl

/-- Byte `q`'s nibble is that of half word `q`. -/
theorem byte_nib (H0 H1 H2 H3 : BitVec 16) (n0 n1 n2 n3 : Bool) :
    ((bW (yW H0 H2 n0 n2) (yW H1 H3 n1 n3)).extractLsb' (8 * 0) 8).signExtend 32 &&& 15#32 = nibOf H0 n0
    ∧ ((bW (yW H0 H2 n0 n2) (yW H1 H3 n1 n3)).extractLsb' (8 * 1) 8).signExtend 32 &&& 15#32 = nibOf H1 n1
    ∧ ((bW (yW H0 H2 n0 n2) (yW H1 H3 n1 n3)).extractLsb' (8 * 2) 8).signExtend 32 &&& 15#32 = nibOf H2 n2
    ∧ ((bW (yW H0 H2 n0 n2) (yW H1 H3 n1 n3)).extractLsb' (8 * 3) 8).signExtend 32 &&& 15#32 = nibOf H3 n3 := by
  refine ⟨?_, ?_, ?_, ?_⟩ <;>
  · apply BitVec.eq_of_getLsbD_eq
    intro i hi
    have h15 : ∀ j, 4 ≤ j → (15#32).getLsbD j = false := by
      intro j hj
      by_cases h : j < 32
      · interval_cases j <;> rfl
      · exact BitVec.getLsbD_of_ge _ _ (by omega)
    have se : ∀ (x : BitVec 8) (j : ℕ), j < 4 → (x.signExtend 32).getLsbD j = x.getLsbD j := by
      intro x j hj
      rw [BitVec.getLsbD_signExtend, decide_eq_true (by omega : j < 32), Bool.true_and, if_pos (by omega : j < 8)]
    unfold nibOf
    simp only [BitVec.getLsbD_and]
    by_cases h4 : 4 ≤ i
    · rw [h15 i h4, Bool.and_false, Bool.and_false]
    · have : i = 0 ∨ i = 1 ∨ i = 2 ∨ i = 3 := by omega
      rcases this with rfl | rfl | rfl | rfl <;>
      · rw [se _ _ (by decide), BitVec.getLsbD_extractLsb']
        simp [-BitVec.getLsbD_eq_getElem, bW, yW, cat16_bit, sgLo_bit, sgHi_bit, sg16_bit, mLo_bit, mHi_bit]

/-- The nibble of a half word below 2048: its top three bits, and the sign. -/
theorem nibOf_val : ∀ (x : Fin 2048) (n : Bool), nibOf (BitVec.ofNat 16 x.val) n = BitVec.ofNat 32 (x.val / 256 + if n then 8 else 0) := by
  decide +kernel

/-- A half word's value, if the shifted word `D` is at least the group's `512 p` and not far above it. -/
theorem half_val (z : BitVec 32) (D p : ℕ) (t : BitVec 8) (hz : z >>> 14 = BitVec.ofNat 32 D) (h0 : 512 * p ≤ D) (h1 : D < 2 ^ 18) :
    half z ((((255#32 - BitVec.ofNat 32 p <<< 9) &&& 65535#32)).setWidth 16) t = BitVec.ofNat 16 (D + 255 - t.toNat - 512 * p) := by
  have hk : (((255#32 - BitVec.ofNat 32 p <<< 9) &&& 65535#32)).setWidth 16 = 255#16 - BitVec.ofNat 16 (512 * p) := by
    apply BitVec.eq_of_toNat_eq
    rw [BitVec.toNat_setWidth, BitVec.toNat_and, show (65535#32).toNat = 2 ^ 16 - 1 from rfl, Nat.and_two_pow_sub_one_eq_mod]
    simp only [BitVec.toNat_sub, BitVec.toNat_ofNat, BitVec.toNat_shiftLeft, Nat.shiftLeft_eq]
    omega
  unfold half
  rw [hk, hz]
  have ht := t.isLt
  apply BitVec.eq_of_toNat_eq
  simp only [BitVec.toNat_sub, BitVec.toNat_add, BitVec.toNat_ofNat, BitVec.toNat_setWidth]
  omega

/-- Rows of a tile. -/
theorem irow_apply (v : IVec S256x128 32) (o : ℕ) (h : S256x128.Slices ![o, 0] S8x128) (s : Fin 8) (l : Fin 128) (ho : o + 8 ≤ 256) :
    irow v o h (ix2 s l) = v (ix2 ⟨o + s.val, by omega⟩ l) := by
  show v _ = v _
  congr 1
  funext a; apply Fin.ext
  fin_cases a
  · rfl
  · exact Nat.zero_add _

theorem vrow_apply (v : FVec Ideal S256x128 .f32) (o : ℕ) (h : S256x128.Slices ![o, 0] S8x128) (s : Fin 8) (l : Fin 128) (ho : o + 8 ≤ 256) :
    vrow v o h (ix2 s l) = v (ix2 ⟨o + s.val, by omega⟩ l) := by
  show v _ = v _
  congr 1
  funext a; apply Fin.ext
  fin_cases a
  · rfl
  · exact Nat.zero_add _

theorem wrow_apply (v : IVec S64x128 32) (o : ℕ) (h : S64x128.Slices ![o, 0] S8x128) (s : Fin 8) (l : Fin 128) (ho : o + 8 ≤ 64) :
    wrow v o h (ix2 s l) = v (ix2 ⟨o + s.val, by omega⟩ l) := by
  show v _ = v _
  congr 1
  funext a; apply Fin.ext
  fin_cases a
  · rfl
  · exact Nat.zero_add _

theorem crow_apply (c : Vec Ideal S1x128 .i32) (s : Fin 8) (l : Fin 128) : crow (F := Ideal) c (ix2 s l) = c (ix2 0 l) := by
  pointwise [crow]
  done

theorem sgn2_apply (lo hi : FVec Ideal S8x128 .f32) (j : S8x128.Idx) :
    sgn2 lo hi j = (if decide ((lo j : EReal) < 0) = true then 32768#32 else 0#32) ||| (if decide ((hi j : EReal) < 0) = true then 2147483648#32 else 0#32) := by
  show IntOp.ori (Scalar.select (Ideal.cmp .olt (lo j) (Ideal.ofBits .f32 0x00000000#32)) 32768#32 0#32)
    (Scalar.select (Ideal.cmp .olt (hi j) (Ideal.ofBits .f32 0x00000000#32)) 2147483648#32 0#32) = _
  rw [Ideal.ofBits_zero_f32]
  unfold Ideal.cmp Scalar.select IntOp.ori
  by_cases h1 : (lo j : EReal) < 0 <;> by_cases h2 : (hi j : EReal) < 0 <;> simp [h1, h2]

/-- Two rows' half words and their signs, as a word. -/
theorem yrow_apply (zl zh t k : IVec S8x128 32) (vl vh : FVec Ideal S8x128 .f32) (s : Fin 8) (l : Fin 128) :
    yrow zl zh t k vl vh (ix2 s l)
      = yW ((((zl (ix2 s l)) >>> 14).setWidth 16 + (k (ix2 s l)).extractLsb' 0 16) - (t (ix2 s l)).extractLsb' 0 16)
          ((((zh (ix2 s l)) >>> 14).setWidth 16 + (k (ix2 s l)).extractLsb' 16 16) - (t (ix2 s l)).extractLsb' 16 16)
          (decide ((vl (ix2 s l) : EReal) < 0)) (decide ((vh (ix2 s l) : EReal) < 0)) := by
  unfold yrow yW
  show IntOp.ori _ _ = _
  rw [cast_16_32, sgn2_apply]
  unfold IntOp.ori
  have h0 := fun x => cast_32_16 x s 0 l
  have h1 := fun x => cast_32_16 x s 1 l
  simp only [Fin.val_zero, Fin.val_one, Nat.add_zero] at h0 h1
  show cat16 ((bitcast S16x128 16 _ _ _ + bitcast S16x128 16 _ _ _) - bitcast S16x128 16 _ _ _)
    ((bitcast S16x128 16 _ _ _ + bitcast S16x128 16 _ _ _) - bitcast S16x128 16 _ _ _) ||| _ = _
  rw [h0, h0, h0, h1, h1, h1, packElementwiseI16_apply]
  have hs : ∀ z : IVec S8x128 32, shrui z (broadcast S8x128 14#32) (ix2 s l) = (z (ix2 s l)) >>> 14 := fun z => rfl
  rw [hs, hs]
  congr 4
  · apply BitVec.eq_of_getLsbD_eq
    intro i hi
    rw [BitVec.getLsbD_extractLsb', decide_eq_true hi, Bool.true_and, BitVec.getLsbD_append, if_neg (by omega)]
    congr 1; omega
  · apply BitVec.eq_of_getLsbD_eq
    intro i hi
    rw [BitVec.getLsbD_extractLsb', decide_eq_true hi, Bool.true_and, BitVec.getLsbD_append, if_pos (by omega)]
    congr 1; omega

end Cert.KernelIdeal.Dw

end
-- ==== Proof.Decode.lean ====
/- The values a tile leaves, one at a time: a code's nibble, the number it stands for, and its group's scale. -/
module

public import proofs.«01_k».proof.Proof.Codes
public import Idealize.ShloMosaic.Lib.Pipeline.Value
public import Idealize.ShloMosaic.Lib.Pointwise

@[expose] public section

set_option maxRecDepth 16384

noncomputable section

namespace Cert.KernelIdeal.Dw

open Cert.KernelIdeal.Gen
open Idealize.ShloMosaic Idealize.ShloMosaic.TcCoe Idealize.ShloMosaic.Tactic

/-- The four random bytes of a word, as the half words of `w` and of `w` shifted. -/
theorem t_bytes (w : BitVec 32) :
    (w &&& 16711935#32).extractLsb' 0 16 = (w.extractLsb' (8 * 0) 8).setWidth 16
    ∧ ((w >>> 8) &&& 16711935#32).extractLsb' 0 16 = (w.extractLsb' (8 * 1) 8).setWidth 16
    ∧ (w &&& 16711935#32).extractLsb' 16 16 = (w.extractLsb' (8 * 2) 8).setWidth 16
    ∧ ((w >>> 8) &&& 16711935#32).extractLsb' 16 16 = (w.extractLsb' (8 * 3) 8).setWidth 16 := by
  refine ⟨?_, ?_, ?_, ?_⟩ <;>
  · apply BitVec.eq_of_getLsbD_eq
    intro i hi
    simp only [BitVec.getLsbD_extractLsb', BitVec.getLsbD_and, BitVec.getLsbD_setWidth, BitVec.getLsbD_ushiftRight, decide_eq_true hi,
      Bool.true_and]
    rw [mLo_bit _ (by omega)]
    by_cases h : i < 8
    · have : (decide ((0 + i) % 16 < 8)) = true ∧ (decide ((16 + i) % 16 < 8)) = true := by
        constructor <;> (apply decide_eq_true; omega)
      simp only [this.1, this.2, decide_eq_true h, Bool.and_true, Bool.true_and]
      first
        | done
        | (congr 1; omega)
    · have : (decide ((0 + i) % 16 < 8)) = false ∧ (decide ((16 + i) % 16 < 8)) = false := by
        constructor <;> (apply decide_eq_false; omega)
      simp only [this.1, this.2, decide_eq_false h, Bool.and_false, Bool.false_and]

/-- A code's nibble, from the word after the rounding step, the group's constant and the random byte. -/
def nibAt (z : BitVec 32) (K : BitVec 16) (t : BitVec 8) (v : EReal) : BitVec 32 := nibOf (half z K t) (decide (v < 0))

theorem code_apply (zw : IVec S256x128 32) (v : FVec Ideal S256x128 .f32) (w : IVec S8x128 32) (c : Vec Ideal S1x128 .i32) (o : ℕ)
    (h0 : S256x128.Slices ![o, 0] S8x128) (h1 : S256x128.Slices ![o + 8, 0] S8x128)
    (h2 : S256x128.Slices ![o + 16, 0] S8x128) (h3 : S256x128.Slices ![o + 24, 0] S8x128) (ho : o + 32 ≤ 256)
    (s : Fin 8) (q : Fin 4) (l : Fin 128) (K : BitVec 16) (hc : ∀ k : Fin 2, (c (ix2 0 l)).extractLsb' (16 * k.val) 16 = K) :
    (code (F := Ideal) zw v w c o (o + 8) (o + 16) (o + 24) h0 h1 h2 h3 (ix2 ⟨4 * s.val + q.val, by omega⟩ l)).signExtend 32 &&& 15#32
      = nibAt (zw (ix2 ⟨o + 8 * q.val + s.val, by omega⟩ l)) K ((w (ix2 s l)).extractLsb' (8 * q.val) 8)
          (v (ix2 ⟨o + 8 * q.val + s.val, by omega⟩ l)) := by
  unfold code
  rw [cast_32_8]
  have hK0 := hc 0
  have hK1 := hc 1
  simp only [Fin.val_zero, Fin.val_one, Nat.mul_zero, Nat.mul_one] at hK0 hK1
  obtain ⟨t0, t1, t2, t3⟩ := t_bytes (w (ix2 s l))
  have hb : ∀ y0 y1 : IVec S8x128 32, (ori (brow y0 y1) (shrui (brow y0 y1) (broadcast S8x128 4#32))) (ix2 s l) = bW (y0 (ix2 s l)) (y1 (ix2 s l)) :=
    fun _ _ => rfl
  rw [hb, yrow_apply, yrow_apply, crow_apply, hK0, hK1]
  rw [irow_apply _ _ _ _ _ (by omega), irow_apply _ _ _ _ _ (by omega), irow_apply _ _ _ _ _ (by omega), irow_apply _ _ _ _ _ (by omega),
    vrow_apply _ _ _ _ _ (by omega), vrow_apply _ _ _ _ _ (by omega), vrow_apply _ _ _ _ _ (by omega), vrow_apply _ _ _ _ _ (by omega)]
  have ha : (andi w (broadcast S8x128 16711935#32)) (ix2 s l) = w (ix2 s l) &&& 16711935#32 := rfl
  have ha' : (andi (shrui w (broadcast S8x128 8#32)) (broadcast S8x128 16711935#32)) (ix2 s l) = (w (ix2 s l) >>> 8) &&& 16711935#32 := rfl
  rw [ha, ha', t0, t1, t2, t3]
  unfold nibAt half
  have B := fun H0 H1 H2 H3 n0 n1 n2 n3 => byte_nib H0 H1 H2 H3 n0 n1 n2 n3
  match q with
  | ⟨0, _⟩ => exact (B _ _ _ _ _ _ _ _).1
  | ⟨1, _⟩ => exact (B _ _ _ _ _ _ _ _).2.1
  | ⟨2, _⟩ => exact (B _ _ _ _ _ _ _ _).2.2.1
  | ⟨3, _⟩ => exact (B _ _ _ _ _ _ _ _).2.2.2

/-- Two groups' nibbles: the first 32 rows are the first group's, -/
theorem nib_lo (c0 c1 : IVec S32x128 8) (r : Fin 32) (l : Fin 128) :
    nib c0 c1 (ix2 ⟨r.val, by omega⟩ l) = (c0 (ix2 r l)).signExtend 32 &&& 15#32 := by
  unfold nib
  show (concatenate S64x128 0 _ _ _ : BitVec 8).signExtend 32 &&& 15#32 = _
  rw [concatenate_apply_piece (t := S64x128) 0 _ _ (ix2 (⟨r.val, by omega⟩ : Fin 64) l) 0 (by simp) S32x128 c0 rfl rfl 0 rfl (ix2 r l)]
  · intro b hb
    fin_cases b
    · exact absurd rfl hb
    · rfl
  · exact Nat.zero_add _

/-- the last 32 the second's. -/
theorem nib_hi (c0 c1 : IVec S32x128 8) (r : Fin 32) (l : Fin 128) :
    nib c0 c1 (ix2 ⟨32 + r.val, by omega⟩ l) = (c1 (ix2 r l)).signExtend 32 &&& 15#32 := by
  unfold nib
  show (concatenate S64x128 0 _ _ _ : BitVec 8).signExtend 32 &&& 15#32 = _
  rw [concatenate_apply_piece (t := S64x128) 0 _ _ (ix2 (⟨32 + r.val, by omega⟩ : Fin 64) l) 1 (by simp) S32x128 c1 rfl rfl 32 rfl (ix2 r l)]
  · intro b hb
    fin_cases b
    · exact absurd rfl hb
    · rfl
  · rfl

/-- The value of a magnitude of three bits, -/
def sMag (g : BitVec 32) : EReal :=
  Scalar.select (IntOp.cmpi .slt g 4#32) (Ideal.ofBits .f32 0x3F000000#32 * ((g.toInt : ℝ) : EReal))
    (Scalar.select (IntOp.cmpi .slt g 6#32) (((g.toInt : ℝ) : EReal) - Ideal.ofBits .f32 0x40000000#32)
      (Ideal.ofBits .f32 0x40000000#32 * ((g.toInt : ℝ) : EReal) - Ideal.ofBits .f32 0x41000000#32))

/-- and of a nibble. -/
def sDec (n : BitVec 32) : EReal :=
  Scalar.select (IntOp.cmpi .sge n 8#32) (Ideal.ofBits .f32 0x00000000#32 - sMag (n &&& 7#32)) (sMag (n &&& 7#32))

theorem dec_apply (n : IVec S64x128 32) (j : S64x128.Idx) : dec (F := Ideal) n j = sDec (n j) := rfl

theorem half_bits : Ideal.ofBits .f32 0x3F000000#32 = ((1 / 2 : ℝ) : EReal) := by
  have h := ofBits_fv 0x3F000000 (by norm_num)
  have e : fv 0x3F000000 = 1 / 2 := by
    rw [show (0x3F000000 : ℕ) = 126 * 2 ^ 23 by norm_num, fv_pow _ (by norm_num)]; norm_num
  rw [e] at h; exact h
theorem two_bits : Ideal.ofBits .f32 0x40000000#32 = ((2 : ℝ) : EReal) := by
  have h := ofBits_fv 0x40000000 (by norm_num)
  have e : fv 0x40000000 = 2 := by
    rw [show (0x40000000 : ℕ) = 128 * 2 ^ 23 by norm_num, fv_pow _ (by norm_num)]; norm_num
  rw [e] at h; exact h
theorem eight_bits : Ideal.ofBits .f32 0x41000000#32 = ((8 : ℝ) : EReal) := by
  have h := ofBits_fv 0x41000000 (by norm_num)
  have e : fv 0x41000000 = 8 := by
    rw [show (0x41000000 : ℕ) = 130 * 2 ^ 23 by norm_num, fv_pow _ (by norm_num)]; norm_num
  rw [e] at h; exact h

theorem sMag_val (c : ℕ) (hc : c ≤ 7) : sMag (BitVec.ofNat 32 c) = ((val7 c : ℝ) : EReal) := by
  unfold sMag
  rw [half_bits, two_bits, eight_bits]
  have hi : (BitVec.ofNat 32 c).toInt = c := by interval_cases c <;> rfl
  rw [hi]
  interval_cases c <;>
  · simp only [IntOp.cmpi, Scalar.select]
    simp (config := { decide := true }) only [if_true, if_false]
    first
      | rw [← EReal.coe_mul, ← EReal.coe_sub, EReal.coe_eq_coe_iff]; unfold val7; norm_num
      | rw [← EReal.coe_mul, EReal.coe_eq_coe_iff]; unfold val7; norm_num
      | rw [← EReal.coe_sub, EReal.coe_eq_coe_iff]; unfold val7; norm_num

/-- A nibble's value: its magnitude's, with the sign of its high bit. -/
theorem sDec_val (c : ℕ) (n : Bool) (hc : c ≤ 7) :
    sDec (BitVec.ofNat 32 (c + if n then 8 else 0)) = (((if n then -val7 c else val7 c : ℝ)) : EReal) := by
  unfold sDec
  have h7 : BitVec.ofNat 32 (c + if n then 8 else 0) &&& 7#32 = BitVec.ofNat 32 c := by
    cases n <;> interval_cases c <;> rfl
  rw [h7, sMag_val c hc, Ideal.ofBits_zero_f32]
  cases n
  · have : IntOp.cmpi .sge (BitVec.ofNat 32 (c + if false = true then 8 else 0)) 8#32 = 0#1 := by interval_cases c <;> rfl
    rw [this]; rfl
  · have : IntOp.cmpi .sge (BitVec.ofNat 32 (c + if true = true then 8 else 0)) 8#32 = 1#1 := by interval_cases c <;> rfl
    rw [this]
    show (0 : EReal) - ((val7 c : ℝ) : EReal) = _
    rw [zero_sub, ← EReal.coe_neg]; rfl

/-- A group's scale, at each of its 32 rows. -/
theorem srow_apply (c : Vec Ideal S1x128 .i32) (r : Fin 32) (l : Fin 128) (K : BitVec 16)
    (hc : ∀ k : Fin 2, (c (ix2 0 l)).extractLsb' (16 * k.val) 16 = K) : srow (F := Ideal) c (ix2 r l) = Ideal.ofBits .bf16 K := by
  have hin : ∀ r : Fin 16, bitcastToFloat (F := Ideal) .bf16 (bitcast S16x128 16 (crow (F := Ideal) c) bitcasts_S8x128_w32_S16x128_w16) (ix2 r l) = Ideal.ofBits .bf16 K := by
    intro r
    have h := cast_32_16 (crow (F := Ideal) c) ⟨r.val / 2, by omega⟩ ⟨r.val % 2, by omega⟩ l
    rw [crow_apply, hc] at h
    have e : (ix2 ⟨2 * (r.val / 2) + r.val % 2, by omega⟩ l : S16x128.Idx) = ix2 r l := by
      congr 1; apply Fin.ext; show 2 * (r.val / 2) + r.val % 2 = r.val; omega
    rw [← h, ← e]; rfl
  unfold srow
  by_cases h : r.val < 16
  · rw [concatenate_apply_piece 0 _ _ (ix2 r l) 0 (by simp) S16x128 _ rfl rfl 0 rfl (ix2 ⟨r.val, h⟩ l)]
    · exact hin _
    · intro b hb
      fin_cases b
      · exact absurd rfl hb
      · rfl
    · exact Nat.zero_add _
  · rw [concatenate_apply_piece 0 _ _ (ix2 r l) 1 (by simp) S16x128 _ rfl rfl 16 rfl (ix2 ⟨r.val - 16, by omega⟩ l)]
    · exact hin _
    · intro b hb
      fin_cases b
      · exact absurd rfl hb
      · rfl
    · show 16 + (r.val - 16) = r.val
      omega

/-- The words after the rounding step, one at a time. -/
def sZ (a : EReal) (k : BitVec 32) : BitVec 32 :=
  sUp (max (a + Ideal.ofBits .f32 k) (Ideal.ofBits .f32 (sUp a + 8396799#32)))

theorem sl8 (k : Fin 32) : S256x128.Slices ![8 * k.val, 0] S8x128 := by revert k; decide

/-- 32 things in a list. -/
abbrev lit32 {β : Type} (f : Fin 32 → β) : List β := [f 0, f 1, f 2, f 3, f 4, f 5, f 6, f 7, f 8, f 9, f 10, f 11, f 12, f 13, f 14, f 15, f 16, f 17, f 18, f 19, f 20, f 21, f 22, f 23, f 24, f 25, f 26, f 27, f 28, f 29, f 30, f 31]

theorem lit32_eq {β : Type} (f : Fin 32 → β) : lit32 f = List.ofFn f := by
  simp only [lit32, List.ofFn_succ, List.ofFn_zero]
  rfl

/-- 8 things in a list. -/
abbrev lit8 {β : Type} (f : Fin 8 → β) : List β := [f 0, f 1, f 2, f 3, f 4, f 5, f 6, f 7]

theorem lit8_eq {β : Type} (f : Fin 8 → β) : lit8 f = List.ofFn f := by
  simp only [lit8, List.ofFn_succ, List.ofFn_zero]
  rfl

/-- Thirty-two blocks of eight rows, one above the other. -/
theorem cat32_at {α : Type} (f : Fin 32 → S8x128.Idx → α)
    (h : Shape.Concatenates ((lit32 (β := (s : Shape) × (s.Idx → α)) fun n => ⟨S8x128, f n⟩).map (·.1)) S256x128 0)
    (k : Fin 32) (s : Fin 8) (l : Fin 128) :
    concatenate S256x128 0 (lit32 (β := (s : Shape) × (s.Idx → α)) fun n => ⟨S8x128, f n⟩) h (ix2 ⟨8 * k.val + s.val, by omega⟩ l)
      = f k (ix2 s l) := by
  revert h
  rw [lit32_eq]
  intro h
  refine concatenate_ofFn_apply 0 f h rfl 8 rfl _ k ?_ (ix2 s l) ?_ ?_
  · show (8 * k.val + s.val) / 8 = k.val
    omega
  · show s.val = (8 * k.val + s.val) % 8
    omega
  · intro b hb
    fin_cases b
    · exact absurd rfl hb
    · rfl

/-- Eight blocks of thirty-two rows, one above the other. -/
theorem cat8_at {α : Type} (f : Fin 8 → S32x128.Idx → α)
    (h : Shape.Concatenates ((lit8 (β := (s : Shape) × (s.Idx → α)) fun n => ⟨S32x128, f n⟩).map (·.1)) S256x128 0)
    (k : Fin 8) (s : Fin 32) (l : Fin 128) :
    concatenate S256x128 0 (lit8 (β := (s : Shape) × (s.Idx → α)) fun n => ⟨S32x128, f n⟩) h (ix2 ⟨32 * k.val + s.val, by omega⟩ l)
      = f k (ix2 s l) := by
  revert h
  rw [lit8_eq]
  intro h
  refine concatenate_ofFn_apply 0 f h rfl 32 rfl _ k ?_ (ix2 s l) ?_ ?_
  · show (32 * k.val + s.val) / 32 = k.val
    omega
  · show s.val = (32 * k.val + s.val) % 32
    omega
  · intro b hb
    fin_cases b
    · exact absurd rfl hb
    · rfl

theorem arow_apply (v : FVec Ideal S256x128 .f32) (o : ℕ) (h : S256x128.Slices ![o, 0] S8x128) (s : Fin 8) (l : Fin 128) (ho : o + 8 ≤ 256) :
    arow v o h (ix2 s l) = max (v (ix2 ⟨o + s.val, by omega⟩ l) : EReal) (-(v (ix2 ⟨o + s.val, by omega⟩ l) : EReal)) := by
  have e : ∀ x : FVec Ideal S8x128 .f32, absf x (ix2 s l) = max (x (ix2 s l) : EReal) (-(x (ix2 s l) : EReal)) := fun _ => rfl
  unfold arow
  rw [e, vrow_apply _ _ _ _ _ ho]

theorem add_bits (x : IVec S8x128 32) (k : BitVec 32) (j : S8x128.Idx) :
    bitcastToFloat (F := Ideal) .f32 (addi x (broadcast S8x128 k)) j = Ideal.ofBits .f32 (x j + k) := rfl

theorem zrow_apply (v : FVec Ideal S256x128 .f32) (g : IVec S256x128 32) (c : Vec Ideal S1x128 .i32) (o : ℕ)
    (h : S256x128.Slices ![o, 0] S8x128) (s : Fin 8) (l : Fin 128) (ho : o + 8 ≤ 256) :
    zrow v g c o h (ix2 s l)
      = max (max (v (ix2 ⟨o + s.val, by omega⟩ l) : EReal) (-(v (ix2 ⟨o + s.val, by omega⟩ l) : EReal)) + Ideal.ofBits .f32 (c (ix2 0 l)))
          (Ideal.ofBits .f32 (g (ix2 ⟨o + s.val, by omega⟩ l) + 8396799#32)) := by
  have e : ∀ (x y z : FVec Ideal S8x128 .f32), maximumf (addf x y) z (ix2 s l) = max ((x (ix2 s l) : EReal) + (y (ix2 s l) : EReal)) (z (ix2 s l) : EReal) :=
    fun _ _ _ => rfl
  have e' : ∀ x : IVec S8x128 32, bitcastToFloat (F := Ideal) .f32 x (ix2 s l) = Ideal.ofBits .f32 (x (ix2 s l)) := fun _ => rfl
  unfold zrow
  rw [e, add_bits, e', arow_apply _ _ _ _ _ ho, irow_apply _ _ _ _ _ ho, crow_apply]

theorem rwords_apply (v : FVec Ideal S256x128 .f32) (k : Fin 32) (s : Fin 8) (l : Fin 128) :
    rwords v (ix2 ⟨8 * k.val + s.val, by omega⟩ l) = sUp (max (v (ix2 ⟨8 * k.val + s.val, by omega⟩ l) : EReal) (-(v (ix2 ⟨8 * k.val + s.val, by omega⟩ l) : EReal))) := by
  unfold rwords
  rw [wordUp_apply]
  exact congrArg sUp ((cat32_at (fun n => arow v (8 * n.val) (sl8 n)) _ k s l).trans (arow_apply _ _ _ _ _ (by omega)))

theorem zwords_apply (v : FVec Ideal S256x128 .f32) (ct : Fin 24 → Vec Ideal S1x128 .i32) (k : Fin 32) (s : Fin 8) (l : Fin 128) :
    zwords v ct (ix2 ⟨8 * k.val + s.val, by omega⟩ l)
      = sZ (max (v (ix2 ⟨8 * k.val + s.val, by omega⟩ l) : EReal) (-(v (ix2 ⟨8 * k.val + s.val, by omega⟩ l) : EReal))) (ct ⟨k.val / 4, by omega⟩ (ix2 0 l)) := by
  unfold zwords
  rw [wordUp_apply, sZ, ← rwords_apply]
  generalize rwords v = g
  refine congrArg sUp ((cat32_at (fun n => zrow v g (ct ⟨n.val / 4, by omega⟩) (8 * n.val) (sl8 n)) _ k s l).trans ?_)
  exact zrow_apply _ _ _ _ _ _ _ (by omega)

/-- The values of a group, from its constants. -/
def gvals (zw : IVec S256x128 32) (v : FVec Ideal S256x128 .f32) (w : IVec S64x128 32) (ct : Fin 24 → Vec Ideal S1x128 .i32) :
    Fin 8 → FVec Ideal S32x128 .bf16 :=
  ![mulf (extractStridedSlice S32x128 ![0, 0] (dec (F := Ideal) (nib (code0 zw v w ct) (code1 zw v w ct))) slices_S64x128_o0_0_S32x128) (srow (ct 16)),
    mulf (extractStridedSlice S32x128 ![32, 0] (dec (F := Ideal) (nib (code0 zw v w ct) (code1 zw v w ct))) slices_S64x128_o32_0_S32x128) (srow (ct 17)),
    mulf (extractStridedSlice S32x128 ![0, 0] (dec (F := Ideal) (nib (code2 zw v w ct) (code3 zw v w ct))) slices_S64x128_o0_0_S32x128) (srow (ct 18)),
    mulf (extractStridedSlice S32x128 ![32, 0] (dec (F := Ideal) (nib (code2 zw v w ct) (code3 zw v w ct))) slices_S64x128_o32_0_S32x128) (srow (ct 19)),
    mulf (extractStridedSlice S32x128 ![0, 0] (dec (F := Ideal) (nib (code4 zw v w ct) (code5 zw v w ct))) slices_S64x128_o0_0_S32x128) (srow (ct 20)),
    mulf (extractStridedSlice S32x128 ![32, 0] (dec (F := Ideal) (nib (code4 zw v w ct) (code5 zw v w ct))) slices_S64x128_o32_0_S32x128) (srow (ct 21)),
    mulf (extractStridedSlice S32x128 ![0, 0] (dec (F := Ideal) (nib (code6 zw v w ct) (code7 zw v w ct))) slices_S64x128_o0_0_S32x128) (srow (ct 22)),
    mulf (extractStridedSlice S32x128 ![32, 0] (dec (F := Ideal) (nib (code6 zw v w ct) (code7 zw v w ct))) slices_S64x128_o32_0_S32x128) (srow (ct 23))]

theorem vals_at (v : FVec Ideal S256x128 .f32) (w : IVec S64x128 32) (ct : Fin 24 → Vec Ideal S1x128 .i32) (m : Fin 8) (r : Fin 32) (l : Fin 128) :
    vals v w ct (ix2 ⟨32 * m.val + r.val, by omega⟩ l) = gvals (zwords v ct) v w ct m (ix2 r l) := by
  unfold vals
  generalize zwords v ct = zw
  exact cat8_at (fun n => gvals zw v w ct n) _ m r l

theorem mul_lo (d : FVec Ideal S64x128 .bf16) (c : FVec Ideal S32x128 .bf16) (r : Fin 32) (l : Fin 128) :
    mulf (extractStridedSlice S32x128 ![0, 0] d slices_S64x128_o0_0_S32x128) c (ix2 r l)
      = (d (ix2 (⟨r.val, by omega⟩ : Fin 64) l) : EReal) * (c (ix2 r l) : EReal) := by
  show (d _ : EReal) * (c _ : EReal) = _
  congr 2
  funext a; apply Fin.ext
  fin_cases a
  · exact Nat.zero_add _
  · exact Nat.zero_add _

theorem mul_hi (d : FVec Ideal S64x128 .bf16) (c : FVec Ideal S32x128 .bf16) (r : Fin 32) (l : Fin 128) :
    mulf (extractStridedSlice S32x128 ![32, 0] d slices_S64x128_o32_0_S32x128) c (ix2 r l)
      = (d (ix2 (⟨32 + r.val, by omega⟩ : Fin 64) l) : EReal) * (c (ix2 r l) : EReal) := by
  show (d _ : EReal) * (c _ : EReal) = _
  congr 2
  funext a; apply Fin.ext
  fin_cases a
  · rfl
  · exact Nat.zero_add _

/-- One group's value at a channel, where its two groups' codes are the first of a pair, -/
theorem g_lo (zw : IVec S256x128 32) (v : FVec Ideal S256x128 .f32) (w : IVec S64x128 32) (c cs : Vec Ideal S1x128 .i32) (other : IVec S32x128 8)
    (o ow : ℕ) (hw : S64x128.Slices ![ow, 0] S8x128)
    (h0 : S256x128.Slices ![o, 0] S8x128) (h1 : S256x128.Slices ![o + 8, 0] S8x128)
    (h2 : S256x128.Slices ![o + 16, 0] S8x128) (h3 : S256x128.Slices ![o + 24, 0] S8x128) (ho : o + 32 ≤ 256) (how : ow + 8 ≤ 64)
    (s : Fin 8) (q : Fin 4) (l : Fin 128) (K C : BitVec 16) (hK : ∀ k : Fin 2, (c (ix2 0 l)).extractLsb' (16 * k.val) 16 = K)
    (hC : ∀ k : Fin 2, (cs (ix2 0 l)).extractLsb' (16 * k.val) 16 = C)
    (R : Fin 256) (hR : R.val = o + 8 * q.val + s.val) (W : Fin 64) (hW : W.val = ow + s.val) (r : Fin 32) (hr : r.val = 4 * s.val + q.val) :
    mulf (extractStridedSlice S32x128 ![0, 0] (dec (F := Ideal) (nib (code (F := Ideal) zw v (wrow w ow hw) c o (o + 8) (o + 16) (o + 24) h0 h1 h2 h3) other)) slices_S64x128_o0_0_S32x128) (srow cs) (ix2 r l)
      = sDec (nibAt (zw (ix2 R l)) K ((w (ix2 W l)).extractLsb' (8 * q.val) 8) (v (ix2 R l))) * Ideal.ofBits .bf16 C := by
  obtain ⟨R, hR'⟩ := R
  obtain ⟨W, hW'⟩ := W
  obtain ⟨r, hr'⟩ := r
  obtain rfl : R = o + 8 * q.val + s.val := hR
  obtain rfl : W = ow + s.val := hW
  obtain rfl : r = 4 * s.val + q.val := hr
  rw [mul_lo, dec_apply, nib_lo, srow_apply cs _ l C hC, code_apply zw v (wrow w ow hw) c o h0 h1 h2 h3 ho s q l K hK, wrow_apply w ow hw s l how]

/-- and where they are the second. -/
theorem g_hi (zw : IVec S256x128 32) (v : FVec Ideal S256x128 .f32) (w : IVec S64x128 32) (c cs : Vec Ideal S1x128 .i32) (other : IVec S32x128 8)
    (o ow : ℕ) (hw : S64x128.Slices ![ow, 0] S8x128)
    (h0 : S256x128.Slices ![o, 0] S8x128) (h1 : S256x128.Slices ![o + 8, 0] S8x128)
    (h2 : S256x128.Slices ![o + 16, 0] S8x128) (h3 : S256x128.Slices ![o + 24, 0] S8x128) (ho : o + 32 ≤ 256) (how : ow + 8 ≤ 64)
    (s : Fin 8) (q : Fin 4) (l : Fin 128) (K C : BitVec 16) (hK : ∀ k : Fin 2, (c (ix2 0 l)).extractLsb' (16 * k.val) 16 = K)
    (hC : ∀ k : Fin 2, (cs (ix2 0 l)).extractLsb' (16 * k.val) 16 = C)
    (R : Fin 256) (hR : R.val = o + 8 * q.val + s.val) (W : Fin 64) (hW : W.val = ow + s.val) (r : Fin 32) (hr : r.val = 4 * s.val + q.val) :
    mulf (extractStridedSlice S32x128 ![32, 0] (dec (F := Ideal) (nib other (code (F := Ideal) zw v (wrow w ow hw) c o (o + 8) (o + 16) (o + 24) h0 h1 h2 h3))) slices_S64x128_o32_0_S32x128) (srow cs) (ix2 r l)
      = sDec (nibAt (zw (ix2 R l)) K ((w (ix2 W l)).extractLsb' (8 * q.val) 8) (v (ix2 R l))) * Ideal.ofBits .bf16 C := by
  obtain ⟨R, hR'⟩ := R
  obtain ⟨W, hW'⟩ := W
  obtain ⟨r, hr'⟩ := r
  obtain rfl : R = o + 8 * q.val + s.val := hR
  obtain rfl : W = ow + s.val := hW
  obtain rfl : r = 4 * s.val + q.val := hr
  rw [mul_hi, dec_apply, nib_hi, srow_apply cs _ l C hC, code_apply zw v (wrow w ow hw) c o h0 h1 h2 h3 ho s q l K hK, wrow_apply w ow hw s l how]

theorem gvals_apply (zw : IVec S256x128 32) (v : FVec Ideal S256x128 .f32) (w : IVec S64x128 32) (ct : Fin 24 → Vec Ideal S1x128 .i32)
    (s : Fin 8) (q : Fin 4) (l : Fin 128) (K C : BitVec 16) (r : Fin 32) (hr : r.val = 4 * s.val + q.val) : ∀ (m : Fin 8)
    (hK : ∀ k : Fin 2, (ct ⟨8 + m.val, by omega⟩ (ix2 0 l)).extractLsb' (16 * k.val) 16 = K)
    (hC : ∀ k : Fin 2, (ct ⟨16 + m.val, by omega⟩ (ix2 0 l)).extractLsb' (16 * k.val) 16 = C)
    (R : Fin 256) (hR : R.val = 32 * m.val + 8 * q.val + s.val) (W : Fin 64) (hW : W.val = 8 * m.val + s.val),
    gvals zw v w ct m (ix2 r l)
      = sDec (nibAt (zw (ix2 R l)) K ((w (ix2 W l)).extractLsb' (8 * q.val) 8) (v (ix2 R l))) * Ideal.ofBits .bf16 C
  | ⟨0, _⟩, hK, hC, R, hR, W, hW => g_lo zw v w (ct 8) (ct 16) (code1 zw v w ct) 0 0 slices_S64x128_o0_0_S8x128 slices_S256x128_o0_0_S8x128 slices_S256x128_o8_0_S8x128 slices_S256x128_o16_0_S8x128 slices_S256x128_o24_0_S8x128 (by omega) (by omega) s q l K C hK hC R hR W hW r hr
  | ⟨1, _⟩, hK, hC, R, hR, W, hW => g_hi zw v w (ct 9) (ct 17) (code0 zw v w ct) 32 8 slices_S64x128_o8_0_S8x128 slices_S256x128_o32_0_S8x128 slices_S256x128_o40_0_S8x128 slices_S256x128_o48_0_S8x128 slices_S256x128_o56_0_S8x128 (by omega) (by omega) s q l K C hK hC R hR W hW r hr
  | ⟨2, _⟩, hK, hC, R, hR, W, hW => g_lo zw v w (ct 10) (ct 18) (code3 zw v w ct) 64 16 slices_S64x128_o16_0_S8x128 slices_S256x128_o64_0_S8x128 slices_S256x128_o72_0_S8x128 slices_S256x128_o80_0_S8x128 slices_S256x128_o88_0_S8x128 (by omega) (by omega) s q l K C hK hC R hR W hW r hr
  | ⟨3, _⟩, hK, hC, R, hR, W, hW => g_hi zw v w (ct 11) (ct 19) (code2 zw v w ct) 96 24 slices_S64x128_o24_0_S8x128 slices_S256x128_o96_0_S8x128 slices_S256x128_o104_0_S8x128 slices_S256x128_o112_0_S8x128 slices_S256x128_o120_0_S8x128 (by omega) (by omega) s q l K C hK hC R hR W hW r hr
  | ⟨4, _⟩, hK, hC, R, hR, W, hW => g_lo zw v w (ct 12) (ct 20) (code5 zw v w ct) 128 32 slices_S64x128_o32_0_S8x128 slices_S256x128_o128_0_S8x128 slices_S256x128_o136_0_S8x128 slices_S256x128_o144_0_S8x128 slices_S256x128_o152_0_S8x128 (by omega) (by omega) s q l K C hK hC R hR W hW r hr
  | ⟨5, _⟩, hK, hC, R, hR, W, hW => g_hi zw v w (ct 13) (ct 21) (code4 zw v w ct) 160 40 slices_S64x128_o40_0_S8x128 slices_S256x128_o160_0_S8x128 slices_S256x128_o168_0_S8x128 slices_S256x128_o176_0_S8x128 slices_S256x128_o184_0_S8x128 (by omega) (by omega) s q l K C hK hC R hR W hW r hr
  | ⟨6, _⟩, hK, hC, R, hR, W, hW => g_lo zw v w (ct 14) (ct 22) (code7 zw v w ct) 192 48 slices_S64x128_o48_0_S8x128 slices_S256x128_o192_0_S8x128 slices_S256x128_o200_0_S8x128 slices_S256x128_o208_0_S8x128 slices_S256x128_o216_0_S8x128 (by omega) (by omega) s q l K C hK hC R hR W hW r hr
  | ⟨7, _⟩, hK, hC, R, hR, W, hW => g_hi zw v w (ct 15) (ct 23) (code6 zw v w ct) 224 56 slices_S64x128_o56_0_S8x128 slices_S256x128_o224_0_S8x128 slices_S256x128_o232_0_S8x128 slices_S256x128_o240_0_S8x128 slices_S256x128_o248_0_S8x128 (by omega) (by omega) s q l K C hK hC R hR W hW r hr

/-- A tile's value at a channel: the value of its code, times its group's scale. -/
theorem vals_apply (v : FVec Ideal S256x128 .f32) (w : IVec S64x128 32) (ct : Fin 24 → Vec Ideal S1x128 .i32)
    (m s : Fin 8) (q : Fin 4) (l : Fin 128) (K C : BitVec 16)
    (hK : ∀ k : Fin 2, (ct ⟨8 + m.val, by omega⟩ (ix2 0 l)).extractLsb' (16 * k.val) 16 = K)
    (hC : ∀ k : Fin 2, (ct ⟨16 + m.val, by omega⟩ (ix2 0 l)).extractLsb' (16 * k.val) 16 = C) :
    vals v w ct (ix2 ⟨32 * m.val + (4 * s.val + q.val), by omega⟩ l)
      = sDec (nibAt (sZ (max (v (ix2 ⟨32 * m.val + 8 * q.val + s.val, by omega⟩ l) : EReal) (-(v (ix2 ⟨32 * m.val + 8 * q.val + s.val, by omega⟩ l) : EReal))) (ct ⟨m.val, by omega⟩ (ix2 0 l)))
          K ((w (ix2 ⟨8 * m.val + s.val, by omega⟩ l)).extractLsb' (8 * q.val) 8)
          (v (ix2 ⟨32 * m.val + 8 * q.val + s.val, by omega⟩ l))) * Ideal.ofBits .bf16 C := by
  rw [vals_at v w ct m ⟨4 * s.val + q.val, by omega⟩ l]
  have hz := zwords_apply v ct ⟨4 * m.val + q.val, by omega⟩ s l
  have e : 8 * (4 * m.val + q.val) + s.val = 32 * m.val + 8 * q.val + s.val := by omega
  have e' : (4 * m.val + q.val) / 4 = m.val := by omega
  simp only [e, e'] at hz
  rw [← hz]
  exact gvals_apply (zwords v ct) v w ct s q l K C _ rfl m hK hC _ rfl _ rfl

end Cert.KernelIdeal.Dw

end
-- ==== Proof.Scalar.lean ====
/- One number's way through the kernel's quantiser, over the reals: its code, its sign and its group's scale name the value
   the reference's formula rounds it to. -/
module

public import proofs.«01_k».proof.Proof.Decode

@[expose] public section

noncomputable section

namespace Cert.KernelIdeal.Dw

open Cert.KernelIdeal.Gen
open Idealize.ShloMosaic Idealize.ShloMosaic.Tactic

theorem add_ofNat (a b : ℕ) : BitVec.ofNat 32 a + BitVec.ofNat 32 b = BitVec.ofNat 32 (a + b) := (BitVec.ofNat_add ..).symm

theorem coe_max' (a b : ℝ) : ((max a b : ℝ) : EReal) = max (a : EReal) b := EReal.coe_strictMono.monotone.map_max

theorem max_neg (v : ℝ) : max (v : EReal) (-(v : EReal)) = ((|v| : ℝ) : EReal) := by
  rw [← EReal.coe_neg, ← coe_max']; rfl

theorem shr14 (N : ℕ) (h : N < 2 ^ 32) : BitVec.ofNat 32 N >>> 14 = BitVec.ofNat 32 (N / 2 ^ 14) := by
  apply BitVec.eq_of_toNat_eq
  rw [BitVec.toNat_ushiftRight, BitVec.toNat_ofNat, BitVec.toNat_ofNat, Nat.shiftRight_eq_div_pow, Nat.mod_eq_of_lt h,
    Nat.mod_eq_of_lt (by omega)]

theorem fv_pos_pow (p : ℕ) (h : 1 ≤ p) : 0 < fv (p * 2 ^ 23) := by rw [fv_pow p h]; positivity

theorem fv_add_pow (p q : ℕ) (h : 1 ≤ p) : fv ((p + q) * 2 ^ 23) = 2 ^ q * fv (p * 2 ^ 23) := by
  rw [fv_pow p h, fv_pow _ (by omega), show (((p + q : ℕ) : ℤ) - 127) = (q : ℤ) + ((p : ℤ) - 127) by push_cast; ring,
    zpow_add₀ (by norm_num), zpow_natCast]

/-- A number below six times its group's scale: what its nibble stands for. -/
theorem scalar_val (p b : ℕ) (k : ℕ) (v : ℝ) (hp : 1 ≤ p) (hp' : p ≤ 245) (hb : b < 256) (hk : k = 8396799)
    (hv : |v| < 6 * fv (p * 2 ^ 23)) :
    sDec (nibOf (half (sUp (max (((|v| : ℝ) : EReal) + Ideal.ofBits .f32 (BitVec.ofNat 32 (p * 2 ^ 23 + 8191)))
          (Ideal.ofBits .f32 (sUp ((|v| : ℝ) : EReal) + BitVec.ofNat 32 k))))
        ((((255#32 - BitVec.ofNat 32 p <<< 9) &&& 65535#32)).setWidth 16) (BitVec.ofNat 8 b)) (decide ((v : EReal) < 0)))
      = (((if v < 0 then -qv (|v| / fv (p * 2 ^ 23)) ((b + 1 / 2) / 256) else qv (|v| / fv (p * 2 ^ 23)) ((b + 1 / 2) / 256) : ℝ)) : EReal) := by
  have hP := fv_pos_pow p hp
  set r := |v| with hr
  have hr0 : 0 ≤ r := abs_nonneg v
  have h8 : fv ((p + 3) * 2 ^ 23) = 8 * fv (p * 2 ^ 23) := by rw [fv_add_pow p 3 hp]; norm_num
  have hr8 : r ≤ fv ((p + 3) * 2 ^ 23) := by rw [h8]; linarith
  have hr254 : r < fv (254 * 2 ^ 23) := by
    have : fv ((p + 3) * 2 ^ 23) < fv (254 * 2 ^ 23) := fv_strictMono (by omega)
    linarith
  obtain ⟨n, hn, hun, hnk⟩ := sUp_spec r hr0 hr254
  have hn3 : n ≤ (p + 3) * 2 ^ 23 := (hnk _).mpr hr8
  have hz1 : fv (p * 2 ^ 23 + 8191) < 2 * fv (p * 2 ^ 23) := by
    have h1 : fv (p * 2 ^ 23 + 8191) < fv ((p + 1) * 2 ^ 23) := fv_strictMono (by omega)
    rw [fv_add_pow p 1 hp] at h1; linarith
  have hz1' : fv (p * 2 ^ 23) ≤ fv (p * 2 ^ 23 + 8191) := fv_strictMono.monotone (by omega)
  have hz2 : fv (n + 8396799) < fv (254 * 2 ^ 23) := fv_strictMono (by omega)
  set z := max (r + fv (p * 2 ^ 23 + 8191)) (fv (n + 8396799)) with hz
  have hz0 : 0 ≤ z := le_max_of_le_right (fv_nonneg _)
  have hzl : r + fv (p * 2 ^ 23 + 8191) < fv (254 * 2 ^ 23) := by
    have : fv ((p + 3) * 2 ^ 23) < fv (254 * 2 ^ 23) := fv_strictMono (by omega)
    rw [h8] at this; linarith
  have hz254 : z < fv (254 * 2 ^ 23) := max_lt hzl hz2
  obtain ⟨N, hN, huN, hNk⟩ := sUp_spec z hz0 hz254
  have hzE : max (((r : ℝ) : EReal) + Ideal.ofBits .f32 (BitVec.ofNat 32 (p * 2 ^ 23 + 8191)))
      (Ideal.ofBits .f32 (sUp ((r : ℝ) : EReal) + BitVec.ofNat 32 k)) = (z : EReal) := by
    rw [hun, add_ofNat, hk, ofBits_fv _ (by omega), ofBits_fv _ (by omega), ← EReal.coe_add, ← coe_max']
  rw [hzE, huN]
  have habove : ∀ j, (N ≤ j ↔ ¬fv j < z) := fun j => by rw [hNk, not_lt]
  have hlow : p * 2 ^ 23 ≤ N := by
    by_contra hcon
    have h1 : N ≤ p * 2 ^ 23 - 1 := by omega
    rw [hNk] at h1
    have h2 : fv (p * 2 ^ 23 - 1) < fv (p * 2 ^ 23) := fv_strictMono (by omega)
    have h3 : r + fv (p * 2 ^ 23 + 8191) ≤ z := le_max_left _ _
    linarith
  have hbt : (BitVec.ofNat 8 b).toNat = b := by rw [BitVec.toNat_ofNat]; omega
  rw [half_val _ (N / 2 ^ 14) p _ (shr14 N (by omega)) (by omega) (by omega), hbt]
  -- the code is at least `2 q + h + 1` exactly above its threshold
  have key : ∀ q h, q ≤ 3 → h ≤ 1 → (512 * p + 256 * (2 * q + h) + b + 1 ≤ N / 2 ^ 14
      ↔ thr (2 * q + h + 1) ((b + 1 / 2) / 256) < r / fv (p * 2 ^ 23)) := by
    intro q h hq hh
    rw [lt_div_iff₀ hP, ← above_iff p q h b n r hp hq hh hb hnk, ← lt_max_iff, ← hz]
    rw [← not_iff_not, ← habove]
    omega
  have hlt : N / 2 ^ 14 < 512 * p + 256 * 7 + b + 1 := by
    by_contra hcon
    have h1 := (key 3 1 (by norm_num) (by norm_num)).mp (by omega)
    rw [lt_div_iff₀ hP] at h1
    have h2 : (6 : ℝ) ≤ thr (2 * 3 + 1 + 1) ((b + 1 / 2) / 256) := by
      have hb0 : (0 : ℝ) ≤ b := Nat.cast_nonneg b
      unfold thr val7; norm_num; positivity
    exact absurd (h1.trans hv) (not_lt.mpr (mul_le_mul_of_nonneg_right h2 hP.le))
  obtain ⟨x, hx⟩ : ∃ x : Fin 2048, x.val = N / 2 ^ 14 + 255 - b - 512 * p := ⟨⟨N / 2 ^ 14 + 255 - b - 512 * p, by omega⟩, rfl⟩
  rw [← hx, nibOf_val, sDec_val _ _ (by omega)]
  have hq : val7 (x.val / 256) = qv (r / fv (p * 2 ^ 23)) ((b + 1 / 2) / 256) := by
    have hb0 : (0 : ℝ) ≤ b := Nat.cast_nonneg b
    have hb1 : (b : ℝ) < 256 := by exact_mod_cast hb
    refine qv_of_code _ _ _ (div_nonneg hr0 hP.le) (by rw [div_lt_iff₀ hP]; exact hv) (by positivity)
      (by rw [div_lt_iff₀ (by norm_num)]; have : (b : ℝ) + 1 ≤ 256 := by exact_mod_cast hb
          linarith) (by omega) fun j hj hj7 => ?_
    have hk2 := key ((j - 1) / 2) ((j - 1) % 2) (by omega) (by omega)
    rw [show 2 * ((j - 1) / 2) + (j - 1) % 2 + 1 = j by omega] at hk2
    rw [← hk2]
    omega
  rw [hq]
  by_cases hv0 : v < 0
  · have : (v : EReal) < 0 := by exact_mod_cast hv0
    simp only [this, decide_true, hv0, if_true]
  · have : ¬(v : EReal) < 0 := by exact_mod_cast hv0
    simp only [this, decide_false, hv0, if_false]; rfl

/-! ## The scale -/

/-- One sixth, as the kernel writes it. -/
def cc : ℝ := fv 0x3E2AAAAB

theorem cc_eq : cc = 11184811 / 67108864 := by
  unfold cc
  rw [show (0x3E2AAAAB : ℕ) = 124 * 2 ^ 23 + 2796203 by norm_num, fv_high _ _ (by norm_num) (by norm_num)]
  unfold lsb; norm_num

theorem cc_bits : Ideal.ofBits .f32 0x3E2AAAAB#32 = (cc : EReal) := ofBits_fv 0x3E2AAAAB (by norm_num)

/-- The exponent field of the least power of two above a sixth of `a`. -/
def pE (a : ℝ) : ℕ := sInf {p | 1 ≤ p ∧ a * cc < fv (p * 2 ^ 23)}

theorem pE_eq (a : ℝ) (e : ℕ) (h0 : fv (e * 2 ^ 23) ≤ a * cc) (h1 : a * cc < fv ((e + 1) * 2 ^ 23)) : pE a = e + 1 := by
  unfold pE
  refine le_antisymm (Nat.sInf_le ⟨by omega, h1⟩) ?_
  refine le_csInf ⟨e + 1, by omega, h1⟩ fun p hp => ?_
  by_contra hcon
  have : fv (p * 2 ^ 23) ≤ fv (e * 2 ^ 23) := fv_strictMono.monotone (by omega)
  linarith [hp.2]

theorem pE_mem (a : ℝ) (h : a < 2 ^ 110) (h0 : 0 ≤ a) : 1 ≤ pE a ∧ pE a ≤ 240 ∧ a * cc < fv (pE a * 2 ^ 23) ∧ ∀ p, 1 ≤ p → a * cc < fv (p * 2 ^ 23) → pE a ≤ p := by
  have hm : (240 : ℕ) ∈ {p | 1 ≤ p ∧ a * cc < fv (p * 2 ^ 23)} := by
    refine ⟨by norm_num, ?_⟩
    rw [fv_pow _ (by norm_num), cc_eq]
    norm_num at h ⊢
    linarith
  have hs := Nat.sInf_mem ⟨_, hm⟩
  exact ⟨hs.1, Nat.sInf_le hm, hs.2, fun p h1 h2 => Nat.sInf_le ⟨h1, h2⟩⟩

/-- The scale's exponent field, from the group's maximum. -/
def sE (a : EReal) : BitVec 32 :=
  Scalar.select (Ideal.cmp .oeq a (Ideal.ofBits .f32 0x00000000#32)) 127#32
    (IntOp.addi (IntOp.shrsi .vector (sDn (a * Ideal.ofBits .f32 0x3E2AAAAB#32)) 23#32) 1#32)

theorem e8_apply (a : FVec Ideal S8x128 .f32) (i : S8x128.Idx) : e8 a i = sE (a i) := by
  have h := wordDn_apply (mulf a (broadcast S8x128 (Scalar.ofBits .f32 0x3E2AAAAB#32))) i
  unfold e8 sE
  show Scalar.select _ _ (IntOp.addi (IntOp.shrsi .vector (wordDn _ i) _) _) = _
  rw [h]
  rfl

theorem sE_zero : sE ((0 : ℝ) : EReal) = BitVec.ofNat 32 127 := by
  unfold sE
  rw [Ideal.ofBits_zero_f32]
  unfold Ideal.cmp Scalar.select
  simp

theorem sE_pos (a : ℝ) (h : a < 2 ^ 110) (h0 : 0 < a) : sE (a : EReal) = BitVec.ofNat 32 (pE a) := by
  have hc : 0 ≤ a * cc := by rw [cc_eq]; positivity
  have hl : a * cc < fv (254 * 2 ^ 23) := by
    rw [fv_pow _ (by norm_num), cc_eq]
    norm_num at h ⊢
    linarith
  obtain ⟨e, he, hw, hlo, hhi⟩ := sDn_spec (a * cc) hc hl
  unfold sE
  rw [Ideal.ofBits_zero_f32, cc_bits, ← EReal.coe_mul, hw, pE_eq a e hlo hhi]
  have hne : ¬((a : EReal) = 0) := by exact_mod_cast h0.ne'
  unfold Ideal.cmp Scalar.select
  simp only [hne, decide_false]
  exact addi_ofNat e 1

/-- A number rounded to a four bit float of its group's scale, from the group's maximum `a` and eight random bits. -/
def specV (a v : ℝ) (b : ℕ) : ℝ :=
  (if v < 0 then -qv (|v| / fv (pE a * 2 ^ 23)) ((b + 1 / 2) / 256) else qv (|v| / fv (pE a * 2 ^ 23)) ((b + 1 / 2) / 256)) * fv (pE a * 2 ^ 23)

theorem qv_zero (u : ℝ) (h : 0 < u) : qv 0 u = 0 := by
  unfold qv lowOf stepOf; norm_num; exact h.le

end Cert.KernelIdeal.Dw

end
-- ==== Proof.Reads.lean ====
/- What the quantiser reads back of its two scratch arrays, over the extended reals: eight channels' maxima of every group,
   and every group's constants. -/
module

public import proofs.«01_k».proof.Proof.Scalar
public import Idealize.ShloMosaic.Lib.Pipeline.ValueKit
public import Idealize.ShloMosaic.Lib.Pipeline.CanonAppend

@[expose] public section

set_option maxRecDepth 16384

noncomputable section

namespace Cert.KernelIdeal.Dw

open Cert.KernelIdeal.Gen
open Idealize.ShloMosaic Idealize.ShloMosaic.TcCoe Idealize.ShloMosaic.Tactic

/-- Where the reading back of row `m` of tile `s` of plane `k` is. -/
theorem boxR_idx (k s : Fin 8) (m : Fin 8) (l : Fin 128) :
    (boxR k s).idx (Shape.reshapeEquiv (boxR_numel k s) (ix2 m l)) = ix3 k ⟨9 * s.val + m.val, by omega⟩ l := by
  have hx : Shape.reshapeEquiv (boxR_numel k s) (ix2 m l) = (Fin.cons ⟨0, Nat.one_pos⟩ (ix2 m l) : (boxR k s).shape.Idx) :=
    Shape.reshapeEquiv_cons_one (d := (tileR s).toLoadRect.size) _ _
  rw [hx]
  funext a; apply Fin.ext
  match a with
  | ⟨0, _⟩ => show k.val + 0 + 1 * 0 = k.val; omega
  | ⟨1, _⟩ => show 0 + 9 * s.val + 1 * m.val = 9 * s.val + m.val; omega
  | ⟨2, _⟩ => show 0 + 0 + 1 * l.val = l.val; omega

/-- Where row `n` of plane `k` is. -/
theorem boxC_idx (k : Fin 8) (n : Fin 24) (z : Fin 1) (l : Fin 128) :
    (boxC k n).idx (Shape.reshapeEquiv (boxC_numel k n) (ix2 z l)) = ix3 k n l := by
  have hx : Shape.reshapeEquiv (boxC_numel k n) (ix2 z l) = (Fin.cons ⟨0, Nat.one_pos⟩ (ix2 z l) : (boxC k n).shape.Idx) :=
    Shape.reshapeEquiv_cons_one (d := (tileC n).toLoadRect.size) _ _
  rw [hx]
  funext a; apply Fin.ext
  match a with
  | ⟨0, _⟩ => show k.val + 0 + 1 * 0 = k.val; omega
  | ⟨1, _⟩ => show 0 + n.val + 1 * z.val = n.val; omega
  | ⟨2, _⟩ => show 0 + 0 + 1 * l.val = l.val; omega

/-- A store of a group's maxima: where it goes -/
theorem redPiece_emb (k : Fin 8) (m : Nat) (hm : m < 8) (w : FVec Ideal S8x128 .f32) (x : (redPiece k m hm w).1.shape.Idx)
    (s : Fin 8) (l : Fin 128) (hs : (x 1).val = s.val) (hl : (x 2).val = l.val) :
    (redPiece k m hm w).1.emb x = ix3 k ⟨9 * s.val + m, by omega⟩ l := by
  have h0 : (x 0).val < 1 := (x 0).isLt
  funext a; apply Fin.ext
  match a with
  | ⟨0, _⟩ => show k.val + 0 + 1 * (x 0).val = k.val; omega
  | ⟨1, _⟩ => show 0 + m + 9 * (x 1).val = 9 * s.val + m; omega
  | ⟨2, _⟩ => show 0 + 0 + 1 * (x 2).val = l.val; omega

/-- and what it stores. -/
theorem redPiece_val (k : Fin 8) (m : Nat) (hm : m < 8) (w : FVec Ideal S8x128 .f32) (x : (redPiece k m hm w).1.shape.Idx)
    (s : Fin 8) (l : Fin 128) (hs : (x 1).val = s.val) (hl : (x 2).val = l.val) : (redPiece k m hm w).2 x = w (ix2 s l) := by
  exact (Rect.payAlong_consLift (rowR m hm) ![1, 72, 128] rfl (fun i => by fin_cases i <;> rfl) (shapeCast S8x128 w shapeCasts_S8x128_S8x128)
    (Rect.numel_consLift (rowR m hm) ![1, 72, 128] rfl (fun i => by fin_cases i <;> rfl)) x (ix2 s l)
    (fun i => match i with
      | ⟨0, _⟩ => hs.symm
      | ⟨1, _⟩ => hl.symm)).trans (congrFun (shapeCast_self w shapeCasts_S8x128_S8x128) _)

theorem cstPiece_emb (k : Fin 8) (o : Nat) (ho : o + 8 ≤ 24) (w : IVec S8x128 32) (x : (cstPiece (F := Ideal) k o ho w).1.shape.Idx)
    (s : Fin 8) (l : Fin 128) (hs : (x 1).val = s.val) (hl : (x 2).val = l.val) :
    (cstPiece (F := Ideal) k o ho w).1.emb x = ix3 k ⟨o + s.val, by omega⟩ l := by
  have h0 : (x 0).val < 1 := (x 0).isLt
  funext a; apply Fin.ext
  match a with
  | ⟨0, _⟩ => show k.val + 0 + 1 * (x 0).val = k.val; omega
  | ⟨1, _⟩ => show 0 + o + 1 * (x 1).val = o + s.val; omega
  | ⟨2, _⟩ => show 0 + 0 + 1 * (x 2).val = l.val; omega

theorem cstPiece_val (k : Fin 8) (o : Nat) (ho : o + 8 ≤ 24) (w : IVec S8x128 32) (x : (cstPiece (F := Ideal) k o ho w).1.shape.Idx)
    (s : Fin 8) (l : Fin 128) (hs : (x 1).val = s.val) (hl : (x 2).val = l.val) : (cstPiece (F := Ideal) k o ho w).2 x = w (ix2 s l) := by
  exact (Rect.payAlong_consLift (rowC o ho) ![1, 24, 128] rfl (fun i => by fin_cases i <;> rfl) (shapeCast S8x128 w shapeCasts_S8x128_S8x128)
    (Rect.numel_consLift (rowC o ho) ![1, 24, 128] rfl (fun i => by fin_cases i <;> rfl)) x (ix2 s l)
    (fun i => match i with
      | ⟨0, _⟩ => hs.symm
      | ⟨1, _⟩ => hl.symm)).trans (congrFun (shapeCast_self w shapeCasts_S8x128_S8x128) _)

/-- The larger of a number and its negative. -/
def ab (x : EReal) : EReal := max x (-x)

/-- The largest magnitude of the four channels `s`, `8 + s`, `16 + s` and `24 + s` of group `m`. -/
def g4 (v : FVec Ideal S256x128 .f32) (m s : Fin 8) (l : Fin 128) : EReal :=
  max (max (ab (v (ix2 ⟨32 * m.val + s.val, by omega⟩ l))) (ab (v (ix2 ⟨32 * m.val + 8 + s.val, by omega⟩ l))))
    (max (ab (v (ix2 ⟨32 * m.val + 16 + s.val, by omega⟩ l))) (ab (v (ix2 ⟨32 * m.val + 24 + s.val, by omega⟩ l))))

theorem gmax_apply (v : FVec Ideal S256x128 .f32) (o0 o1 o2 o3 : Nat) (h0 : S256x128.Slices ![o0, 0] S8x128) (h1 : S256x128.Slices ![o1, 0] S8x128)
    (h2 : S256x128.Slices ![o2, 0] S8x128) (h3 : S256x128.Slices ![o3, 0] S8x128) (m s : Fin 8) (l : Fin 128)
    (e0 : o0 = 32 * m.val) (e1 : o1 = 32 * m.val + 8) (e2 : o2 = 32 * m.val + 16) (e3 : o3 = 32 * m.val + 24) :
    gmax v o0 o1 o2 o3 h0 h1 h2 h3 (ix2 s l) = g4 v m s l := by
  subst e0 e1 e2 e3
  show max (max (ab (vrow v _ h0 (ix2 s l))) (ab (vrow v _ h1 (ix2 s l)))) (max (ab (vrow v _ h2 (ix2 s l))) (ab (vrow v _ h3 (ix2 s l)))) = _
  rw [vrow_apply _ _ _ _ _ (by omega), vrow_apply _ _ _ _ _ (by omega), vrow_apply _ _ _ _ _ (by omega), vrow_apply _ _ _ _ _ (by omega)]
  rfl

/-- What is in the first scratch array's rows written. -/
def GR (vs : Fin 8 → FVec Ideal S256x128 .f32) (y : S8x72x128.Idx) : EReal :=
  if h : (y 1).val % 9 < 8 then g4 (vs (y 0)) ⟨(y 1).val % 9, h⟩ ⟨(y 1).val / 9, by have : (y 1).val < 72 := (y 1).isLt; omega⟩ (y 2) else 0

theorem GR_at (vs : Fin 8 → FVec Ideal S256x128 .f32) (k s m : Fin 8) (l : Fin 128) :
    GR vs (ix3 k ⟨9 * s.val + m.val, by omega⟩ l) = g4 (vs k) m s l := by
  unfold GR
  refine (dif_pos (show (9 * s.val + m.val) % 9 < 8 by omega)).trans ?_
  exact congrArg₂ (fun a b => g4 (vs k) a b l) (Fin.ext (show (9 * s.val + m.val) % 9 = m.val by omega)) (Fin.ext (show (9 * s.val + m.val) / 9 = s.val by omega))

theorem redPiece_GR (vs : Fin 8 → FVec Ideal S256x128 .f32) (k m : Fin 8) (w : FVec Ideal S8x128 .f32)
    (hw : ∀ s l, w (ix2 s l) = g4 (vs k) m s l) (x : (redPiece k m.val m.isLt w).1.shape.Idx) :
    (redPiece k m.val m.isLt w).2 x = GR vs ((redPiece k m.val m.isLt w).1.emb x) := by
  have h1 : (x 1).val < 8 := (x 1).isLt
  have h2 : (x 2).val < 128 := (x 2).isLt
  rw [redPiece_val k m.val m.isLt w x ⟨_, h1⟩ ⟨_, h2⟩ rfl rfl, redPiece_emb k m.val m.isLt w x ⟨_, h1⟩ ⟨_, h2⟩ rfl rfl, GR_at, hw]

/-- The maxima read back. -/
theorem rdR_apply (g : View sig .tc .vmem S8x72x128 .f32) (vs : Fin 8 → FVec Ideal S256x128 .f32) (k s m : Fin 8) (l : Fin 128) :
    rdR g (redL vs (k.val + 1) k.isLt) k s (ix2 m l) = g4 (vs k) m s l := by
  unfold rdR
  rw [View.readCov_eq_canon']
  show View.canon _ ((boxR k s).idx (Shape.reshapeEquiv (boxR_numel k s) (ix2 m l))) = _
  rw [boxR_idx]
  unfold redL
  rw [← GR_at]
  refine View.canon_append_of_pieces (Val := Elt Ideal) (S := S8x72x128) (e := .f32) (GR vs) _ _ ?_ _ ?_
  · intro p hp x
    unfold redP at hp
    simp only [List.mem_cons, List.not_mem_nil, or_false] at hp
    rcases hp with rfl | rfl | rfl | rfl | rfl | rfl | rfl | rfl
    · exact redPiece_GR vs k 7 _ (fun s l => gmax_apply _ _ _ _ _ _ _ _ _ 7 s l rfl rfl rfl rfl) x
    · exact redPiece_GR vs k 6 _ (fun s l => gmax_apply _ _ _ _ _ _ _ _ _ 6 s l rfl rfl rfl rfl) x
    · exact redPiece_GR vs k 5 _ (fun s l => gmax_apply _ _ _ _ _ _ _ _ _ 5 s l rfl rfl rfl rfl) x
    · exact redPiece_GR vs k 4 _ (fun s l => gmax_apply _ _ _ _ _ _ _ _ _ 4 s l rfl rfl rfl rfl) x
    · exact redPiece_GR vs k 3 _ (fun s l => gmax_apply _ _ _ _ _ _ _ _ _ 3 s l rfl rfl rfl rfl) x
    · exact redPiece_GR vs k 2 _ (fun s l => gmax_apply _ _ _ _ _ _ _ _ _ 2 s l rfl rfl rfl rfl) x
    · exact redPiece_GR vs k 1 _ (fun s l => gmax_apply _ _ _ _ _ _ _ _ _ 1 s l rfl rfl rfl rfl) x
    · exact redPiece_GR vs k 0 _ (fun s l => gmax_apply _ _ _ _ _ _ _ _ _ 0 s l rfl rfl rfl rfl) x
  · have key : ∀ (n : ℕ) (hn : n < 8) (w : FVec Ideal S8x128 .f32), m.val = n →
        ix3 k ⟨9 * s.val + m.val, by omega⟩ l ∈ (redPiece k n hn w).1.set := fun n hn w e => by
      subst e
      rw [← redPiece_emb k m.val m.isLt w (Fin.cons ⟨0, Nat.one_pos⟩ (ix2 s l)) s l rfl rfl]
      exact LoadRect.idx_mem _ _
    have hm := m.isLt
    unfold redP
    rcases (by omega : m.val = 7 ∨ m.val = 6 ∨ m.val = 5 ∨ m.val = 4 ∨ m.val = 3 ∨ m.val = 2 ∨ m.val = 1 ∨ m.val = 0) with e | e | e | e | e | e | e | e
    · exact ⟨_, .head _, key 7 _ _ e⟩
    · exact ⟨_, .tail _ (.head _), key 6 _ _ e⟩
    · exact ⟨_, .tail _ (.tail _ (.head _)), key 5 _ _ e⟩
    · exact ⟨_, .tail _ (.tail _ (.tail _ (.head _))), key 4 _ _ e⟩
    · exact ⟨_, .tail _ (.tail _ (.tail _ (.tail _ (.head _)))), key 3 _ _ e⟩
    · exact ⟨_, .tail _ (.tail _ (.tail _ (.tail _ (.tail _ (.head _))))), key 2 _ _ e⟩
    · exact ⟨_, .tail _ (.tail _ (.tail _ (.tail _ (.tail _ (.tail _ (.head _)))))), key 1 _ _ e⟩
    · exact ⟨_, .tail _ (.tail _ (.tail _ (.tail _ (.tail _ (.tail _ (.tail _ (.head _))))))), key 0 _ _ e⟩

/-- What is in the second scratch array's plane. -/
def GC (e : IVec S8x128 32) (y : S8x24x128.Idx) : BitVec 32 :=
  if h : (y 1).val < 8 then cstA e (ix2 ⟨(y 1).val, h⟩ (y 2))
  else if h : (y 1).val < 16 then twice (cstB e) (ix2 ⟨(y 1).val - 8, by omega⟩ (y 2))
  else twice (cstC e) (ix2 ⟨(y 1).val - 16, by have : (y 1).val < 24 := (y 1).isLt; omega⟩ (y 2))

/-- The constants read back. -/
theorem rdC_apply (g : View sig .tc .vmem S8x72x128 .f32) (g' : View sig .tc .vmem S8x24x128 .i32) (vs : Fin 8 → FVec Ideal S256x128 .f32)
    (k : Fin 8) (n : Fin 24) (z : Fin 1) (l : Fin 128) :
    rdC g' (cstL g vs (k.val + 1) k.isLt) k n (ix2 z l) = GC (eOf g vs k) (ix3 k n l) := by
  unfold rdC
  rw [View.readCov_eq_canon']
  show View.canon _ ((boxC k n).idx (Shape.reshapeEquiv (boxC_numel k n) (ix2 z l))) = _
  rw [boxC_idx]
  unfold cstL
  generalize eOf g vs ⟨k.val, k.isLt⟩ = e
  refine View.canon_append_of_pieces (Val := Elt Ideal) (S := S8x24x128) (e := .i32) (GC e) _ _ ?_ _ ?_
  · intro p hp x
    unfold cstP at hp
    simp only [List.mem_cons, List.not_mem_nil, or_false] at hp
    rcases hp with rfl | rfl | rfl
    · have h1 : (x 1).val < 8 := (x 1).isLt
      have h2 : (x 2).val < 128 := (x 2).isLt
      rw [cstPiece_val _ _ _ _ x ⟨_, h1⟩ ⟨_, h2⟩ rfl rfl, cstPiece_emb _ _ _ _ x ⟨_, h1⟩ ⟨_, h2⟩ rfl rfl]
      unfold GC
      refine Eq.trans ?_ ((dif_neg (show ¬ 16 + (x 1).val < 8 by omega)).trans (dif_neg (show ¬ 16 + (x 1).val < 16 by omega))).symm
      exact congrArg (fun a => twice (cstC e) (ix2 a ⟨_, h2⟩)) (Fin.ext (show (x 1).val = 16 + (x 1).val - 16 by omega))
    · have h1 : (x 1).val < 8 := (x 1).isLt
      have h2 : (x 2).val < 128 := (x 2).isLt
      rw [cstPiece_val _ _ _ _ x ⟨_, h1⟩ ⟨_, h2⟩ rfl rfl, cstPiece_emb _ _ _ _ x ⟨_, h1⟩ ⟨_, h2⟩ rfl rfl]
      unfold GC
      refine Eq.trans ?_ ((dif_neg (show ¬ 8 + (x 1).val < 8 by omega)).trans (dif_pos (show 8 + (x 1).val < 16 by omega))).symm
      exact congrArg (fun a => twice (cstB e) (ix2 a ⟨_, h2⟩)) (Fin.ext (show (x 1).val = 8 + (x 1).val - 8 by omega))
    · have h1 : (x 1).val < 8 := (x 1).isLt
      have h2 : (x 2).val < 128 := (x 2).isLt
      rw [cstPiece_val _ _ _ _ x ⟨_, h1⟩ ⟨_, h2⟩ rfl rfl, cstPiece_emb _ _ _ _ x ⟨_, h1⟩ ⟨_, h2⟩ rfl rfl]
      unfold GC
      refine Eq.trans ?_ (dif_pos (show 0 + (x 1).val < 8 by omega)).symm
      exact congrArg (fun a => cstA e (ix2 a ⟨_, h2⟩)) (Fin.ext (show (x 1).val = 0 + (x 1).val by omega))
  · have key : ∀ (o : ℕ) (ho : o + 8 ≤ 24) (w : IVec S8x128 32), o ≤ n.val → n.val < o + 8 → ix3 k n l ∈ (cstPiece (F := Ideal) k o ho w).1.set := fun o ho w h1 h2 => by
      have := cstPiece_emb k o ho w (Fin.cons ⟨0, Nat.one_pos⟩ (ix2 (⟨n.val - o, by omega⟩ : Fin 8) l)) ⟨n.val - o, by omega⟩ l rfl rfl
      rw [show (⟨o + (n.val - o), by omega⟩ : Fin 24) = n from Fin.ext (by show o + (n.val - o) = n.val; omega)] at this
      rw [← this]
      exact LoadRect.idx_mem _ _
    have hn := n.isLt
    unfold cstP
    by_cases c1 : n.val < 8
    · exact ⟨_, .tail _ (.tail _ (.head _)), key _ _ _ (by omega) (by omega)⟩
    · by_cases c2 : n.val < 16
      · exact ⟨_, .tail _ (.head _), key _ _ _ (by omega) (by omega)⟩
      · exact ⟨_, .head _, key _ _ _ (by omega) (by omega)⟩

end Cert.KernelIdeal.Dw

end
-- ==== Proof.Tile.lean ====
/- The value the quantiser leaves for one channel, over the reals. -/
module

public import proofs.«01_k».proof.Proof.Reads

@[expose] public section

set_option maxRecDepth 16384

noncomputable section

namespace Cert.KernelIdeal.Dw

open Cert.KernelIdeal.Gen
open Idealize.ShloMosaic Idealize.ShloMosaic.TcCoe Idealize.ShloMosaic.Tactic

/-- `a` is the largest of the magnitudes of `f`. -/
def IsMag (f : Fin 32 → ℝ) (a : ℝ) : Prop := (∃ c, a = |f c|) ∧ ∀ c, |f c| ≤ a

theorem isMag_exists (f : Fin 32 → ℝ) : ∃ a, IsMag f a := by
  obtain ⟨c, _, h⟩ := Finset.exists_max_image Finset.univ (fun c => |f c|) ⟨0, Finset.mem_univ _⟩
  exact ⟨_, ⟨c, rfl⟩, fun d => h d (Finset.mem_univ _)⟩

theorem ab_coe (v : ℝ) : ab (v : EReal) = ((|v| : ℝ) : EReal) := max_neg v

/-- The tree of maxima over a group's 32 rows is their largest magnitude. -/
theorem amax_val (v : FVec Ideal S256x128 .f32) (m : Fin 8) (l : Fin 128) (f : Fin 32 → ℝ) (a : ℝ) (ha : IsMag f a)
    (hv : ∀ r : Fin 32, v (ix2 ⟨32 * m.val + r.val, by omega⟩ l) = ((f r : ℝ) : EReal))
    (rd : Fin 8 → FVec Ideal S8x128 .f32) (hrd : ∀ s, rd s (ix2 m l) = g4 v m s l) :
    amax rd (ix2 m l) = ((a : ℝ) : EReal) := by
  have e : amax rd (ix2 m l) = max (max (max (max (max (max (max (rd 0 (ix2 m l)) (rd 1 (ix2 m l))) (rd 2 (ix2 m l))) (rd 3 (ix2 m l))) (rd 4 (ix2 m l))) (rd 5 (ix2 m l))) (rd 6 (ix2 m l))) (rd 7 (ix2 m l)) := rfl
  have hg : ∀ s : Fin 8, g4 v m s l = max (max ((|f ⟨s.val, by omega⟩| : ℝ) : EReal) ((|f ⟨8 + s.val, by omega⟩| : ℝ) : EReal))
      (max ((|f ⟨16 + s.val, by omega⟩| : ℝ) : EReal) ((|f ⟨24 + s.val, by omega⟩| : ℝ) : EReal)) := fun s => by
    unfold g4
    simp only [Nat.add_assoc]
    rw [hv ⟨s.val, by omega⟩, hv ⟨8 + s.val, by omega⟩, hv ⟨16 + s.val, by omega⟩, hv ⟨24 + s.val, by omega⟩, ab_coe, ab_coe, ab_coe, ab_coe]
  have hle : ∀ s : Fin 8, rd s (ix2 m l) ≤ ((a : ℝ) : EReal) := fun s => by
    rw [hrd, hg]
    exact max_le (max_le (EReal.coe_le_coe_iff.mpr (ha.2 _)) (EReal.coe_le_coe_iff.mpr (ha.2 _))) (max_le (EReal.coe_le_coe_iff.mpr (ha.2 _)) (EReal.coe_le_coe_iff.mpr (ha.2 _)))
  refine le_antisymm ?_ ?_
  · rw [e]
    exact max_le (max_le (max_le (max_le (max_le (max_le (max_le (hle 0) (hle 1)) (hle 2)) (hle 3)) (hle 4)) (hle 5)) (hle 6)) (hle 7)
  · obtain ⟨c, hc⟩ := ha.1
    have h1 : ((a : ℝ) : EReal) ≤ rd ⟨c.val % 8, by omega⟩ (ix2 m l) := by
      rw [hrd, hg, hc]
      have hlt := c.isLt
      rcases (by omega : c.val = c.val % 8 ∨ c.val = 8 + c.val % 8 ∨ c.val = 16 + c.val % 8 ∨ c.val = 24 + c.val % 8) with h | h | h | h
      · exact le_max_of_le_left (le_max_of_le_left (le_of_eq (congrArg (fun x => ((|f x| : ℝ) : EReal)) (Fin.ext h))))
      · exact le_max_of_le_left (le_max_of_le_right (le_of_eq (congrArg (fun x => ((|f x| : ℝ) : EReal)) (Fin.ext h))))
      · exact le_max_of_le_right (le_max_of_le_left (le_of_eq (congrArg (fun x => ((|f x| : ℝ) : EReal)) (Fin.ext h))))
      · exact le_max_of_le_right (le_max_of_le_right (le_of_eq (congrArg (fun x => ((|f x| : ℝ) : EReal)) (Fin.ext h))))
    refine h1.trans ?_
    rw [e]
    generalize (⟨c.val % 8, by omega⟩ : Fin 8) = s
    fin_cases s <;> simp

/-- Either half of a half word written twice. -/
theorem twice_half (x : BitVec 32) (hx : x.toNat < 2 ^ 16) (k : Fin 2) :
    (x ||| x <<< 16).extractLsb' (16 * k.val) 16 = x.setWidth 16 := by
  apply BitVec.eq_of_getLsbD_eq
  intro i hi
  have hb : ∀ j, 16 ≤ j → x.getLsbD j = false := fun j hj => by
    rw [BitVec.getLsbD]
    exact Nat.testBit_lt_two_pow (hx.trans_le (Nat.pow_le_pow_right (by norm_num) hj))
  fin_cases k
  · simp [hi, BitVec.getLsbD_or, BitVec.getLsbD_shiftLeft]
  · simp [hi, BitVec.getLsbD_or, BitVec.getLsbD_shiftLeft, hb (16 + i) (by omega)]
    omega

/-- The scale's half word, as a number. -/
theorem bf_scale (p : ℕ) (h1 : 1 ≤ p) (h2 : p ≤ 254) : Ideal.ofBits .bf16 (BitVec.ofNat 16 (p * 2 ^ 7)) = ((fv (p * 2 ^ 23) : ℝ) : EReal) := by
  have e1 : ((BitVec.ofNat 16 (p * 2 ^ 7)).extractLsb' 7 8).toNat = p := by
    simp only [BitVec.extractLsb'_toNat, BitVec.toNat_ofNat, Nat.shiftRight_eq_div_pow]; omega
  have e2 : ((BitVec.ofNat 16 (p * 2 ^ 7)).extractLsb' 0 7).toNat = 0 := by
    simp only [BitVec.extractLsb'_toNat, BitVec.toNat_ofNat, Nat.shiftRight_eq_div_pow]; omega
  have e3 : ((BitVec.ofNat 16 (p * 2 ^ 7)).extractLsb' 15 1 == 1#1) = false := by
    rw [beq_eq_false_iff_ne]; intro h'
    have := congrArg BitVec.toNat h'
    simp only [BitVec.extractLsb'_toNat, BitVec.toNat_ofNat, Nat.shiftRight_eq_div_pow] at this; omega
  show Ideal.ieee 8 7 _ = _
  unfold Ideal.ieee
  simp only [e1, e2, e3, show 8 + 7 = 15 from rfl]
  rw [if_neg (by omega), if_neg (by omega), fv_pow p h1]
  congr 1
  have : (p : ℤ) - (2 ^ (8 - 1) - 1) - ((7 : ℕ) : ℤ) = ((p : ℤ) - 127) - 7 := by norm_num
  simp only [this]
  rw [zpow_sub₀ (by norm_num)]
  norm_num
  ring

theorem cstA_apply (e : IVec S8x128 32) (j : S8x128.Idx) (p : ℕ) (hp : p < 512) (h : e j = BitVec.ofNat 32 p) :
    cstA e j = BitVec.ofNat 32 (p * 2 ^ 23 + 8191) := by
  show IntOp.addi (IntOp.shli .vector (e j) 23#32) 8191#32 = _
  rw [h, shl23_ofNat p hp, addi_ofNat]

theorem cstB_half (e : IVec S8x128 32) (j : S8x128.Idx) (p : ℕ) (h : e j = BitVec.ofNat 32 p) (k : Fin 2) :
    (twice (cstB e) j).extractLsb' (16 * k.val) 16 = ((255#32 - BitVec.ofNat 32 p <<< 9) &&& 65535#32).setWidth 16 := by
  have hb : cstB e j = (255#32 - BitVec.ofNat 32 p <<< 9) &&& 65535#32 := by
    show IntOp.andi (IntOp.subi 255#32 (IntOp.shli .vector (e j) 9#32)) 65535#32 = _
    rw [h]; rfl
  have ht : twice (cstB e) j = cstB e j ||| cstB e j <<< 16 := rfl
  rw [ht, hb]
  refine twice_half _ ?_ k
  rw [BitVec.toNat_and, show (65535#32).toNat = 2 ^ 16 - 1 from rfl, Nat.and_two_pow_sub_one_eq_mod]
  omega

theorem cstC_half (e : IVec S8x128 32) (j : S8x128.Idx) (p : ℕ) (hp : p ≤ 254) (h : e j = BitVec.ofNat 32 p) (k : Fin 2) :
    (twice (cstC e) j).extractLsb' (16 * k.val) 16 = BitVec.ofNat 16 (p * 2 ^ 7) := by
  have hb : cstC e j = BitVec.ofNat 32 (p * 2 ^ 7) := by
    show IntOp.shli .vector (e j) 7#32 = _
    rw [h]
    show BitVec.ofNat 32 p <<< 7 = _
    apply BitVec.eq_of_toNat_eq
    rw [BitVec.toNat_shiftLeft, BitVec.toNat_ofNat, BitVec.toNat_ofNat, Nat.shiftLeft_eq]
    omega
  have ht : twice (cstC e) j = cstC e j ||| cstC e j <<< 16 := rfl
  rw [ht, hb, twice_half _ (by rw [BitVec.toNat_ofNat]; omega) k]
  apply BitVec.eq_of_toNat_eq
  rw [BitVec.toNat_setWidth, BitVec.toNat_ofNat, BitVec.toNat_ofNat]
  omega

/-- The group's exponent field: 127 for a group of zeros. -/
theorem sE_val (a : ℝ) (h0 : 0 ≤ a) (h : a < 2 ^ 110) :
    ∃ p : ℕ, 1 ≤ p ∧ p ≤ 240 ∧ sE (a : EReal) = BitVec.ofNat 32 p ∧ a < 6 * fv (p * 2 ^ 23) ∧ (0 < a → p = pE a) := by
  rcases h0.lt_or_eq with hp | rfl
  · obtain ⟨h1, h2, h3, _⟩ := pE_mem a h h0
    refine ⟨pE a, h1, h2, sE_pos a h hp, ?_, fun _ => rfl⟩
    rw [cc_eq] at h3
    generalize fv (pE a * 2 ^ 23) = F at h3 ⊢
    nlinarith
  · refine ⟨127, by norm_num, by norm_num, sE_zero, ?_, fun h => absurd h (lt_irrefl _)⟩
    have := fv_pos_pow 127 (by norm_num)
    linarith

/-- The value a tile leaves for channel `4 s + q` of group `m`: the group's scale times the rounded quotient. -/
theorem tile_val (g : View sig .tc .vmem S8x72x128 .f32) (g' : View sig .tc .vmem S8x24x128 .i32)
    (vs : Fin 8 → FVec Ideal S256x128 .f32) (ws : Fin 8 → IVec S64x128 32) (k m s : Fin 8) (q : Fin 4) (l : Fin 128)
    (f : Fin 32 → ℝ) (a : ℝ) (ha : IsMag f a) (hb : a < 2 ^ 110)
    (hv : ∀ r : Fin 32, vs k (ix2 ⟨32 * m.val + r.val, by omega⟩ l) = ((f r : ℝ) : EReal)) :
    tileVals g g' vs ws k (ix2 ⟨32 * m.val + (4 * s.val + q.val), by omega⟩ l)
      = ((specV a (f ⟨8 * q.val + s.val, by omega⟩) ((ws k (ix2 ⟨8 * m.val + s.val, by omega⟩ l)).extractLsb' (8 * q.val) 8).toNat : ℝ) : EReal) := by
  have h0 : 0 ≤ a := by obtain ⟨c, hc⟩ := ha.1; rw [hc]; exact abs_nonneg _
  obtain ⟨p, hp1, hp2, hp, hlt, hpos⟩ := sE_val a h0 hb
  have he : eOf g vs k (ix2 m l) = BitVec.ofNat 32 p := by
    unfold eOf
    rw [e8_apply, amax_val (vs k) m l f a ha hv _ (fun s => rdR_apply g vs k s m l), hp]
  have hm := m.isLt
  have hA : rdC g' (cstL g vs (k.val + 1) k.isLt) k ⟨m.val, by omega⟩ (ix2 0 l) = BitVec.ofNat 32 (p * 2 ^ 23 + 8191) := by
    rw [rdC_apply]
    unfold GC
    exact (dif_pos hm).trans (cstA_apply _ _ p (by omega) he)
  have hB : ∀ j : Fin 2, (rdC g' (cstL g vs (k.val + 1) k.isLt) k ⟨8 + m.val, by omega⟩ (ix2 0 l)).extractLsb' (16 * j.val) 16
      = ((255#32 - BitVec.ofNat 32 p <<< 9) &&& 65535#32).setWidth 16 := fun j => by
    rw [rdC_apply, ← cstB_half (eOf g vs k) (ix2 m l) p he j]
    congr 1
    unfold GC
    refine (dif_neg (show ¬ 8 + m.val < 8 by omega)).trans ((dif_pos (show 8 + m.val < 16 by omega)).trans ?_)
    exact congrArg (fun a => twice (cstB (eOf g vs k)) (ix2 a l)) (Fin.ext (show 8 + m.val - 8 = m.val by omega))
  have hC : ∀ j : Fin 2, (rdC g' (cstL g vs (k.val + 1) k.isLt) k ⟨16 + m.val, by omega⟩ (ix2 0 l)).extractLsb' (16 * j.val) 16
      = BitVec.ofNat 16 (p * 2 ^ 7) := fun j => by
    rw [rdC_apply, ← cstC_half (eOf g vs k) (ix2 m l) p (by omega) he j]
    congr 1
    unfold GC
    refine (dif_neg (show ¬ 16 + m.val < 8 by omega)).trans ((dif_neg (show ¬ 16 + m.val < 16 by omega)).trans ?_)
    exact congrArg (fun a => twice (cstC (eOf g vs k)) (ix2 a l)) (Fin.ext (show 16 + m.val - 16 = m.val by omega))
  unfold tileVals
  rw [shapeCast_self, vals_apply _ _ _ m s q l _ _ hB hC, bf_scale p hp1 (by omega)]
  have hR : vs k (ix2 ⟨32 * m.val + 8 * q.val + s.val, by omega⟩ l) = ((f ⟨8 * q.val + s.val, by omega⟩ : ℝ) : EReal) := by
    rw [← hv]
    exact congrArg (fun r => vs k (ix2 r l)) (Fin.ext (Nat.add_assoc _ _ _))
  rw [hR, hA, max_neg]
  generalize hbits : (ws k (ix2 ⟨8 * m.val + s.val, _⟩ l)).extractLsb' (8 * q.val) 8 = B
  generalize hx : f ⟨8 * q.val + s.val, _⟩ = x
  have hxa : |x| ≤ a := hx ▸ ha.2 _
  have hsc := scalar_val p B.toNat 8396799 x hp1 (by omega) B.isLt rfl (hxa.trans_lt hlt)
  rw [BitVec.ofNat_toNat, BitVec.setWidth_eq] at hsc
  unfold nibAt sZ
  rw [hsc, ← EReal.coe_mul]
  refine congrArg Real.toEReal ?_
  rcases h0.lt_or_eq with hpa | hza
  · rw [hpos hpa]; rfl
  · have hx0 : x = 0 := abs_eq_zero.mp (le_antisymm (hza ▸ hxa) (abs_nonneg _))
    have hq : ∀ P : ℝ, qv (|x| / P) (((B.toNat : ℝ) + 1 / 2) / 256) = 0 := fun P => by
      rw [hx0, abs_zero, zero_div]; exact qv_zero _ (by positivity)
    unfold specV
    rw [hq, hq]
    simp

end Cert.KernelIdeal.Dw

end
-- ==== Proof.Block.lean ====
/- One step's block of bit-float values, entry by entry, over the reals. -/
module

public import proofs.«01_k».proof.Proof.Tile
public import proofs.«01_k».proof.Proof.Tiles

@[expose] public section

set_option maxRecDepth 16384

noncomputable section

namespace Cert.KernelIdeal.Dw

open Cert.KernelIdeal.Gen
open Idealize.ShloMosaic Idealize.ShloMosaic.TcCoe Idealize.ShloMosaic.Tactic

/-- A channel of the rotated vector: row `r` of the rotation against the 256 entries of `w` from `o` on. -/
def vR (hr : ℕ → ℕ → ℝ) (w : ℕ → ℝ) (o r : ℕ) : ℝ := ∑ k : Fin 256, hr r k.val * w (o + k.val)

/-- The group of 32 channels that channel `f` is in, in the order the kernel's rotation gives them. -/
def grp (hr : ℕ → ℕ → ℝ) (w : ℕ → ℝ) (f : ℕ) : Fin 32 → ℝ := fun r => vR hr w (256 * (f / 256)) (32 * (f % 256 / 32) + r.val)

/-- Where channel `f` is in its group. -/
def pos (f : ℕ) : Fin 32 := ⟨8 * (f % 4) + f % 32 / 4, by omega⟩

/-- The value left for channel `f`, its group's largest magnitude being `a` and its random bits `b`. -/
def specC (hr : ℕ → ℕ → ℝ) (w : ℕ → ℝ) (a : ℝ) (f b : ℕ) : ℝ := specV a (grp hr w f (pos f)) b

theorem vT_apply (h w : Vec Ideal S256x256 .bf16) (x : S256x256.Idx) :
    vT h w x = ∑ k : Fin 256, h (ix2 (x 0) k) * w (ix2 (x 1) k) := by
  unfold vT
  pointwise []
  done

theorem coe_sum (n : ℕ) (f : Fin n → ℝ) : ∑ k, ((f k : ℝ) : EReal) = ((∑ k, f k : ℝ) : EReal) := by
  induction n with
  | zero => simp
  | succ n ih => rw [Fin.sum_univ_succ, Fin.sum_univ_succ, EReal.coe_add, ih]

section
variable (x0 : Vec Ideal S512x512 .bf16) (x1 : Vec Ideal S512x512 .i8) (x5 : Vec Ideal S256x256 .bf16)
  (hr : ℕ → ℕ → ℝ) (wr : ℕ → ℕ → ℝ)

/-- One tile's channels. -/
theorem slot_v (hH : ∀ i j : Fin 256, x5 (ix2 i j) = ((hr i.val j.val : ℝ) : EReal))
    (hW : ∀ i j : Fin 512, x0 (ix2 i j) = ((wr i.val j.val : ℝ) : EReal))
    (off : Fin 2 → ℕ) (inb : ∀ a, off a + S256x256.size a ≤ S512x512.size a) (o : Fin 2 → ℕ) (hs : S256x256.Slices o S256x128)
    (r : Fin 256) (l : Fin 128) (h0 : o 0 = 0) (hl : o 1 + l.val < 256) :
    extractStridedSlice S256x128 o (vT x5 (View.ld x0 (Rect.unit (s := S512x512) off S256x256.size inb))) hs (ix2 r l)
      = ((vR hr (wr (off 0 + (o 1 + l.val))) (off 1) r.val : ℝ) : EReal) := by
  have i0 : off 0 + 256 ≤ 512 := inb 0
  have i1 : off 1 + 256 ≤ 512 := inb 1
  rw [extractStridedSlice_apply o _ hs (ix2 r l) (ix2 r ⟨o 1 + l.val, hl⟩) (fun a => by
    match a with
    | ⟨0, _⟩ => exact (by omega : r.val = o 0 + r.val)
    | ⟨1, _⟩ => rfl), vT_apply]
  unfold vR
  rw [← coe_sum]
  refine Finset.sum_congr rfl fun k _ => ?_
  rw [EReal.coe_mul, ← hH r k, ← hW ⟨off 0 + (o 1 + l.val), by omega⟩ ⟨off 1 + k.val, by omega⟩]
  refine congrArg (x5 (ix2 r k) * ·) (View.ld_unit_apply_of _ _ _ _ _ _ fun a => ?_)
  match a with
  | ⟨0, _⟩ => rfl
  | ⟨1, _⟩ => rfl

/-- One tile's random bits. -/
theorem slot_b (off : Fin 2 → ℕ) (inb : ∀ a, off a + S256x256.size a ≤ S512x512.size a) (o : Fin 2 → ℕ) (hs : S64x256.Slices o S64x128)
    (g : Fin 64) (q : Fin 4) (l : Fin 128) (h0 : o 0 = 0) (D R : Fin 512) (hD : D.val = off 0 + (o 1 + l.val)) (hR : R.val = off 1 + (4 * g.val + q.val))
    (hl : o 1 + l.val < 256) :
    (extractStridedSlice S64x128 o (bT (F := Ideal) (View.ld (Val := Elt Ideal) x1 (Rect.unit (s := S512x512) off S256x256.size inb))) hs (ix2 g l)).extractLsb' (8 * q.val) 8
      = x1 (ix2 D R) := by
  rw [extractStridedSlice_apply o _ hs (ix2 g l) (ix2 g ⟨o 1 + l.val, hl⟩) (fun a => by
    match a with
    | ⟨0, _⟩ => exact (by omega : g.val = o 0 + g.val)
    | ⟨1, _⟩ => rfl)]
  unfold bT
  rw [cast_8_32]
  refine Eq.trans (b := View.ld (Val := Elt Ideal) x1 (Rect.unit (s := S512x512) off S256x256.size inb) (ix2 ⟨o 1 + l.val, hl⟩ ⟨4 * g.val + q.val, by omega⟩)) ?_ ?_
  · refine congrArg (View.ld (Val := Elt Ideal) x1 (Rect.unit (s := S512x512) off S256x256.size inb)) ?_
    funext a
    match a with
    | ⟨0, _⟩ => rfl
    | ⟨1, _⟩ => rfl
  · refine View.ld_unit_apply_of _ _ _ _ _ _ fun a => ?_
    match a with
    | ⟨0, _⟩ => exact hD
    | ⟨1, _⟩ => exact hR

variable (am : ℕ → ℕ → ℝ)

/-- The block's entry at channel `R` of row `D` of `w`'s block. -/
def GW : S512x512.Idx → EReal := fun y =>
  ((specC hr (wr (y 1).val) (am (y 1).val (y 0).val) (y 0).val (x1 (ix2 (y 1) (y 0))).toNat : ℝ) : EReal)

/-- One tile. -/
theorem slot_val (ha : ∀ D R : ℕ, D < 512 → R < 512 → IsMag (grp hr (wr D) R) (am D R) ∧ am D R < 2 ^ 110)
    (g14 : View sig .tc .vmem S8x72x128 .f32) (g15 : View sig .tc .vmem S8x24x128 .i32)
    (vs : Fin 8 → FVec Ideal S256x128 .f32) (ws : Fin 8 → IVec S64x128 32) (k : Fin 8) (D0 R0 : ℕ) (hR0 : R0 = 0 ∨ R0 = 256) (hD0 : D0 + 128 ≤ 512)
    (hv : ∀ (r : Fin 256) (l : Fin 128), vs k (ix2 r l) = ((vR hr (wr (D0 + l.val)) R0 r.val : ℝ) : EReal))
    (hw : ∀ (g : Fin 64) (q : Fin 4) (l : Fin 128) (D R : Fin 512), D.val = D0 + l.val → R.val = R0 + (4 * g.val + q.val) →
      (ws k (ix2 g l)).extractLsb' (8 * q.val) 8 = x1 (ix2 D R))
    (x : S256x128.Idx) (y : S512x512.Idx) (y0 : (y 0).val = R0 + (x 0).val) (y1 : (y 1).val = D0 + (x 1).val) :
    tileVals g14 g15 vs ws k x = GW x1 hr wr am y := by
  have hx0 : (x 0).val < 256 := (x 0).isLt
  have hx1 : (x 1).val < 128 := (x 1).isLt
  have hy0 : (y 0).val < 512 := (y 0).isLt
  have hy1 : (y 1).val < 512 := (y 1).isLt
  obtain ⟨hm, hb⟩ := ha (y 1).val (y 0).val hy1 hy0
  have hq : (y 0).val % 4 < 4 := Nat.mod_lt _ (by norm_num)
  have e := tile_val g14 g15 vs ws k ⟨(x 0).val / 32, by omega⟩ ⟨(x 0).val % 32 / 4, by omega⟩ ⟨(x 0).val % 4, by omega⟩ ⟨(x 1).val, hx1⟩
    (grp hr (wr (y 1).val) (y 0).val) (am (y 1).val (y 0).val) hm hb (fun r => by
      rw [hv]
      unfold grp
      have e1 : 256 * ((y 0).val / 256) = R0 := by omega
      have e2 : (y 0).val % 256 / 32 = (x 0).val / 32 := by omega
      rw [e1, e2, y1])
  rw [hw _ _ ⟨(x 1).val, hx1⟩ ⟨(y 1).val, hy1⟩ ⟨(y 0).val, hy0⟩ y1 (by show (y 0).val = R0 + (4 * (8 * ((x 0).val / 32) + (x 0).val % 32 / 4) + (x 0).val % 4); omega)] at e
  refine Eq.trans (congrArg (tileVals g14 g15 vs ws k) ?_) (e.trans ?_)
  · funext a
    apply Fin.ext
    match a with
    | ⟨0, _⟩ => exact (by omega : (x 0).val = 32 * ((x 0).val / 32) + (4 * ((x 0).val % 32 / 4) + (x 0).val % 4))
    | ⟨1, _⟩ => rfl
  · unfold GW specC
    refine congrArg Real.toEReal (congrArg (fun p => specV _ (grp hr (wr (y 1).val) (y 0).val p) _) (Fin.ext ?_))
    show 8 * ((x 0).val % 4) + (x 0).val % 32 / 4 = 8 * ((y 0).val % 4) + (y 0).val % 32 / 4
    omega

/-- One tile, its channels and its words being slices of a quarter's. -/
theorem slot (hH : ∀ i j : Fin 256, x5 (ix2 i j) = ((hr i.val j.val : ℝ) : EReal))
    (hW : ∀ i j : Fin 512, x0 (ix2 i j) = ((wr i.val j.val : ℝ) : EReal))
    (ha : ∀ D R : ℕ, D < 512 → R < 512 → IsMag (grp hr (wr D) R) (am D R) ∧ am D R < 2 ^ 110)
    (g14 : View sig .tc .vmem S8x72x128 .f32) (g15 : View sig .tc .vmem S8x24x128 .i32)
    (vs : Fin 8 → FVec Ideal S256x128 .f32) (ws : Fin 8 → IVec S64x128 32) (k : Fin 8) (D0 R0 o1 : ℕ) (hR0 : R0 = 0 ∨ R0 = 256) (ho : o1 = 0 ∨ o1 = 128)
    (inb : ∀ a, (![D0, R0] : Fin 2 → ℕ) a + S256x256.size a ≤ S512x512.size a) (hs : S256x256.Slices ![0, o1] S256x128) (hs' : S64x256.Slices ![0, o1] S64x128)
    (hv : vs k = extractStridedSlice S256x128 ![0, o1] (vT x5 (View.ld x0 (Rect.unit (s := S512x512) ![D0, R0] S256x256.size inb))) hs)
    (hw : ws k = extractStridedSlice S64x128 ![0, o1] (bT (F := Ideal) (View.ld (Val := Elt Ideal) x1 (Rect.unit (s := S512x512) ![D0, R0] S256x256.size inb))) hs')
    (x : S256x128.Idx) (y : S512x512.Idx) (y0 : (y 0).val = R0 + (x 0).val) (y1 : (y 1).val = D0 + o1 + (x 1).val) :
    tileVals g14 g15 vs ws k x = GW x1 hr wr am y := by
  have i0 : D0 + 256 ≤ 512 := inb 0
  refine slot_val x1 hr wr am ha g14 g15 vs ws k (D0 + o1) R0 hR0 (by omega) (fun r l => ?_) (fun g q l D R hD hR => ?_) x y y0 y1
  · rw [hv, slot_v x0 x5 hr wr hH hW ![D0, R0] inb ![0, o1] hs r l rfl (by show o1 + l.val < 256; omega)]
    show ((vR hr (wr (D0 + (o1 + l.val))) R0 r.val : ℝ) : EReal) = _
    rw [Nat.add_assoc]
  · rw [hw]
    exact slot_b x1 ![D0, R0] inb ![0, o1] hs' g q l rfl D R (by show D.val = D0 + (o1 + l.val); omega) (by show R.val = R0 + (4 * g.val + q.val); omega)
      (by show o1 + l.val < 256; omega)

theorem vsOf_0 (h w00 w10 w01 w11 : Vec Ideal S256x256 .bf16) :
    vsOf h w00 w10 w01 w11 0 = extractStridedSlice S256x128 ![0, 0] (vT h w00) slices_S256x256_o0_0_S256x128 := rfl
theorem wsOf_0 (w00 w10 w01 w11 : Vec Ideal S256x256 .i8) :
    wsOf (F := Ideal) w00 w10 w01 w11 0 = extractStridedSlice S64x128 ![0, 0] (bT (F := Ideal) w00) slices_S64x256_o0_0_S64x128 := rfl
theorem vsOf_1 (h w00 w10 w01 w11 : Vec Ideal S256x256 .bf16) :
    vsOf h w00 w10 w01 w11 1 = extractStridedSlice S256x128 ![0, 128] (vT h w00) slices_S256x256_o0_128_S256x128 := rfl
theorem wsOf_1 (w00 w10 w01 w11 : Vec Ideal S256x256 .i8) :
    wsOf (F := Ideal) w00 w10 w01 w11 1 = extractStridedSlice S64x128 ![0, 128] (bT (F := Ideal) w00) slices_S64x256_o0_128_S64x128 := rfl
theorem vsOf_2 (h w00 w10 w01 w11 : Vec Ideal S256x256 .bf16) :
    vsOf h w00 w10 w01 w11 2 = extractStridedSlice S256x128 ![0, 0] (vT h w10) slices_S256x256_o0_0_S256x128 := rfl
theorem wsOf_2 (w00 w10 w01 w11 : Vec Ideal S256x256 .i8) :
    wsOf (F := Ideal) w00 w10 w01 w11 2 = extractStridedSlice S64x128 ![0, 0] (bT (F := Ideal) w10) slices_S64x256_o0_0_S64x128 := rfl
theorem vsOf_3 (h w00 w10 w01 w11 : Vec Ideal S256x256 .bf16) :
    vsOf h w00 w10 w01 w11 3 = extractStridedSlice S256x128 ![0, 128] (vT h w10) slices_S256x256_o0_128_S256x128 := rfl
theorem wsOf_3 (w00 w10 w01 w11 : Vec Ideal S256x256 .i8) :
    wsOf (F := Ideal) w00 w10 w01 w11 3 = extractStridedSlice S64x128 ![0, 128] (bT (F := Ideal) w10) slices_S64x256_o0_128_S64x128 := rfl
theorem vsOf_4 (h w00 w10 w01 w11 : Vec Ideal S256x256 .bf16) :
    vsOf h w00 w10 w01 w11 4 = extractStridedSlice S256x128 ![0, 0] (vT h w01) slices_S256x256_o0_0_S256x128 := rfl
theorem wsOf_4 (w00 w10 w01 w11 : Vec Ideal S256x256 .i8) :
    wsOf (F := Ideal) w00 w10 w01 w11 4 = extractStridedSlice S64x128 ![0, 0] (bT (F := Ideal) w01) slices_S64x256_o0_0_S64x128 := rfl
theorem vsOf_5 (h w00 w10 w01 w11 : Vec Ideal S256x256 .bf16) :
    vsOf h w00 w10 w01 w11 5 = extractStridedSlice S256x128 ![0, 128] (vT h w01) slices_S256x256_o0_128_S256x128 := rfl
theorem wsOf_5 (w00 w10 w01 w11 : Vec Ideal S256x256 .i8) :
    wsOf (F := Ideal) w00 w10 w01 w11 5 = extractStridedSlice S64x128 ![0, 128] (bT (F := Ideal) w01) slices_S64x256_o0_128_S64x128 := rfl
theorem vsOf_6 (h w00 w10 w01 w11 : Vec Ideal S256x256 .bf16) :
    vsOf h w00 w10 w01 w11 6 = extractStridedSlice S256x128 ![0, 0] (vT h w11) slices_S256x256_o0_0_S256x128 := rfl
theorem wsOf_6 (w00 w10 w01 w11 : Vec Ideal S256x256 .i8) :
    wsOf (F := Ideal) w00 w10 w01 w11 6 = extractStridedSlice S64x128 ![0, 0] (bT (F := Ideal) w11) slices_S64x256_o0_0_S64x128 := rfl
theorem vsOf_7 (h w00 w10 w01 w11 : Vec Ideal S256x256 .bf16) :
    vsOf h w00 w10 w01 w11 7 = extractStridedSlice S256x128 ![0, 128] (vT h w11) slices_S256x256_o0_128_S256x128 := rfl
theorem wsOf_7 (w00 w10 w01 w11 : Vec Ideal S256x256 .i8) :
    wsOf (F := Ideal) w00 w10 w01 w11 7 = extractStridedSlice S64x128 ![0, 128] (bT (F := Ideal) w11) slices_S64x256_o0_128_S64x128 := rfl

theorem wqL_cover (g14 : View sig .tc .vmem S8x72x128 .f32) (g15 : View sig .tc .vmem S8x24x128 .i32)
    (vs : Fin 8 → FVec Ideal S256x128 .f32) (ws : Fin 8 → IVec S64x128 32) (y : S512x512.Idx) : ∃ pc ∈ wqL g14 g15 vs ws, y ∈ pc.1.set :=
  View.cover_of_tiledL (wqL g14 g15 vs ws) S256x128.size (by sl_kernel_rfl) y

/-- The whole block. -/
theorem wqOf_apply (hH : ∀ i j : Fin 256, x5 (ix2 i j) = ((hr i.val j.val : ℝ) : EReal))
    (hW : ∀ i j : Fin 512, x0 (ix2 i j) = ((wr i.val j.val : ℝ) : EReal))
    (ha : ∀ D R : ℕ, D < 512 → R < 512 → IsMag (grp hr (wr D) R) (am D R) ∧ am D R < 2 ^ 110)
    (g13 : View sig .tc .vmem S512x512 .bf16) (g14 : View sig .tc .vmem S8x72x128 .f32) (g15 : View sig .tc .vmem S8x24x128 .i32) (y : S512x512.Idx) :
    wqOf g13 g14 g15 x0 x1 x5 y = GW x1 hr wr am y := by
  unfold wqOf
  rw [View.readCov_eq_canon']
  show View.canon _ ((Rect.unit (s := S512x512) ![0, 0] S512x512.size inb_S512x512_S512x512_0_0).toLoadRect.idx y) = _
  have hy : (Rect.unit (s := S512x512) ![0, 0] S512x512.size inb_S512x512_S512x512_0_0).toLoadRect.idx y = y := by
    funext a
    apply Fin.ext
    match a with
    | ⟨0, _⟩ => show 0 + 1 * (y 0).val = (y 0).val; omega
    | ⟨1, _⟩ => show 0 + 1 * (y 1).val = (y 1).val; omega
  rw [hy]
  generalize hvs : vsOf x5 _ _ _ _ = vs
  generalize hws : wsOf (F := Ideal) _ _ _ _ = ws
  unfold wqL
  canon_tiles x h using wqL_cover g14 g15 vs ws y
  · exact slot x0 x1 x5 hr wr am hH hW ha g14 g15 vs ws 7 256 256 128 (by decide) (by decide)
      inb_S512x512_S256x256_256_256 slices_S256x256_o0_128_S256x128 slices_S64x256_o0_128_S64x128
      (hvs ▸ vsOf_7 _ _ _ _ _) (hws ▸ wsOf_7 _ _ _ _) x y (by omega) (by omega)
  · exact slot x0 x1 x5 hr wr am hH hW ha g14 g15 vs ws 6 256 256 0 (by decide) (by decide)
      inb_S512x512_S256x256_256_256 slices_S256x256_o0_0_S256x128 slices_S64x256_o0_0_S64x128
      (hvs ▸ vsOf_6 _ _ _ _ _) (hws ▸ wsOf_6 _ _ _ _) x y (by omega) (by omega)
  · exact slot x0 x1 x5 hr wr am hH hW ha g14 g15 vs ws 5 0 256 128 (by decide) (by decide)
      inb_S512x512_S256x256_0_256 slices_S256x256_o0_128_S256x128 slices_S64x256_o0_128_S64x128
      (hvs ▸ vsOf_5 _ _ _ _ _) (hws ▸ wsOf_5 _ _ _ _) x y (by omega) (by omega)
  · exact slot x0 x1 x5 hr wr am hH hW ha g14 g15 vs ws 4 0 256 0 (by decide) (by decide)
      inb_S512x512_S256x256_0_256 slices_S256x256_o0_0_S256x128 slices_S64x256_o0_0_S64x128
      (hvs ▸ vsOf_4 _ _ _ _ _) (hws ▸ wsOf_4 _ _ _ _) x y (by omega) (by omega)
  · exact slot x0 x1 x5 hr wr am hH hW ha g14 g15 vs ws 3 256 0 128 (by decide) (by decide)
      inb_S512x512_S256x256_256_0 slices_S256x256_o0_128_S256x128 slices_S64x256_o0_128_S64x128
      (hvs ▸ vsOf_3 _ _ _ _ _) (hws ▸ wsOf_3 _ _ _ _) x y (by omega) (by omega)
  · exact slot x0 x1 x5 hr wr am hH hW ha g14 g15 vs ws 2 256 0 0 (by decide) (by decide)
      inb_S512x512_S256x256_256_0 slices_S256x256_o0_0_S256x128 slices_S64x256_o0_0_S64x128
      (hvs ▸ vsOf_2 _ _ _ _ _) (hws ▸ wsOf_2 _ _ _ _) x y (by omega) (by omega)
  · exact slot x0 x1 x5 hr wr am hH hW ha g14 g15 vs ws 1 0 0 128 (by decide) (by decide)
      inb_S512x512_S256x256_0_0 slices_S256x256_o0_128_S256x128 slices_S64x256_o0_128_S64x128
      (hvs ▸ vsOf_1 _ _ _ _ _) (hws ▸ wsOf_1 _ _ _ _) x y (by omega) (by omega)
  · exact slot x0 x1 x5 hr wr am hH hW ha g14 g15 vs ws 0 0 0 0 (by decide) (by decide)
      inb_S512x512_S256x256_0_0 slices_S256x256_o0_0_S256x128 slices_S64x256_o0_0_S64x128
      (hvs ▸ vsOf_0 _ _ _ _ _) (hws ▸ wsOf_0 _ _ _ _) x y (by omega) (by omega)

end

end Cert.KernelIdeal.Dw

end
-- ==== Proof.Dx.lean ====
/- `dx`'s array after the whole call, over the extended reals. -/
module

public import proofs.«01_k».proof.Proof.Block
public import proofs.«01_k».proof.Proof.Result

@[expose] public section

-- the long axes of the staged arrays: an index into them is looked through coordinate by coordinate
set_option maxRecDepth 16384

noncomputable section

namespace Cert.KernelIdeal.Dw

open Cert.KernelIdeal.Gen
open Idealize.ShloMosaic Idealize.ShloMosaic.TcCoe Idealize.ShloMosaic.Tactic
open Idealize.ShloMosaic.Pipeline (Dat Cfg Window BodyObligation cellOf)

/-! ## The specification -/

/-- The weights and the rotation as real matrices. -/
def wN (W : Vec Ideal S7168x18944 .bf16) (d f : ℕ) : ℝ :=
  if h : d < 7168 ∧ f < 18944 then EReal.toReal (W (ix2 ⟨d, h.1⟩ ⟨f, h.2⟩)) else 0
def hN (H : Vec Ideal S256x256 .bf16) (i k : ℕ) : ℝ :=
  if h : i < 256 ∧ k < 256 then EReal.toReal (H (ix2 ⟨i, h.1⟩ ⟨k, h.2⟩)) else 0
/-- The largest magnitude of the group of channel `f` of row `d`. -/
def aN (W : Vec Ideal S7168x18944 .bf16) (H : Vec Ideal S256x256 .bf16) (d f : ℕ) : ℝ :=
  Classical.choose (isMag_exists (grp (hN H) (wN W d) f))
theorem aN_spec (W : Vec Ideal S7168x18944 .bf16) (H : Vec Ideal S256x256 .bf16) (d f : ℕ) :
    IsMag (grp (hN H) (wN W d) f) (aN W H d f) := Classical.choose_spec _
/-- The rounded weights. -/
def wqN (W : Vec Ideal S7168x18944 .bf16) (B : Vec Ideal S7168x18944 .i8) (H : Vec Ideal S256x256 .bf16) (d f : ℕ) : EReal :=
  if h : d < 7168 ∧ f < 18944 then ((specC (hN H) (wN W d) (aN W H d f) f (B (ix2 ⟨d, h.1⟩ ⟨f, h.2⟩)).toNat : ℝ) : EReal) else 0
/-- The codes of `dy`. -/
def cN (Q : Vec Ideal S256x18944 .bf16) (i : Fin 256) (f : ℕ) : EReal := if h : f < 18944 then Q (ix2 i ⟨f, h⟩) else 0

/-- `dx`: the codes of `dy` against the rounded weights over the 18944 features, divided by 32. -/
def dxOf (Q : Vec Ideal S256x18944 .bf16) (W : Vec Ideal S7168x18944 .bf16) (B : Vec Ideal S7168x18944 .i8) (H : Vec Ideal S256x256 .bf16) :
    Vec Ideal S256x7168 .bf16 :=
  fun j => (∑ f : Fin 18944, Q (ix2 (j 0) f) * wqN W B H (j 1).val f.val) * inv32

/-- The weights and the rotation are real and bounded. -/
structure Bdd (W : Vec Ideal S7168x18944 .bf16) (H : Vec Ideal S256x256 .bf16) : Prop where
  w : ∀ i j, W (ix2 i j) = ((wN W i.val j.val : ℝ) : EReal)
  h : ∀ i j, H (ix2 i j) = ((hN H i.val j.val : ℝ) : EReal)
  wb : ∀ d f : ℕ, |wN W d f| ≤ 2 ^ 100
  hb : ∀ i k : ℕ, |hN H i k| ≤ 1

theorem vR_bound (hr : ℕ → ℕ → ℝ) (w : ℕ → ℝ) (o r : ℕ) (hh : ∀ i k, |hr i k| ≤ 1) (hw : ∀ f, |w f| ≤ 2 ^ 100) : |vR hr w o r| ≤ 2 ^ 108 := by
  unfold vR
  refine (Finset.abs_sum_le_sum_abs _ _).trans ?_
  refine (Finset.sum_le_sum (g := fun _ => (2 : ℝ) ^ 100) fun k _ => ?_).trans ?_
  · rw [abs_mul]
    calc |hr r k.val| * |w (o + k.val)| ≤ 1 * 2 ^ 100 := mul_le_mul (hh _ _) (hw _) (abs_nonneg _) (by norm_num)
      _ = 2 ^ 100 := one_mul _
  · rw [Finset.sum_const, Finset.card_univ, Fintype.card_fin, nsmul_eq_mul]; norm_num

theorem aN_bound {W : Vec Ideal S7168x18944 .bf16} {H : Vec Ideal S256x256 .bf16} (hB : Bdd W H) (d f : ℕ) : aN W H d f < 2 ^ 110 := by
  obtain ⟨⟨c, hc⟩, _⟩ := aN_spec W H d f
  rw [hc]
  refine (vR_bound _ _ _ _ hB.hb (hB.wb d)).trans_lt (by norm_num)

/-! ## One step -/

theorem grp_shift (hr : ℕ → ℕ → ℝ) (w : ℕ → ℝ) (j R : ℕ) : grp hr (fun n => w (512 * j + n)) R = grp hr w (512 * j + R) := by
  funext r
  unfold grp vR
  have e1 : (512 * j + R) % 256 / 32 = R % 256 / 32 := by omega
  rw [e1]
  refine Finset.sum_congr rfl fun k _ => ?_
  have e2 : 512 * j + (256 * (R / 256) + k.val) = 256 * ((512 * j + R) / 256) + k.val := by omega
  show hr _ _ * w (512 * j + (256 * (R / 256) + k.val)) = _
  rw [e2]

theorem pos_shift (j R : ℕ) : pos R = pos (512 * j + R) := by
  unfold pos; apply Fin.ext; show 8 * (R % 4) + R % 32 / 4 = 8 * ((512 * j + R) % 4) + (512 * j + R) % 32 / 4; omega

theorem accStep_apply (a : Vec Ideal S256x512 .f32) (q : Vec Ideal S256x512 .bf16) (wq : Vec Ideal S512x512 .bf16) (x : S256x512.Idx) :
    accStep a q wq x = a x + ∑ k : Fin 512, q (ix2 (x 0) k) * wq (ix2 k (x 1)) := by
  unfold accStep
  rw [shapeCast_self]
  pointwise []
  done

theorem pay4_apply (x : S256x512.Idx) : (k0_pay4 (F := Ideal)) x = 0 := by
  unfold k0_pay4
  rw [shapeCast_self]
  exact Ideal.ofBits_zero_f32

theorem pay2_apply (a : Vec Ideal S256x512 .f32) (x : S256x512.Idx) : k0_pay2 a x = a x * inv32 := rfl

variable (m : (ℓ : Loc nD τ sig) → Buf (Elt Ideal) ℓ)

theorem coords_dm : ∀ t : Fin cfg0.N, (grid0.coords t 0).val = t.val / 37 ∧ (grid0.coords t 1).val = t.val % 37 ∧ t.val < 518 := by
  decide +kernel
theorem index_0 : ∀ t : Fin cfg0.N, win0_0.index t 0 = (grid0.coords t 0).val ∧ win0_0.index t 1 = (grid0.coords t 1).val := by
  decide +kernel
theorem index_1 : ∀ t : Fin cfg0.N, win0_1.index t 0 = (grid0.coords t 0).val ∧ win0_1.index t 1 = (grid0.coords t 1).val := by
  decide +kernel
theorem index_2 : ∀ t : Fin cfg0.N, win0_2.index t 0 = 0 ∧ win0_2.index t 1 = 0 := by
  decide +kernel
theorem index_5 : ∀ t : Fin cfg0.N, win0_5.index t 0 = 0 ∧ win0_5.index t 1 = 0 := by
  decide +kernel
theorem index_6 : ∀ t : Fin cfg0.N, win0_6.index t 0 = 0 ∧ win0_6.index t 1 = (grid0.coords t 0).val := by
  decide +kernel

theorem blk_0 (c : Dev nD) (t : Fin cfg0.N) (i j : Fin 512) (I : Fin 7168) (J : Fin 18944) (hI : I.val = 512 * (grid0.coords t 0).val + i.val)
    (hJ : J.val = 512 * (grid0.coords t 1).val + j.val) : iblk m c 0 t (ix2 i j) = m ((c : Thread nD τ).loc main_arg0) (ix2 I J) := by
  blk_ext [iblk, V]
  all_goals simp only [index_0 t]
  all_goals omega
theorem blk_1 (c : Dev nD) (t : Fin cfg0.N) (i j : Fin 512) (I : Fin 7168) (J : Fin 18944) (hI : I.val = 512 * (grid0.coords t 0).val + i.val)
    (hJ : J.val = 512 * (grid0.coords t 1).val + j.val) : iblk m c 1 t (ix2 i j) = m ((c : Thread nD τ).loc main_arg1) (ix2 I J) := by
  blk_ext [iblk, V]
  all_goals simp only [index_1 t]
  all_goals omega
theorem blk_2 (c : Dev nD) (t : Fin cfg0.N) (i : Fin 256) (j : Fin 18944) : iblk m c 2 t (ix2 i j) = m ((c : Thread nD τ).loc main_arg2) (ix2 i j) := by
  blk_ext [iblk, V]
  all_goals simp only [index_2 t]
  all_goals omega
theorem blk_5 (c : Dev nD) (t : Fin cfg0.N) (i j : Fin 256) : iblk m c 5 t (ix2 i j) = m ((c : Thread nD τ).loc main_arg5) (ix2 i j) := by
  blk_ext [iblk, V]
  all_goals simp only [index_5 t]
  all_goals omega

/-- The arrays the call is given. -/
abbrev aW (c : Dev nD) : Vec Ideal S7168x18944 .bf16 := m ((c : Thread nD τ).loc main_arg0)
abbrev aB (c : Dev nD) : Vec Ideal S7168x18944 .i8 := m ((c : Thread nD τ).loc main_arg1)
abbrev aQ (c : Dev nD) : Vec Ideal S256x18944 .bf16 := m ((c : Thread nD τ).loc main_arg2)
abbrev aH (c : Dev nD) : Vec Ideal S256x256 .bf16 := m ((c : Thread nD τ).loc main_arg5)

/-- A step's block of rounded weights is a block of them all. -/
theorem wq_step (c : Dev nD) (t : Fin cfg0.N) (hB : Bdd (aW m c) (aH m c)) (y : S512x512.Idx) :
    wqOf scM0_1.view scM0_2.view scM0_3.view (iblk m c 0 t) (iblk m c 1 t) (iblk m c 5 t) y
      = wqN (aW m c) (aB m c) (aH m c) (512 * (grid0.coords t 0).val + (y 1).val) (512 * (grid0.coords t 1).val + (y 0).val) := by
  obtain ⟨c0, c1, ht⟩ := coords_dm t
  have hc0 : (grid0.coords t 0).val < 14 := by omega
  have hc1 : (grid0.coords t 1).val < 37 := by omega
  generalize hi : (grid0.coords t 0).val = i at *
  generalize hj : (grid0.coords t 1).val = j at *
  refine (wqOf_apply (iblk m c 0 t) (iblk m c 1 t) (iblk m c 5 t) (hN (aH m c)) (fun D n => wN (aW m c) (512 * i + D) (512 * j + n))
    (fun D R => aN (aW m c) (aH m c) (512 * i + D) (512 * j + R))
    (fun a b => (blk_5 m c t a b).trans (hB.h a b))
    (fun a b => (blk_0 m c t a b ⟨512 * i + a.val, by omega⟩ ⟨512 * j + b.val, by omega⟩ (by rw [hi]) (by rw [hj])).trans (hB.w _ _))
    (fun D R hD hR => ⟨?_, aN_bound hB _ _⟩) _ _ _ y).trans ?_
  · show IsMag (grp (hN (aH m c)) (fun n => wN (aW m c) (512 * i + D) (512 * j + n)) R) _
    rw [grp_shift (hN (aH m c)) (wN (aW m c) (512 * i + D)) j R]
    exact aN_spec _ _ _ _
  · have hy0 : (y 0).val < 512 := (y 0).isLt
    have hy1 : (y 1).val < 512 := (y 1).isLt
    unfold GW wqN specC
    rw [dif_pos ⟨by omega, by omega⟩]
    show ((specV _ (grp (hN (aH m c)) (fun n => wN (aW m c) (512 * i + (y 1).val) (512 * j + n)) (y 0).val (pos (y 0).val)) _ : ℝ) : EReal) = _
    rw [grp_shift (hN (aH m c)) (wN (aW m c) (512 * i + (y 1).val)) j (y 0).val, pos_shift j (y 0).val]
    exact congrArg (fun b : BitVec 8 => ((specV _ _ b.toNat : ℝ) : EReal))
      (blk_1 m c t ⟨(y 1).val, hy1⟩ ⟨(y 0).val, hy0⟩ ⟨512 * i + (y 1).val, by omega⟩ ⟨512 * j + (y 0).val, by omega⟩ (by rw [hi]) (by rw [hj]))

/-- What a step adds to the accumulator. -/
theorem accAt_apply (c : Dev nD) (t : Fin cfg0.N) (hB : Bdd (aW m c) (aH m c)) (a : Vec Ideal S256x512 .f32) (y : S256x512.Idx) :
    accAt m c t a y = a y + ∑ k ∈ Finset.range 512, cN (aQ m c) (y 0) (512 * (t.val % 37) + k)
      * wqN (aW m c) (aB m c) (aH m c) (512 * (t.val / 37) + (y 1).val) (512 * (t.val % 37) + k) := by
  obtain ⟨c0, c1, ht⟩ := coords_dm t
  have hy0 : (y 0).val < 256 := (y 0).isLt
  unfold accAt accNext
  rw [accStep_apply, ← Fin.sum_univ_eq_sum_range]
  refine congrArg (a y + ·) (Finset.sum_congr rfl fun k _ => ?_)
  have hk := k.isLt
  have e1 : View.ld (iblk m c 2 t) (Rect.unit (s := S256x18944) (k0_off10 (grid0.coords t)) S256x512.size (k0_off10_inb (grid0.coords t))) (ix2 (y 0) k)
      = cN (aQ m c) (y 0) (512 * (t.val % 37) + k.val) := by
    have o0 : k0_off10 (grid0.coords t) 0 = 0 := congrFun (k0_off10_eq _) 0
    have o1 : k0_off10 (grid0.coords t) 1 = 512 * (grid0.coords t 1).val := congrFun (k0_off10_eq _) 1
    unfold cN
    rw [dif_pos (by omega : 512 * (t.val % 37) + k.val < 18944)]
    refine (View.ld_unit_apply_of _ _ _ _ _ (ix2 (y 0) ⟨512 * (t.val % 37) + k.val, by omega⟩) fun a => ?_).trans (blk_2 m c t _ _)
    match a with
    | ⟨0, _⟩ => exact (by omega : (y 0).val = k0_off10 (grid0.coords t) 0 + (y 0).val)
    | ⟨1, _⟩ => exact (by omega : 512 * (t.val % 37) + k.val = k0_off10 (grid0.coords t) 1 + k.val)
  rw [e1, wq_step m c t hB, c0, c1]
  rfl

/-- The accumulator inside a row of blocks: the products over the features so far. -/
theorem accV_sum (c : Dev nD) (hB : Bdd (aW m c) (aH m c)) (y : S256x512.Idx) : ∀ n : ℕ, n < cfg0.N →
    accV m c (n + 1) y = ∑ f ∈ Finset.range (512 * (n % 37) + 512), cN (aQ m c) (y 0) f
      * wqN (aW m c) (aB m c) (aH m c) (512 * (n / 37) + (y 1).val) f := by
  intro n
  induction n with
  | zero =>
    intro h
    rw [accV_first m c ⟨0, h⟩ rfl, accAt_apply m c _ hB, pay4_apply, zero_add]
    simp
  | succ n ih =>
    intro h
    by_cases hm : (n + 1) % 37 = 0
    · rw [accV_first m c ⟨n + 1, h⟩ hm, accAt_apply m c _ hB, pay4_apply, zero_add]
      simp only [hm, Nat.mul_zero, Nat.zero_add]
    · rw [accV_next m c ⟨n + 1, h⟩ hm, accAt_apply m c _ hB]
      show accV m c (n + 1) y + _ = _
      have e1 : (n + 1) % 37 = n % 37 + 1 := by omega
      have e2 : (n + 1) / 37 = n / 37 := by omega
      simp only [e1, e2]
      rw [ih (by omega), Finset.sum_range_add _ (512 * (n % 37 + 1)) 512]
      rfl

/-- `dx`'s block is written back at the last step of its row of blocks. -/
theorem flush_6 : ∀ t : Fin cfg0.N, (cfg0.win 6).flush t = true → t.val % 37 = 36 := by
  decide +kernel

/-- After the call `dx`'s array is the codes of `dy` against the rounded weights: the last step of each row of blocks
    writes the block of the row, and the blocks cover the array. -/
theorem final_dx (c : Dev nD) (hB : Bdd (aW m c) (aH m c)) : (dats m 0 c).arrAt 6 cfg0.N
    = dxOf (m ((c : Thread nD τ).loc main_arg2)) (m ((c : Thread nD τ).loc main_arg0)) (m ((c : Thread nD τ).loc main_arg1)) (m ((c : Thread nD τ).loc main_arg5)) := by
  refine (dats m 0 c).arrAt_eq_of_covers 6 _ (by decide +kernel) fun t hf y => ?_
  blk_simp
  rw [after_6]
  have h0 : (((win0_6.blk t).view.emb y) 0 : ℕ) = (y 0).val := by
    blk_simp
    rw [(index_6 t).1]
    omega
  have h1 : (((win0_6.blk t).view.emb y) 1 : ℕ) = 512 * (grid0.coords t 0).val + (y 1).val := by
    blk_simp
    rw [(index_6 t).2]
    omega
  have h36 : t.val % 37 = 36 := flush_6 t hf
  obtain ⟨c0, c1, ht⟩ := coords_dm t
  have hy0 : (y 0).val < 256 := (y 0).isLt
  have hy1 : (y 1).val < 512 := (y 1).isLt
  rw [pay2_apply, accV_sum m c hB y t.val t.isLt, h36]
  unfold dxOf
  refine congrArg (· * inv32) ?_
  rw [← Fin.sum_univ_eq_sum_range (fun f => cN (aQ m c) (y 0) f * wqN (aW m c) (aB m c) (aH m c) (512 * (t.val / 37) + (y 1).val) f) 18944]
  refine Finset.sum_congr rfl fun f _ => ?_
  rw [h1, c0]
  refine congrArg (· * _) ?_
  unfold cN
  rw [dif_pos f.isLt]
  refine congrArg (aQ m c) ?_
  funext a
  apply Fin.ext
  match a with
  | ⟨0, _⟩ => exact h0.symm
  | ⟨1, _⟩ => rfl

end Cert.KernelIdeal.Dw

end
-- ==== Proof.RefDx.lean ====
/- The reference's rounded weights, entry by entry, over the reals. -/
module

public import proofs.«01_k».proof.Proof.Gen.ReferenceIdeal
public import proofs.«01_k».proof.Proof.Gen.ReferenceIdeal.Run
public import proofs.«01_k».proof.Proof.Dx
public import Idealize.ShloMosaic.Lib.Pointwise

@[expose] public section

-- the long axes of the arrays: an index into them is looked through coordinate by coordinate
set_option maxRecDepth 16384

noncomputable section

namespace Cert.ReferenceIdeal.Dx

open Cert.ReferenceIdeal Cert.ReferenceIdeal.Gen
open Idealize.ShloMosaic Idealize.ShloMosaic.TcCoe Idealize.ShloMosaic.Tactic
open Cert.KernelIdeal.Dw (fv ofBits_fv fv_pow fv_strictMono cc cc_bits pE pE_mem stepOf lowOf qv specV max_neg coe_max' IsMag)

/-! ## One number -/

theorem select_olt (x y : EReal) (a b : EReal) : Scalar.select (Ideal.cmp .olt x y) a b = if x < y then a else b := by
  unfold Ideal.cmp Scalar.select
  by_cases h : x < y <;> simp [h]

/-- The spacing at a magnitude, -/
def sStep (a : EReal) : EReal :=
  Scalar.select (Ideal.cmp .olt a (Ideal.ofBits .f32 0x40000000#32)) (Ideal.ofBits .f32 0x3F000000#32)
    (Scalar.select (Ideal.cmp .olt a (Ideal.ofBits .f32 0x40800000#32)) (Ideal.ofBits .f32 0x3F800000#32) (Ideal.ofBits .f32 0x40000000#32))
/-- the multiple of it at or below the magnitude, -/
def sLow (a : EReal) : EReal := Ideal.liftRound Int.floor (Ideal.div a (sStep a)) * sStep a
/-- the magnitude rounded with the random number `u`, -/
def sMagQ (a u : EReal) : EReal :=
  Scalar.select (Ideal.cmp .olt u (Ideal.div (a - sLow a) (sStep a))) (sLow a + sStep a) (sLow a)
/-- and the sign put back. -/
def sQ (r u : EReal) : EReal :=
  Scalar.select (Ideal.cmp .olt r (Ideal.ofBits .f32 0x00000000#32)) (-(sMagQ (max r (-r)) u)) (sMagQ (max r (-r)) u)

theorem c_half : Ideal.ofBits .f32 0x3F000000#32 = ((1 / 2 : ℝ) : EReal) := by
  have h := fv_pow 126 (by norm_num)
  rw [ofBits_fv 0x3F000000 (by norm_num), show (0x3F000000 : ℕ) = 126 * 2 ^ 23 by norm_num, h]; norm_num
theorem c_one : Ideal.ofBits .f32 0x3F800000#32 = ((1 : ℝ) : EReal) := by
  have h := fv_pow 127 (by norm_num)
  rw [ofBits_fv 0x3F800000 (by norm_num), show (0x3F800000 : ℕ) = 127 * 2 ^ 23 by norm_num, h]; norm_num
theorem c_two : Ideal.ofBits .f32 0x40000000#32 = ((2 : ℝ) : EReal) := by
  have h := fv_pow 128 (by norm_num)
  rw [ofBits_fv 0x40000000 (by norm_num), show (0x40000000 : ℕ) = 128 * 2 ^ 23 by norm_num, h]; norm_num
theorem c_four : Ideal.ofBits .f32 0x40800000#32 = ((4 : ℝ) : EReal) := by
  have h := fv_pow 129 (by norm_num)
  rw [ofBits_fv 0x40800000 (by norm_num), show (0x40800000 : ℕ) = 129 * 2 ^ 23 by norm_num, h]; norm_num
theorem c_256 : Ideal.ofBits .f32 0x3B800000#32 = ((1 / 256 : ℝ) : EReal) := by
  have h := fv_pow 119 (by norm_num)
  rw [ofBits_fv 0x3B800000 (by norm_num), show (0x3B800000 : ℕ) = 119 * 2 ^ 23 by norm_num, h]; norm_num

theorem div_real (x y : ℝ) (h : y ≠ 0) : Ideal.div (x : EReal) (y : EReal) = ((x / y : ℝ) : EReal) := by
  rw [Ideal.div_coe h, ← EReal.coe_mul]; congr 1; ring

theorem sStep_val (a : ℝ) : sStep (a : EReal) = ((stepOf a : ℝ) : EReal) := by
  unfold sStep stepOf
  rw [select_olt, select_olt, c_half, c_one, c_two, c_four]
  simp only [EReal.coe_lt_coe_iff]
  split_ifs <;> rfl

theorem stepOf_pos (a : ℝ) : stepOf a ≠ 0 := by unfold stepOf; split_ifs <;> norm_num

theorem sLow_val (a : ℝ) : sLow (a : EReal) = ((lowOf a : ℝ) : EReal) := by
  unfold sLow lowOf
  rw [sStep_val, div_real _ _ (stepOf_pos a), Ideal.liftRound_coe, ← EReal.coe_mul]

theorem sMagQ_val (a u : ℝ) : sMagQ (a : EReal) (u : EReal) = ((qv a u : ℝ) : EReal) := by
  unfold sMagQ qv
  rw [sStep_val, sLow_val, ← EReal.coe_sub, div_real _ _ (stepOf_pos a), ← EReal.coe_add, select_olt]
  simp only [EReal.coe_lt_coe_iff]
  split_ifs <;> rfl

theorem sQ_val (r u : ℝ) : sQ (r : EReal) (u : EReal) = ((if r < 0 then -qv |r| u else qv |r| u : ℝ) : EReal) := by
  unfold sQ
  rw [max_neg, sMagQ_val, Ideal.ofBits_zero_f32, select_olt, ← EReal.coe_zero, ← EReal.coe_neg]
  simp only [EReal.coe_lt_coe_iff]
  split_ifs <;> rfl

/-! ## The scale -/

theorem lit0_eq : ∀ k : Fin 254, lit0 k = BitVec.ofNat 32 ((k.val + 1) * 2 ^ 23) := by decide +kernel

/-- The least of the powers of two above `t`. -/
def sScale (w : Fin 254 → BitVec 32) (t : EReal) : EReal :=
  (Finset.univ : Finset (Fin 254)).fold min ⊤ fun k =>
    Scalar.select (Ideal.cmp .olt t (Ideal.ofBits .f32 (w k))) (Ideal.ofBits .f32 (w k)) (Ideal.ofBits .f32 0x7F000000#32)

theorem sScale_val (w : Fin 254 → BitVec 32) (hw : ∀ k : Fin 254, w k = BitVec.ofNat 32 ((k.val + 1) * 2 ^ 23)) (a : ℝ) (h0 : 0 ≤ a) (hb : a < 2 ^ 110) : sScale w ((a : EReal) * Ideal.ofBits .f32 0x3E2AAAAB#32) = ((fv (pE a * 2 ^ 23) : ℝ) : EReal) := by
  obtain ⟨p1, p2, p3, p4⟩ := pE_mem a hb h0
  have hl : ∀ k : Fin 254, Ideal.ofBits .f32 (w k) = ((fv ((k.val + 1) * 2 ^ 23) : ℝ) : EReal) := fun k => by
    rw [hw, ofBits_fv _ (by have := k.isLt; omega)]
  have hm : Ideal.ofBits .f32 0x7F000000#32 = ((fv (254 * 2 ^ 23) : ℝ) : EReal) := by
    rw [ofBits_fv 0x7F000000 (by norm_num), show (0x7F000000 : ℕ) = 254 * 2 ^ 23 by norm_num]
  have mono : ∀ p q : ℕ, p ≤ q → fv (p * 2 ^ 23) ≤ fv (q * 2 ^ 23) := fun p q h => fv_strictMono.monotone (Nat.mul_le_mul_right _ h)
  generalize 2 ^ 23 = B at *
  unfold sScale
  rw [cc_bits, ← EReal.coe_mul]
  simp only [hl, hm, select_olt, EReal.coe_lt_coe_iff]
  refine le_antisymm (Finset.fold_min_le _ |>.2 (Or.inr ⟨⟨pE a - 1, by omega⟩, Finset.mem_univ _, ?_⟩)) (Finset.le_fold_min _ |>.2 ⟨le_top, fun k _ => ?_⟩)
  · have e : pE a - 1 + 1 = pE a := by omega
    simp only [e, if_pos p3, le_refl]
  · split_ifs with h
    · exact EReal.coe_le_coe_iff.2 (mono _ _ (p4 _ (by omega) h))
    · exact EReal.coe_le_coe_iff.2 (mono _ _ (by omega))

/-- The largest of 32 magnitudes. -/
theorem fold_max (f : Fin 32 → ℝ) (a : ℝ) (h : IsMag f a) :
    (Finset.univ : Finset (Fin 32)).fold max ⊥ (fun k => max ((f k : ℝ) : EReal) (-((f k : ℝ) : EReal))) = ((a : ℝ) : EReal) := by
  obtain ⟨⟨c, hc⟩, hm⟩ := h
  refine le_antisymm (Finset.fold_max_le _ |>.2 ⟨bot_le, fun k _ => ?_⟩) (Finset.le_fold_max _ |>.2 (Or.inr ⟨c, Finset.mem_univ _, ?_⟩))
  · rw [max_neg]; exact EReal.coe_le_coe_iff.2 (hm k)
  · rw [max_neg, hc]

/-- The number of a random byte, as the reference makes it. -/
def sU (b : BitVec 8) : EReal :=
  ((((b.setWidth 32).toInt : ℝ) : EReal) + Ideal.ofBits .f32 0x3F000000#32) * Ideal.ofBits .f32 0x3B800000#32

theorem sU_val (b : BitVec 8) : sU b = (((b.toNat + 1 / 2) / 256 : ℝ) : EReal) := by
  have h : (b.setWidth 32).toInt = (b.toNat : ℤ) := by
    rw [BitVec.toInt_eq_toNat_cond, BitVec.toNat_setWidth]
    have := b.isLt
    rw [Nat.mod_eq_of_lt (by omega), if_pos (by omega)]
  unfold sU
  rw [h, c_half, c_256, ← EReal.coe_add, ← EReal.coe_mul]
  congr 1
  push_cast
  ring

/-- All together: the value of a channel. -/
theorem sAll (w : Fin 254 → BitVec 32) (hw : ∀ k : Fin 254, w k = BitVec.ofNat 32 ((k.val + 1) * 2 ^ 23)) (v a : ℝ) (b : BitVec 8) (h0 : 0 ≤ a) (hb : a < 2 ^ 110) :
    sQ (Ideal.div (v : EReal) (sScale w ((a : EReal) * Ideal.ofBits .f32 0x3E2AAAAB#32))) (sU b) * sScale w ((a : EReal) * Ideal.ofBits .f32 0x3E2AAAAB#32)
      = ((specV a v b.toNat : ℝ) : EReal) := by
  have hs : 0 < fv (pE a * 2 ^ 23) := by
    rw [fv_pow _ (pE_mem a hb h0).1]; positivity
  rw [sScale_val w hw a h0 hb, sU_val, div_real _ _ hs.ne', sQ_val, ← EReal.coe_mul]
  unfold specV
  have e1 : |v / fv (pE a * 2 ^ 23)| = |v| / fv (pE a * 2 ^ 23) := by rw [abs_div, abs_of_pos hs]
  have e2 : v / fv (pE a * 2 ^ 23) < 0 ↔ v < 0 := by rw [div_lt_iff₀ hs, zero_mul]
  simp only [e1, e2]

/-! ## The arrays -/

/-- The rotated weights, in groups of 32 channels, each group's channels in the order its codes are stored. -/
def rV (W : FVec Ideal S7168x18944 .bf16) (H : FVec Ideal S256x256 .bf16) : FVec Ideal S7168x592x32 .f32 :=
  shapeCast S7168x592x32 (transpose S7168x74x8x8x4 [0, 1, 2, 4, 3] (shapeCast S7168x74x8x4x8 (Host.dotGeneral dot_S7168x74x256_S256x256_S7168x74x256_2_1_01_0_n_n none (shapeCast S7168x74x256 W shapeCasts_S7168x18944_S7168x74x256) H : FVec Ideal S7168x74x256 .f32) shapeCasts_S7168x74x256_S7168x74x8x4x8) transposes_S7168x74x8x4x8_S7168x74x8x8x4_0_1_2_4_3) shapeCasts_S7168x74x8x8x4_S7168x592x32

/-- Each group's largest magnitude. -/
def rA (v : FVec Ideal S7168x592x32 .f32) : FVec Ideal S7168x592 .f32 :=
  Host.reduce FloatOps.maximumf (Host.absf v) (constant S_ .f32 0xFF800000#32) reducesTo_S7168x592x32_S7168x592_d2 h_S_

/-- The powers of two. -/
def rP : FVec Ideal S254 .f32 := fun i => FloatOps.ofBits .f32 (lit0 (S254.rowMajor i))

/-- The powers of two above a sixth of each group's largest magnitude. -/
def rT (P : FVec Ideal S254 .f32) (a : FVec Ideal S7168x592 .f32) : FVec Ideal S7168x592x254 .f32 :=
  select (cmpf .olt (broadcastInDim S7168x592x254 ![0, 1, 2] bcast_S7168x592x1_S7168x592x254_0_1_2 (mulf (broadcastInDim S7168x592x1 ![0, 1] bcast_S7168x592_S7168x592x1_0_1 a) (broadcastInDim S7168x592x1 ![] bcast_S_S7168x592x1 (constant S_ .f32 0x3E2AAAAB#32)))) (broadcastInDim S7168x592x254 ![0, 1, 2] bcast_S1x1x254_S7168x592x254_0_1_2 (broadcastInDim S1x1x254 ![2] bcast_S254_S1x1x254_2 P))) (broadcastInDim S7168x592x254 ![2] bcast_S254_S7168x592x254_2 P) (broadcastInDim S7168x592x254 ![] bcast_S_S7168x592x254 (id (constant S_ .f32 0x7F000000#32)))

/-- Each group's scale. -/
def rS (a : FVec Ideal S7168x592 .f32) : FVec Ideal S7168x592 .f32 :=
  Host.reduce FloatOps.minimumf (rT rP a) (constant S_ .f32 0x7F800000#32) reducesTo_S7168x592x254_S7168x592_d2 h_S_

/-- A group's number for each of its channels. -/
def rB (s : FVec Ideal S7168x592 .f32) : FVec Ideal S7168x592x32 .f32 :=
  broadcastInDim S7168x592x32 ![0, 1, 2] bcast_S7168x592x1_S7168x592x32_0_1_2 (broadcastInDim S7168x592x1 ![0, 1] bcast_S7168x592_S7168x592x1_0_1 s)

/-- A group's number for each of its channels, cast to bf16. -/
def rB16 (s : FVec Ideal S7168x592 .f32) : FVec Ideal S7168x592x32 .bf16 :=
  broadcastInDim S7168x592x32 ![0, 1, 2] bcast_S7168x592x1_S7168x592x32_0_1_2 (truncf .bf16 (broadcastInDim S7168x592x1 ![0, 1] bcast_S7168x592_S7168x592x1_0_1 s) bitsLt_bf16_f32)

/-- One number for every channel. -/
def rC (b : BitVec 32) : FVec Ideal S7168x592x32 .f32 := broadcastInDim S7168x592x32 ![] bcast_S_S7168x592x32 (constant S_ .f32 b)

/-- The random numbers. -/
def rU (B : IVec S7168x18944 8) : FVec Ideal S7168x592x32 .f32 :=
  mulf (addf (sitofp .f32 (extui 32 (shapeCast S7168x592x32 B shapeCasts_S7168x18944_S7168x592x32) natLt_8_32)) (rC 0x3F000000#32)) (rC 0x3B800000#32)

/-- The spacing at each magnitude. -/
def rStep (a : FVec Ideal S7168x592x32 .f32) : FVec Ideal S7168x592x32 .f32 :=
  select (cmpf .olt a (rC 0x40000000#32)) (rC 0x3F000000#32) (select (cmpf .olt a (rC 0x40800000#32)) (rC 0x3F800000#32) (rC 0x40000000#32))

/-- Each magnitude rounded. -/
def rM (a u : FVec Ideal S7168x592x32 .f32) : FVec Ideal S7168x592x32 .f32 :=
  select (cmpf .olt u (Host.divf (subf a (mulf (Host.floor (Host.divf a (id (rStep a)))) (id (rStep a)))) (id (rStep a))))
    (addf (mulf (Host.floor (Host.divf a (id (rStep a)))) (id (rStep a))) (id (rStep a))) (mulf (Host.floor (Host.divf a (id (rStep a)))) (id (rStep a)))

/-- Each quotient rounded. -/
def rQ (r u : FVec Ideal S7168x592x32 .f32) : FVec Ideal S7168x592x32 .f32 :=
  select (cmpf .olt r (rC 0x00000000#32)) (Host.negf (rM (Host.absf r) u)) (rM (Host.absf r) u)

/-- The rounded weights of rotated weights `v` and random numbers `u`. -/
def rW (v u : FVec Ideal S7168x592x32 .f32) : FVec Ideal S7168x592x32 .bf16 :=
  mulf (truncf .bf16 (rQ (Host.divf v (rB (rS (rA v)))) u) bitsLt_bf16_f32) (rB16 (rS (rA v)))

/-- The reference's first result. -/
def refDx (Q : FVec Ideal S256x18944 .bf16) (W : FVec Ideal S7168x18944 .bf16) (B : IVec S7168x18944 8) (H : FVec Ideal S256x256 .bf16) : FVec Ideal S256x7168 .bf16 :=
  truncf .bf16 (mulf (Host.dotGeneral dot_S256x18944_S7168x18944_S256x7168_1_1_0_0_n_n none Q
    (shapeCast S7168x18944 (rW (rV W H) (rU B)) shapeCasts_S7168x592x32_S7168x18944) : FVec Ideal S256x7168 .f32)
    (broadcastInDim S256x7168 ![] bcast_S_S256x7168 (constant S_ .f32 0x3D000000#32))) bitsLt_bf16_f32

theorem res_eq (m : (ℓ : Loc nD τ sig) → Buf (Elt Ideal) ℓ) (c : Dev nD) :
    Value.res_main_v57 m c = refDx (m ((c.tc : Thread nD τ).loc main_arg2)) (m ((c.tc : Thread nD τ).loc main_arg0)) (m ((c.tc : Thread nD τ).loc main_arg1)) (m ((c.tc : Thread nD τ).loc main_arg5)) := by
  unfold Value.res_main_v57 refDx rW rQ rM rStep rU rC rB16 rB rS rT rP rA rV
  rfl

theorem rV_apply (W : FVec Ideal S7168x18944 .bf16) (H : FVec Ideal S256x256 .bf16) (d : Fin 7168) (G : Fin 592) (r : Fin 32) :
    rV W H (ix3 d G r) = ∑ k : Fin 256, W (ix2 d ⟨G.val / 8 * 256 + k.val, by omega⟩)
      * H (ix2 ⟨G.val % 8 * 32 + r.val % 4 * 8 + r.val / 4, by omega⟩ k) := by
  pointwise [rV]
  done

theorem ninf : Ideal.ofBits .f32 0xFF800000#32 = ⊥ := by simp [Ideal.ofBits, Ideal.ieee]
theorem pinf : Ideal.ofBits .f32 0x7F800000#32 = ⊤ := by simp [Ideal.ofBits, Ideal.ieee]

theorem rA_apply (v : FVec Ideal S7168x592x32 .f32) (d : Fin 7168) (G : Fin 592) :
    rA v (ix2 d G) = (Finset.univ : Finset (Fin 32)).fold max ⊥ fun k => max (v (ix3 d G k)) (-(v (ix3 d G k))) := by
  unfold rA
  rw [Host.reduce_eq_fold, Shape.ReducesTo.fold_fiber_r3_a2]
  refine Eq.trans (congrArg (fun b => (Finset.univ : Finset (Fin 32)).fold max b _) ninf) ?_
  rfl

theorem rP_apply (k : Fin 254) : rP (ix1 k) = Ideal.ofBits .f32 (lit0 k) := by
  unfold rP
  refine congrArg (fun n => Ideal.ofBits .f32 (lit0 n)) (Fin.ext ?_)
  rw [Shape.rowMajor_val_one]
  rfl

theorem rT_apply (P : FVec Ideal S254 .f32) (a : FVec Ideal S7168x592 .f32) (d : Fin 7168) (G : Fin 592) (k : Fin 254) :
    rT P a (ix3 d G k) = Scalar.select (Ideal.cmp .olt (a (ix2 d G) * Ideal.ofBits .f32 0x3E2AAAAB#32) (P (ix1 k))) (P (ix1 k)) (Ideal.ofBits .f32 0x7F000000#32) := by
  pointwise [rT]
  rfl

theorem rS_apply (a : FVec Ideal S7168x592 .f32) (d : Fin 7168) (G : Fin 592) :
    rS a (ix2 d G) = sScale lit0 (a (ix2 d G) * Ideal.ofBits .f32 0x3E2AAAAB#32) := by
  unfold rS
  generalize hT : rT rP a = T
  rw [Host.reduce_eq_fold, Shape.ReducesTo.fold_fiber_r3_a2]
  refine Eq.trans (congrArg (fun b => (Finset.univ : Finset (Fin 254)).fold min b _) pinf) ?_
  unfold sScale
  refine congrArg (fun f => (Finset.univ : Finset (Fin 254)).fold min ⊤ f) (funext fun k => ?_)
  show T (ix3 d G k) = _
  rw [← hT, rT_apply, rP_apply]

theorem rB_apply (s : FVec Ideal S7168x592 .f32) (d : Fin 7168) (G : Fin 592) (r : Fin 32) : rB s (ix3 d G r) = s (ix2 d G) := by
  pointwise [rB]
  done

theorem rQ_apply (r u : FVec Ideal S7168x592x32 .f32) (i : S7168x592x32.Idx) : rQ r u i = sQ (r i) (u i) := rfl

theorem mulf_at (x : FVec Ideal S7168x592x32 .f32) (y : FVec Ideal S7168x592x32 .bf16) (i : S7168x592x32.Idx) :
    mulf (truncf .bf16 x bitsLt_bf16_f32) y i = x i * y i := rfl
theorem rB16_apply (s : FVec Ideal S7168x592 .f32) (d : Fin 7168) (G : Fin 592) (r : Fin 32) : rB16 s (ix3 d G r) = s (ix2 d G) := by
  pointwise [rB16]
theorem divf_at (x y : FVec Ideal S7168x592x32 .f32) (i : S7168x592x32.Idx) : Host.divf x y i = Ideal.div (x i) (y i) := rfl

theorem rW_of (v u : FVec Ideal S7168x592x32 .f32) (S : FVec Ideal S7168x592 .f32) (d : Fin 7168) (G : Fin 592) (r : Fin 32) :
    mulf (truncf .bf16 (rQ (Host.divf v (rB S)) u) bitsLt_bf16_f32) (rB16 S) (ix3 d G r) = sQ (Ideal.div (v (ix3 d G r)) (S (ix2 d G))) (u (ix3 d G r)) * S (ix2 d G) := by
  rw [mulf_at, rQ_apply, divf_at, rB_apply, rB16_apply]

theorem rW_apply (v u : FVec Ideal S7168x592x32 .f32) (d : Fin 7168) (G : Fin 592) (r : Fin 32) :
    rW v u (ix3 d G r) = sQ (Ideal.div (v (ix3 d G r)) (rS (rA v) (ix2 d G))) (u (ix3 d G r)) * rS (rA v) (ix2 d G) := by
  unfold rW
  exact rW_of v u (rS (rA v)) d G r

theorem rU_apply (B : IVec S7168x18944 8) (d : Fin 7168) (G : Fin 592) (r : Fin 32) :
    rU B (ix3 d G r) = sU (B (ix2 d ⟨G.val * 32 + r.val, by omega⟩)) := by
  pointwise [rU, rC]
  rfl

end Cert.ReferenceIdeal.Dx

end
-- ==== Proof.RefEq.lean ====
/- The reference's first result is the kernel's specification of `dx`. -/
module

public import proofs.«01_k».proof.Proof.RefDx

@[expose] public section

-- the long axes of the arrays: an index into them is looked through coordinate by coordinate
set_option maxRecDepth 16384

noncomputable section

namespace Cert.ReferenceIdeal.Dx

open Cert.ReferenceIdeal Cert.ReferenceIdeal.Gen
open Idealize.ShloMosaic Idealize.ShloMosaic.TcCoe Idealize.ShloMosaic.Tactic
open Cert.KernelIdeal.Dw (specV IsMag vR grp pos specC wN hN aN aN_spec aN_bound wqN dxOf Bdd coe_sum)

/-- The reference's place `k` of a group, in the order the rotation gives the channels. -/
def perm (k : Fin 32) : Fin 32 := ⟨8 * (k.val % 4) + k.val / 4, by omega⟩

theorem perm_surj (c : Fin 32) : ∃ k, perm k = c :=
  ⟨⟨4 * (c.val % 8) + c.val / 8, by omega⟩, Fin.ext (by show 8 * ((4 * (c.val % 8) + c.val / 8) % 4) + (4 * (c.val % 8) + c.val / 8) / 4 = c.val; omega)⟩

/-- The rotated weights are real. -/
theorem rV_real {W : FVec Ideal S7168x18944 .bf16} {H : FVec Ideal S256x256 .bf16} (hB : Bdd W H) (d : Fin 7168) (G : Fin 592) (k : Fin 32)
    (f : ℕ) (hf : f / 32 = G.val) : rV W H (ix3 d G k) = ((grp (hN H) (wN W d.val) f (perm k) : ℝ) : EReal) := by
  rw [rV_apply]
  unfold grp vR perm
  rw [← coe_sum]
  refine Finset.sum_congr rfl fun n _ => ?_
  rw [hB.w, hB.h, ← EReal.coe_mul, mul_comm]
  refine congrArg Real.toEReal ?_
  have e1 : G.val % 8 * 32 + k.val % 4 * 8 + k.val / 4 = 32 * (f % 256 / 32) + (8 * (k.val % 4) + k.val / 4) := by omega
  have e2 : G.val / 8 * 256 + n.val = 256 * (f / 256) + n.val := by omega
  show hN H (G.val % 8 * 32 + k.val % 4 * 8 + k.val / 4) n.val * wN W d.val (G.val / 8 * 256 + n.val) = _
  rw [e1, e2]

/-- A rounded weight of the reference is the kernel's. -/
theorem rW_real {W : FVec Ideal S7168x18944 .bf16} {H : FVec Ideal S256x256 .bf16} (hB : Bdd W H) (B : IVec S7168x18944 8)
    (d : Fin 7168) (f : Fin 18944) :
    rW (rV W H) (rU B) (ix3 d ⟨f.val / 32, by omega⟩ ⟨f.val % 32, by omega⟩) = wqN W B H d.val f.val := by
  have hm := aN_spec W H d.val f.val
  have hb := aN_bound hB d.val f.val
  have h0 : 0 ≤ aN W H d.val f.val := by obtain ⟨c, hc⟩ := hm.1; rw [hc]; exact abs_nonneg _
  have ha : IsMag (fun k => grp (hN H) (wN W d.val) f.val (perm k)) (aN W H d.val f.val) := by
    obtain ⟨⟨c, hc⟩, h⟩ := hm
    obtain ⟨k, hk⟩ := perm_surj c
    exact ⟨⟨k, by show _ = |grp (hN H) (wN W d.val) f.val (perm k)|; rw [hk]; exact hc⟩, fun k => h _⟩
  have eA : rA (rV W H) (ix2 d ⟨f.val / 32, by omega⟩) = ((aN W H d.val f.val : ℝ) : EReal) := by
    rw [rA_apply, ← fold_max _ _ ha]
    refine congrArg (fun g => (Finset.univ : Finset (Fin 32)).fold max ⊥ g) (funext fun k => ?_)
    rw [rV_real hB d ⟨f.val / 32, by omega⟩ k f.val rfl]
  rw [rW_apply, rS_apply, eA, rU_apply, rV_real hB d ⟨f.val / 32, by omega⟩ ⟨f.val % 32, by omega⟩ f.val rfl, sAll lit0 lit0_eq _ _ _ h0 hb]
  unfold wqN specC
  rw [dif_pos ⟨d.isLt, f.isLt⟩]
  have e1 : perm ⟨f.val % 32, by omega⟩ = pos f.val := Fin.ext (by show 8 * (f.val % 32 % 4) + f.val % 32 / 4 = 8 * (f.val % 4) + f.val % 32 / 4; omega)
  have e2 : (⟨f.val / 32 * 32 + f.val % 32, by omega⟩ : Fin 18944) = f := Fin.ext (by show f.val / 32 * 32 + f.val % 32 = f.val; omega)
  rw [e1]
  exact congrArg (fun b : Fin 18944 => ((specV (aN W H d.val f.val) (grp (hN H) (wN W d.val) f.val (pos f.val)) (B (ix2 d b)).toNat : ℝ) : EReal)) e2

/-- A product with an array of weights, divided by 32. -/
theorem prod_apply (Q : FVec Ideal S256x18944 .bf16) (X : FVec Ideal S7168x592x32 .bf16) (t : Fin 256) (d : Fin 7168) :
    truncf .bf16 (mulf (Host.dotGeneral dot_S256x18944_S7168x18944_S256x7168_1_1_0_0_n_n none Q
      (shapeCast S7168x18944 X shapeCasts_S7168x592x32_S7168x18944) : FVec Ideal S256x7168 .f32)
      (broadcastInDim S256x7168 ![] bcast_S_S256x7168 (constant S_ .f32 0x3D000000#32))) bitsLt_bf16_f32 (ix2 t d)
    = (∑ f : Fin 18944, Q (ix2 t f) * X (ix3 d ⟨f.val / 32, by omega⟩ ⟨f.val % 32, by omega⟩)) * Cert.KernelIdeal.Dw.inv32 := by
  pointwise []
  done

theorem refDx_eq (Q : FVec Ideal S256x18944 .bf16) {W : FVec Ideal S7168x18944 .bf16} {H : FVec Ideal S256x256 .bf16} (hB : Bdd W H) (B : IVec S7168x18944 8) :
    refDx Q W B H = dxOf Q W B H := by
  funext j
  obtain ⟨t, d, rfl⟩ : ∃ (t : Fin 256) (d : Fin 7168), j = ix2 t d := ⟨j 0, j 1, by funext a; match a with | ⟨0, _⟩ => rfl | ⟨1, _⟩ => rfl⟩
  unfold refDx dxOf
  rw [prod_apply]
  refine congrArg (· * Cert.KernelIdeal.Dw.inv32) (Finset.sum_congr rfl fun f _ => ?_)
  rw [rW_real hB]
  rfl

end Cert.ReferenceIdeal.Dx

end
-- ==== Proof.Bounds.lean ====
/- What the precondition says of the weights and of the rotation: they are real and bounded. -/
module

public import proofs.«01_k».proof.Defs
public import proofs.«01_k».proof.Proof.Dx

@[expose] public section

set_option maxRecDepth 16384

noncomputable section

namespace Cert.KernelIdeal.Dw

open Idealize.ShloMosaic Idealize.ShloMosaic.TcCoe

/-- The shape relations of the predicate. -/
theorem pre_facts : Cert.Pre_bounded.Facts where
  bitsLt_bf16_f32 := by decide
  bcast_S_S7168x18944 := by decide
  bcast_S_S256x256 := by decide

theorem two100 : Ideal.ofBits .f32 0x71800000#32 = (((2 : ℝ) ^ 100 : ℝ) : EReal) := by
  have h := fv_pow 227 (by norm_num)
  rw [ofBits_fv 0x71800000 (by norm_num), show (0x71800000 : ℕ) = 227 * 2 ^ 23 by norm_num, h]; norm_num

theorem one' : Ideal.ofBits .f32 0x3F800000#32 = ((1 : ℝ) : EReal) := by
  have h := fv_pow 127 (by norm_num)
  rw [ofBits_fv 0x3F800000 (by norm_num), show (0x3F800000 : ℕ) = 127 * 2 ^ 23 by norm_num, h]; norm_num

/-- A number whose magnitude is at most a real one is real. -/
theorem real_of (x c : EReal) (b : ℝ) (hc : c = (b : EReal)) (h : Ideal.cmp .ole (max x (-x)) c = 1#1) :
    x = ((x.toReal : ℝ) : EReal) ∧ |x.toReal| ≤ b := by
  subst hc
  have h' : max x (-x) ≤ (b : EReal) := by
    by_contra hn
    have : Ideal.cmp .ole (max x (-x)) (b : EReal) = 0#1 := by
      show BitVec.ofBool (decide (max x (-x) ≤ (b : EReal))) = 0#1
      rw [decide_eq_false hn]; rfl
    rw [this] at h
    exact absurd h (by decide)
  obtain ⟨h1, h2⟩ := max_le_iff.mp h'
  induction x with
  | bot => exact absurd (h2 : (⊤ : EReal) ≤ b) (not_le.mpr (EReal.coe_lt_top b))
  | top => exact absurd h1 (not_le.mpr (EReal.coe_lt_top b))
  | coe x =>
    refine ⟨rfl, ?_⟩
    rw [EReal.toReal_coe, abs_le']
    exact ⟨EReal.coe_le_coe_iff.mp h1, EReal.coe_le_coe_iff.mp (by rw [EReal.coe_neg]; exact h2)⟩

theorem bdd_of (W : FVec Ideal S7168x18944 .bf16) (H : FVec Ideal S256x256 .bf16)
    (hw : ∀ i, Ideal.cmp .ole (max (W i) (-(W i))) (Ideal.ofBits .f32 0x71800000#32) = 1#1)
    (hh : ∀ i, Ideal.cmp .ole (max (H i) (-(H i))) (Ideal.ofBits .f32 0x3F800000#32) = 1#1) : Bdd W H where
  w i j := by
    unfold wN; rw [dif_pos ⟨i.isLt, j.isLt⟩]
    exact (real_of _ _ _ two100 (hw (ix2 i j))).1
  h i j := by
    unfold hN; rw [dif_pos ⟨i.isLt, j.isLt⟩]
    exact (real_of _ _ _ one' (hh (ix2 i j))).1
  wb d f := by
    unfold wN
    split
    · exact (real_of _ _ _ two100 (hw _)).2
    · rw [abs_zero]; positivity
  hb i k := by
    unfold hN
    split
    · exact (real_of _ _ _ one' (hh _)).2
    · rw [abs_zero]; exact zero_le_one

/-- The precondition gives the bounds, on every device. -/
theorem bdd_of_pre (m : (ℓ : Loc nD τ sig) → Buf (Elt Ideal) ℓ) (h : Cert.Pre_KernelIdeal_bounded (hPre_bounded := pre_facts) m) (c : Dev nD) :
    Bdd (aW m c) (aH m c) :=
  bdd_of _ _ (fun i => congrFun (h c).1 i) (fun i => congrFun (h c).2 i)

end Cert.KernelIdeal.Dw

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.Same
public import proofs.«01_k».proof.Proof.Reference
public import proofs.«01_k».proof.Proof.RefEq
public import proofs.«01_k».proof.Proof.Bounds
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The kernel at the bit-level floats: it finishes, the arguments unchanged, every semaphore counter at zero. -/
theorem frame_p : Cert.quiescent_Kernel := fun m ρ _ => Cert.Kernel.Same.frame m ρ

/-- The kernel over the extended reals: the same, read off the run that also names `dx` and `dw`. -/
theorem frame_pi : Cert.quiescent_KernelIdeal := fun m ρ _ =>
  (θ_run Cert.KernelIdeal.defs _ _).mono (fun _ h => ⟨fun c => (h.1 c).2.2, h.2⟩) (Cert.KernelIdeal.Dw.run (F := Ideal) m ρ)

/-- The reference over the extended reals: a host program with no semaphore. -/
theorem frame_ri : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The ideal pass rewrote nothing. -/
theorem preserves : Cert.preserves_Kernel_KernelIdeal := trivial

/-- The reference's `dw` is the kernel's: both are the product over the 256 tokens divided by 32. -/
theorem ref_eq (xq : FVec Ideal Cert.ReferenceIdeal.S7168x256 .bf16) (tq : FVec Ideal Cert.ReferenceIdeal.S256x18944 .bf16) :
    Cert.ReferenceIdeal.Dw.refDw xq tq = Cert.KernelIdeal.Dw.dwOf xq tq :=
  funext fun j => Cert.ReferenceIdeal.Dw.refDw_apply xq tq j

/-- `dx` and `dw` of the kernel and of the reference are equal as extended reals, element by element, from memories that
    agree on the arguments and whose weights and rotation are bounded. -/
theorem algebraic : Cert.algebraic_KernelIdeal_ReferenceIdeal_pre_bounded (hPre_bounded := Cert.KernelIdeal.Dw.pre_facts) := by
  intro m ρ m' ρ' hpre hagree
  refine ⟨fun c => Cert.KernelIdeal.Dw.dxOf (m ((c.tc : Thread Cert.KernelIdeal.nD Cert.KernelIdeal.τ).loc Cert.KernelIdeal.main_arg2)) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg5)),
    fun c => Cert.KernelIdeal.Dw.dwOf (m ((c.tc : Thread Cert.KernelIdeal.nD Cert.KernelIdeal.τ).loc Cert.KernelIdeal.main_arg4)) (m ((c.tc : Thread Cert.KernelIdeal.nD Cert.KernelIdeal.τ).loc Cert.KernelIdeal.main_arg3)), ?_, ?_⟩
  · exact (θ_run Cert.KernelIdeal.defs _ _).mono
      (fun _ h c => ⟨(h.1 c).1.trans (Cert.KernelIdeal.Dw.final_dx m c (Cert.KernelIdeal.Dw.bdd_of_pre m hpre c)),
        (h.1 c).2.1.trans (Cert.KernelIdeal.Dw.final_dw m c), (h.1 c).2.2⟩) (Cert.KernelIdeal.Dw.run (F := Ideal) m ρ)
  · refine (θ_run Cert.ReferenceIdeal.defs _ _).mono (fun _ h c => ⟨(h c).1.trans ?_, (h c).2.1.trans ?_, (h c).2.2⟩) (Cert.ReferenceIdeal.Value.run (F := Ideal) m' ρ')
    · obtain ⟨e0, e1, e2, _, _, e5⟩ := hagree c
      rw [Cert.ReferenceIdeal.Dx.res_eq m' c, e0, e1, e2, e5]
      exact Cert.ReferenceIdeal.Dx.refDx_eq _ (Cert.KernelIdeal.Dw.bdd_of_pre m hpre c) _
    · refine (ref_eq (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg3))).trans ?_
      exact congrArg₂ Cert.KernelIdeal.Dw.dwOf (hagree c).2.2.2.2.1 (hagree c).2.2.2.1

/-- The whole certificate. -/
theorem claim : Cert.Claim := ⟨Cert.Kernel.Gen.facts, Cert.KernelIdeal.Gen.facts, Cert.ReferenceIdeal.Gen.facts, Cert.KernelIdeal.Dw.pre_facts,
  frame_p, frame_pi, fun m ρ _ => frame_pi m ρ trivial, frame_ri, fun m ρ _ => frame_ri m ρ trivial, preserves, algebraic⟩

end Cert.Proof

end
